-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 4096, 512]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 4096, 4, 64]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 4096, 4, 64]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 4096, 512]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x4x64 : S_.BroadcastsInDim S2x128x4x64 (![] : Fin 0 → Fin S2x128x4x64.rank)
  reducesTo_S2x128x4x64_S_d0_1_2_3 : S2x128x4x64.ReducesTo [0, 1, 2, 3] S_

variable [Facts]

def fn {F : FTy → Type} [FloatOps F] (main_arg0 : FVec F S2x128x512 .f32) (main_arg1 : FVec F S512x256 .f32) (main_arg2 : FVec F S2x128x4x64 .f32) (main_arg3 : FVec F S2x128x4x64 .f32) (main_arg4 : FVec F S256x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x128x4x64 .f32 := Host.absf main_arg2
  let main_cst_2 : FVec F S_ .f32 := constant S_ .f32 0x7F800000#32
  let main_v10 : FVec F S2x128x4x64 .f32 := broadcastInDim S2x128x4x64 ![] bcast_S_S2x128x4x64 main_cst_2
  let main_v11 : IVec S2x128x4x64 1 := cmpf .olt main_v9 main_v10
  let main_c_3 : IVec S_ 1 := constantI S_ 1 1#1
  let main_v12 : IVec S_ 1 := (fun x v => Host.reduce IntOp.andi x v reducesTo_S2x128x4x64_S_d0_1_2_3 h_S_) main_v11 main_c_3
  let main_v13 : IVec S_ 1 := andi main_v8 main_v12
  main_v13
-- ==== Pre_finite_ReferenceIdeal.lean ====
abbrev S2x4096x512 : Shape := ⟨3, ![2, 4096, 512]⟩
abbrev S512x256 : Shape := ⟨2, ![512, 256]⟩
abbrev S2x4096x4x64 : Shape := ⟨4, ![2, 4096, 4, 64]⟩
abbrev S256x512 : Shape := ⟨2, ![256, 512]⟩
abbrev S_ : Shape := ⟨0, ![]⟩

class Facts : Prop where
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x4096x4x64 : S_.BroadcastsInDim S2x4096x4x64 (![] : Fin 0 → Fin S2x4096x4x64.rank)
  reducesTo_S2x4096x4x64_S_d0_1_2_3 : S2x4096x4x64.ReducesTo [0, 1, 2, 3] S_

variable [Facts]

def fn {F : FTy → Type} [FloatOps F] (main_arg0 : FVec F S2x4096x512 .f32) (main_arg1 : FVec F S512x256 .f32) (main_arg2 : FVec F S2x4096x4x64 .f32) (main_arg3 : FVec F S2x4096x4x64 .f32) (main_arg4 : FVec F S256x512 .f32) : IVec S_ 1 :=
  let main_v0 : FVec F S2x4096x512 .f32 := Host.absf main_arg0
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  let main_c : IVec S_ 1 := constantI S_ 1 1#1
  let main_v3 : IVec S_ 1 := (fun x v => Host.reduce IntOp.andi x v reducesTo_S2x4096x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x4096x4x64 .f32 := Host.absf main_arg2
  let main_cst_2 : FVec F S_ .f32 := constant S_ .f32 0x7F800000#32
  let main_v10 : FVec F S2x4096x4x64 .f32 := broadcastInDim S2x4096x4x64 ![] bcast_S_S2x4096x4x64 main_cst_2
  let main_v11 : IVec S2x4096x4x64 1 := cmpf .olt main_v9 main_v10
  let main_c_3 : IVec S_ 1 := constantI S_ 1 1#1
  let main_v12 : IVec S_ 1 := (fun x v => Host.reduce IntOp.andi x v reducesTo_S2x4096x4x64_S_d0_1_2_3 h_S_) main_v11 main_c_3
  let main_v13 : IVec S_ 1 := andi main_v8 main_v12
  main_v13
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S2x2x4x128x64 : Shape := ⟨5, ![2, 2, 4, 128, 64]⟩
abbrev S2x2x2x4x128x64 : Shape := ⟨6, ![2, 2, 2, 4, 128, 64]⟩
abbrev S2x4x32x64 : Shape := ⟨4, ![2, 4, 32, 64]⟩
abbrev S2x2x4x32x64 : Shape := ⟨5, ![2, 2, 4, 32, 64]⟩
abbrev S2x4x33x64 : Shape := ⟨4, ![2, 4, 33, 64]⟩
abbrev S32x2x4x33x64 : Shape := ⟨5, ![32, 2, 4, 33, 64]⟩
abbrev S2 : Shape := ⟨1, ![2]⟩
abbrev S31 : Shape := ⟨1, ![31]⟩
abbrev S_ : Shape := ⟨0, ![]⟩
abbrev S32 : Shape := ⟨1, ![32]⟩
abbrev S1x32x512 : Shape := ⟨3, ![1, 32, 512]⟩
abbrev S32x512 : Shape := ⟨2, ![32, 512]⟩
abbrev S32x256 : Shape := ⟨2, ![32, 256]⟩
abbrev S32x64 : Shape := ⟨2, ![32, 64]⟩
abbrev S1x32x64 : Shape := ⟨3, ![1, 32, 64]⟩
abbrev S4x32x64 : Shape := ⟨3, ![4, 32, 64]⟩
abbrev S1x4x32x64 : Shape := ⟨4, ![1, 4, 32, 64]⟩
abbrev S1 : Shape := ⟨1, ![1]⟩
abbrev S2x4x128x64 : Shape := ⟨4, ![2, 4, 128, 64]⟩
abbrev S1x2x4x128x64 : Shape := ⟨5, ![1, 2, 4, 128, 64]⟩
abbrev S1x2x4x32x64 : Shape := ⟨5, ![1, 2, 4, 32, 64]⟩
abbrev S1x2x2x4x128x64 : Shape := ⟨6, ![1, 2, 2, 4, 128, 64]⟩
abbrev S1x1x32x64 : Shape := ⟨4, ![1, 1, 32, 64]⟩
abbrev S1x1x1x128x64 : Shape := ⟨5, ![1, 1, 1, 128, 64]⟩
abbrev S128x64 : Shape := ⟨2, ![128, 64]⟩
abbrev S32x128 : Shape := ⟨2, ![32, 128]⟩
abbrev S32x1 : Shape := ⟨2, ![32, 1]⟩
abbrev S64 : Shape := ⟨1, ![64]⟩
abbrev S1x64 : Shape := ⟨2, ![1, 64]⟩
abbrev S33x64 : Shape := ⟨2, ![33, 64]⟩
abbrev S1x1x33x64 : Shape := ⟨4, ![1, 1, 33, 64]⟩
abbrev S1x2x4x33x64 : Shape := ⟨5, ![1, 2, 4, 33, 64]⟩
abbrev S1x128x512 : Shape := ⟨3, ![1, 128, 512]⟩
abbrev S128x512 : Shape := ⟨2, ![128, 512]⟩
abbrev S128x256 : Shape := ⟨2, ![128, 256]⟩
abbrev S128x416 : Shape := ⟨2, ![128, 416]⟩
abbrev S1x1x1x1x128x64 : Shape := ⟨6, ![1, 1, 1, 1, 128, 64]⟩
abbrev S1x1x1x32x64 : Shape := ⟨5, ![1, 1, 1, 32, 64]⟩
abbrev S416x64 : Shape := ⟨2, ![416, 64]⟩
abbrev S128 : Shape := ⟨1, ![128]⟩
abbrev S128x1 : Shape := ⟨2, ![128, 1]⟩
abbrev S32x1x1x32x64 : Shape := ⟨5, ![32, 1, 1, 32, 64]⟩
abbrev S32x32x64 : Shape := ⟨3, ![32, 32, 64]⟩
abbrev S32x1x1x1x64 : Shape := ⟨5, ![32, 1, 1, 1, 64]⟩
abbrev S32x32 : Shape := ⟨2, ![32, 32]⟩
abbrev S1x32 : Shape := ⟨2, ![1, 32]⟩
abbrev S32x32x1 : Shape := ⟨3, ![32, 32, 1]⟩

abbrev nBuf : Space → Nat
  | .hbm => 6
  | .vmem => 12
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x4x64, .f32⟩
  | .hbm, ⟨3, _⟩ => ⟨S2x128x4x64, .f32⟩
  | .hbm, ⟨4, _⟩ => ⟨S256x512, .f32⟩
  | .hbm, ⟨5, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S2x128x4x64, .f32⟩
  | .local _ .vmem, ⟨3, _⟩ => ⟨S2x128x4x64, .f32⟩
  | .local _ .vmem, ⟨4, _⟩ => ⟨S256x512, .f32⟩
  | .local _ .vmem, ⟨5, _⟩ => ⟨S2x128x512, .f32⟩
  | .local _ .vmem, ⟨6, _⟩ => ⟨S2x2x4x128x64, .f32⟩
  | .local _ .vmem, ⟨7, _⟩ => ⟨S2x2x2x4x128x64, .f32⟩
  | .local _ .vmem, ⟨8, _⟩ => ⟨S2x4x32x64, .f32⟩
  | .local _ .vmem, ⟨9, _⟩ => ⟨S2x2x4x32x64, .f32⟩
  | .local _ .vmem, ⟨10, _⟩ => ⟨S2x4x33x64, .f32⟩
  | .local _ .vmem, ⟨11, _⟩ => ⟨S32x2x4x33x64, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 107 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | _ => false

abbrev sig : RefSig :=
  (ofTc nBuf bufTy 1 107 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_19 : BitVec 32 := 0#32
  let v30 : BitVec 1 := Scalar.cmpi .ne v2 c0_i32_19
  let v31 : BitVec 32 := Scalar.extui v30
  let c0_i32_20 : BitVec 32 := 0#32
  let v32 : BitVec 1 := Scalar.cmpi .ne v31 c0_i32_20
  v32

def k0_dev3 : Nat :=
  let c0_i32_707 : BitVec 32 := 0#32
  let c0_i32_705 : BitVec 32 := 0#32
  let c1_i32_706 : BitVec 32 := 1#32
  let v609 : BitVec 32 := Scalar.muli c0_i32_705 c1_i32_706
  let v610 : BitVec 32 := Scalar.addi c0_i32_707 v609
  v610.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_23 : BitVec 32 := 0#32
  let v36 : BitVec 1 := Scalar.cmpi .eq v2 c0_i32_23
  let v37 : BitVec 32 := Scalar.extui v36
  let c0_i32_24 : BitVec 32 := 0#32
  let v38 : BitVec 1 := Scalar.cmpi .ne v37 c0_i32_24
  v38

def k0_dev4 : Nat :=
  let c0_i32_727 : BitVec 32 := 0#32
  let c1_i32_725 : BitVec 32 := 1#32
  let c1_i32_726 : BitVec 32 := 1#32
  let v643 : BitVec 32 := Scalar.muli c1_i32_725 c1_i32_726
  let v644 : BitVec 32 := Scalar.addi c0_i32_727 v643
  v644.toNat
def k0_dev5 : Nat :=
  let c0_i32_731 : BitVec 32 := 0#32
  let c2_i32_729 : BitVec 32 := 2#32
  let c1_i32_730 : BitVec 32 := 1#32
  let v647 : BitVec 32 := Scalar.muli c2_i32_729 c1_i32_730
  let v648 : BitVec 32 := Scalar.addi c0_i32_731 v647
  v648.toNat
def k0_dev6 : Nat :=
  let c0_i32_734 : BitVec 32 := 0#32
  let c3_i32 : BitVec 32 := 3#32
  let c1_i32_733 : BitVec 32 := 1#32
  let v651 : BitVec 32 := Scalar.muli c3_i32 c1_i32_733
  let v652 : BitVec 32 := Scalar.addi c0_i32_734 v651
  v652.toNat
def k0_dev7 : Nat :=
  let c0_i32_737 : BitVec 32 := 0#32
  let c4_i32 : BitVec 32 := 4#32
  let c1_i32_736 : BitVec 32 := 1#32
  let v655 : BitVec 32 := Scalar.muli c4_i32 c1_i32_736
  let v656 : BitVec 32 := Scalar.addi c0_i32_737 v655
  v656.toNat
def k0_dev8 : Nat :=
  let c0_i32_740 : BitVec 32 := 0#32
  let c5_i32 : BitVec 32 := 5#32
  let c1_i32_739 : BitVec 32 := 1#32
  let v659 : BitVec 32 := Scalar.muli c5_i32 c1_i32_739
  let v660 : BitVec 32 := Scalar.addi c0_i32_740 v659
  v660.toNat
def k0_dev9 : Nat :=
  let c0_i32_743 : BitVec 32 := 0#32
  let c6_i32 : BitVec 32 := 6#32
  let c1_i32_742 : BitVec 32 := 1#32
  let v663 : BitVec 32 := Scalar.muli c6_i32 c1_i32_742
  let v664 : BitVec 32 := Scalar.addi c0_i32_743 v663
  v664.toNat
def k0_dev10 : Nat :=
  let c0_i32_746 : BitVec 32 := 0#32
  let c7_i32 : BitVec 32 := 7#32
  let c1_i32_745 : BitVec 32 := 1#32
  let v667 : BitVec 32 := Scalar.muli c7_i32 c1_i32_745
  let v668 : BitVec 32 := Scalar.addi c0_i32_746 v667
  v668.toNat
def k0_dev11 : Nat :=
  let c0_i32_749 : BitVec 32 := 0#32
  let c8_i32 : BitVec 32 := 8#32
  let c1_i32_748 : BitVec 32 := 1#32
  let v671 : BitVec 32 := Scalar.muli c8_i32 c1_i32_748
  let v672 : BitVec 32 := Scalar.addi c0_i32_749 v671
  v672.toNat
def k0_dev12 : Nat :=
  let c0_i32_752 : BitVec 32 := 0#32
  let c9_i32 : BitVec 32 := 9#32
  let c1_i32_751 : BitVec 32 := 1#32
  let v675 : BitVec 32 := Scalar.muli c9_i32 c1_i32_751
  let v676 : BitVec 32 := Scalar.addi c0_i32_752 v675
  v676.toNat
def k0_dev13 : Nat :=
  let c0_i32_755 : BitVec 32 := 0#32
  let c10_i32 : BitVec 32 := 10#32
  let c1_i32_754 : BitVec 32 := 1#32
  let v679 : BitVec 32 := Scalar.muli c10_i32 c1_i32_754
  let v680 : BitVec 32 := Scalar.addi c0_i32_755 v679
  v680.toNat
def k0_dev14 : Nat :=
  let c0_i32_758 : BitVec 32 := 0#32
  let c11_i32 : BitVec 32 := 11#32
  let c1_i32_757 : BitVec 32 := 1#32
  let v683 : BitVec 32 := Scalar.muli c11_i32 c1_i32_757
  let v684 : BitVec 32 := Scalar.addi c0_i32_758 v683
  v684.toNat
def k0_dev15 : Nat :=
  let c0_i32_761 : BitVec 32 := 0#32
  let c12_i32 : BitVec 32 := 12#32
  let c1_i32_760 : BitVec 32 := 1#32
  let v687 : BitVec 32 := Scalar.muli c12_i32 c1_i32_760
  let v688 : BitVec 32 := Scalar.addi c0_i32_761 v687
  v688.toNat
def k0_dev16 : Nat :=
  let c0_i32_764 : BitVec 32 := 0#32
  let c13_i32 : BitVec 32 := 13#32
  let c1_i32_763 : BitVec 32 := 1#32
  let v691 : BitVec 32 := Scalar.muli c13_i32 c1_i32_763
  let v692 : BitVec 32 := Scalar.addi c0_i32_764 v691
  v692.toNat
def k0_dev17 : Nat :=
  let c0_i32_767 : BitVec 32 := 0#32
  let c14_i32 : BitVec 32 := 14#32
  let c1_i32_766 : BitVec 32 := 1#32
  let v695 : BitVec 32 := Scalar.muli c14_i32 c1_i32_766
  let v696 : BitVec 32 := Scalar.addi c0_i32_767 v695
  v696.toNat
def k0_dev18 : Nat :=
  let c0_i32_770 : BitVec 32 := 0#32
  let c15_i32 : BitVec 32 := 15#32
  let c1_i32_769 : BitVec 32 := 1#32
  let v699 : BitVec 32 := Scalar.muli c15_i32 c1_i32_769
  let v700 : BitVec 32 := Scalar.addi c0_i32_770 v699
  v700.toNat
def k0_dev19 : Nat :=
  let c0_i32_773 : BitVec 32 := 0#32
  let c16_i32 : BitVec 32 := 16#32
  let c1_i32_772 : BitVec 32 := 1#32
  let v703 : BitVec 32 := Scalar.muli c16_i32 c1_i32_772
  let v704 : BitVec 32 := Scalar.addi c0_i32_773 v703
  v704.toNat
def k0_dev20 : Nat :=
  let c0_i32_776 : BitVec 32 := 0#32
  let c17_i32 : BitVec 32 := 17#32
  let c1_i32_775 : BitVec 32 := 1#32
  let v707 : BitVec 32 := Scalar.muli c17_i32 c1_i32_775
  let v708 : BitVec 32 := Scalar.addi c0_i32_776 v707
  v708.toNat
def k0_dev21 : Nat :=
  let c0_i32_779 : BitVec 32 := 0#32
  let c18_i32 : BitVec 32 := 18#32
  let c1_i32_778 : BitVec 32 := 1#32
  let v711 : BitVec 32 := Scalar.muli c18_i32 c1_i32_778
  let v712 : BitVec 32 := Scalar.addi c0_i32_779 v711
  v712.toNat
def k0_dev22 : Nat :=
  let c0_i32_782 : BitVec 32 := 0#32
  let c19_i32 : BitVec 32 := 19#32
  let c1_i32_781 : BitVec 32 := 1#32
  let v715 : BitVec 32 := Scalar.muli c19_i32 c1_i32_781
  let v716 : BitVec 32 := Scalar.addi c0_i32_782 v715
  v716.toNat
def k0_dev23 : Nat :=
  let c0_i32_785 : BitVec 32 := 0#32
  let c20_i32 : BitVec 32 := 20#32
  let c1_i32_784 : BitVec 32 := 1#32
  let v719 : BitVec 32 := Scalar.muli c20_i32 c1_i32_784
  let v720 : BitVec 32 := Scalar.addi c0_i32_785 v719
  v720.toNat
def k0_dev24 : Nat :=
  let c0_i32_788 : BitVec 32 := 0#32
  let c21_i32 : BitVec 32 := 21#32
  let c1_i32_787 : BitVec 32 := 1#32
  let v723 : BitVec 32 := Scalar.muli c21_i32 c1_i32_787
  let v724 : BitVec 32 := Scalar.addi c0_i32_788 v723
  v724.toNat
def k0_dev25 : Nat :=
  let c0_i32_791 : BitVec 32 := 0#32
  let c22_i32 : BitVec 32 := 22#32
  let c1_i32_790 : BitVec 32 := 1#32
  let v727 : BitVec 32 := Scalar.muli c22_i32 c1_i32_790
  let v728 : BitVec 32 := Scalar.addi c0_i32_791 v727
  v728.toNat
def k0_dev26 : Nat :=
  let c0_i32_794 : BitVec 32 := 0#32
  let c23_i32 : BitVec 32 := 23#32
  let c1_i32_793 : BitVec 32 := 1#32
  let v731 : BitVec 32 := Scalar.muli c23_i32 c1_i32_793
  let v732 : BitVec 32 := Scalar.addi c0_i32_794 v731
  v732.toNat
def k0_dev27 : Nat :=
  let c0_i32_797 : BitVec 32 := 0#32
  let c24_i32 : BitVec 32 := 24#32
  let c1_i32_796 : BitVec 32 := 1#32
  let v735 : BitVec 32 := Scalar.muli c24_i32 c1_i32_796
  let v736 : BitVec 32 := Scalar.addi c0_i32_797 v735
  v736.toNat
def k0_dev28 : Nat :=
  let c0_i32_800 : BitVec 32 := 0#32
  let c25_i32 : BitVec 32 := 25#32
  let c1_i32_799 : BitVec 32 := 1#32
  let v739 : BitVec 32 := Scalar.muli c25_i32 c1_i32_799
  let v740 : BitVec 32 := Scalar.addi c0_i32_800 v739
  v740.toNat
def k0_dev29 : Nat :=
  let c0_i32_803 : BitVec 32 := 0#32
  let c26_i32 : BitVec 32 := 26#32
  let c1_i32_802 : BitVec 32 := 1#32
  let v743 : BitVec 32 := Scalar.muli c26_i32 c1_i32_802
  let v744 : BitVec 32 := Scalar.addi c0_i32_803 v743
  v744.toNat
def k0_dev30 : Nat :=
  let c0_i32_806 : BitVec 32 := 0#32
  let c27_i32 : BitVec 32 := 27#32
  let c1_i32_805 : BitVec 32 := 1#32
  let v747 : BitVec 32 := Scalar.muli c27_i32 c1_i32_805
  let v748 : BitVec 32 := Scalar.addi c0_i32_806 v747
  v748.toNat
def k0_dev31 : Nat :=
  let c0_i32_809 : BitVec 32 := 0#32
  let c28_i32 : BitVec 32 := 28#32
  let c1_i32_808 : BitVec 32 := 1#32
  let v751 : BitVec 32 := Scalar.muli c28_i32 c1_i32_808
  let v752 : BitVec 32 := Scalar.addi c0_i32_809 v751
  v752.toNat
def k0_dev32 : Nat :=
  let c0_i32_812 : BitVec 32 := 0#32
  let c29_i32 : BitVec 32 := 29#32
  let c1_i32_811 : BitVec 32 := 1#32
  let v755 : BitVec 32 := Scalar.muli c29_i32 c1_i32_811
  let v756 : BitVec 32 := Scalar.addi c0_i32_812 v755
  v756.toNat
def k0_dev33 : Nat :=
  let c0_i32_815 : BitVec 32 := 0#32
  let c30_i32 : BitVec 32 := 30#32
  let c1_i32_814 : BitVec 32 := 1#32
  let v759 : BitVec 32 := Scalar.muli c30_i32 c1_i32_814
  let v760 : BitVec 32 := Scalar.addi c0_i32_815 v759
  v760.toNat
def k0_dev34 : Nat :=
  let c0_i32_819 : BitVec 32 := 0#32
  let c31_i32_817 : BitVec 32 := 31#32
  let c1_i32_818 : BitVec 32 := 1#32
  let v763 : BitVec 32 := Scalar.muli c31_i32_817 c1_i32_818
  let v764 : BitVec 32 := Scalar.addi c0_i32_819 v763
  v764.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_41 : BitVec 32 := 0#32
  let v51 : BitVec 1 := Scalar.cmpi .eq v2 c0_i32_41
  let v52 : BitVec 32 := Scalar.extui v51
  let c0_i32_42 : BitVec 32 := 0#32
  let v53 : BitVec 1 := Scalar.cmpi .ne v52 c0_i32_42
  v53

def k0_dev35 : Nat :=
  let c0_i32_727 : BitVec 32 := 0#32
  let c1_i32_725 : BitVec 32 := 1#32
  let c1_i32_726 : BitVec 32 := 1#32
  let v619 : BitVec 32 := Scalar.muli c1_i32_725 c1_i32_726
  let v620 : BitVec 32 := Scalar.addi c0_i32_727 v619
  v620.toNat
def k0_dev36 : Nat :=
  let c0_i32_731 : BitVec 32 := 0#32
  let c2_i32_729 : BitVec 32 := 2#32
  let c1_i32_730 : BitVec 32 := 1#32
  let v623 : BitVec 32 := Scalar.muli c2_i32_729 c1_i32_730
  let v624 : BitVec 32 := Scalar.addi c0_i32_731 v623
  v624.toNat
def k0_dev37 : Nat :=
  let c0_i32_734 : BitVec 32 := 0#32
  let c3_i32 : BitVec 32 := 3#32
  let c1_i32_733 : BitVec 32 := 1#32
  let v627 : BitVec 32 := Scalar.muli c3_i32 c1_i32_733
  let v628 : BitVec 32 := Scalar.addi c0_i32_734 v627
  v628.toNat
def k0_dev38 : Nat :=
  let c0_i32_737 : BitVec 32 := 0#32
  let c4_i32 : BitVec 32 := 4#32
  let c1_i32_736 : BitVec 32 := 1#32
  let v631 : BitVec 32 := Scalar.muli c4_i32 c1_i32_736
  let v632 : BitVec 32 := Scalar.addi c0_i32_737 v631
  v632.toNat
def k0_dev39 : Nat :=
  let c0_i32_740 : BitVec 32 := 0#32
  let c5_i32 : BitVec 32 := 5#32
  let c1_i32_739 : BitVec 32 := 1#32
  let v635 : BitVec 32 := Scalar.muli c5_i32 c1_i32_739
  let v636 : BitVec 32 := Scalar.addi c0_i32_740 v635
  v636.toNat
def k0_dev40 : Nat :=
  let c0_i32_743 : BitVec 32 := 0#32
  let c6_i32 : BitVec 32 := 6#32
  let c1_i32_742 : BitVec 32 := 1#32
  let v639 : BitVec 32 := Scalar.muli c6_i32 c1_i32_742
  let v640 : BitVec 32 := Scalar.addi c0_i32_743 v639
  v640.toNat
def k0_dev41 : Nat :=
  let c0_i32_746 : BitVec 32 := 0#32
  let c7_i32 : BitVec 32 := 7#32
  let c1_i32_745 : BitVec 32 := 1#32
  let v643 : BitVec 32 := Scalar.muli c7_i32 c1_i32_745
  let v644 : BitVec 32 := Scalar.addi c0_i32_746 v643
  v644.toNat
def k0_dev42 : Nat :=
  let c0_i32_749 : BitVec 32 := 0#32
  let c8_i32 : BitVec 32 := 8#32
  let c1_i32_748 : BitVec 32 := 1#32
  let v647 : BitVec 32 := Scalar.muli c8_i32 c1_i32_748
  let v648 : BitVec 32 := Scalar.addi c0_i32_749 v647
  v648.toNat
def k0_dev43 : Nat :=
  let c0_i32_752 : BitVec 32 := 0#32
  let c9_i32 : BitVec 32 := 9#32
  let c1_i32_751 : BitVec 32 := 1#32
  let v651 : BitVec 32 := Scalar.muli c9_i32 c1_i32_751
  let v652 : BitVec 32 := Scalar.addi c0_i32_752 v651
  v652.toNat
def k0_dev44 : Nat :=
  let c0_i32_755 : BitVec 32 := 0#32
  let c10_i32 : BitVec 32 := 10#32
  let c1_i32_754 : BitVec 32 := 1#32
  let v655 : BitVec 32 := Scalar.muli c10_i32 c1_i32_754
  let v656 : BitVec 32 := Scalar.addi c0_i32_755 v655
  v656.toNat
def k0_dev45 : Nat :=
  let c0_i32_758 : BitVec 32 := 0#32
  let c11_i32 : BitVec 32 := 11#32
  let c1_i32_757 : BitVec 32 := 1#32
  let v659 : BitVec 32 := Scalar.muli c11_i32 c1_i32_757
  let v660 : BitVec 32 := Scalar.addi c0_i32_758 v659
  v660.toNat
def k0_dev46 : Nat :=
  let c0_i32_761 : BitVec 32 := 0#32
  let c12_i32 : BitVec 32 := 12#32
  let c1_i32_760 : BitVec 32 := 1#32
  let v663 : BitVec 32 := Scalar.muli c12_i32 c1_i32_760
  let v664 : BitVec 32 := Scalar.addi c0_i32_761 v663
  v664.toNat
def k0_dev47 : Nat :=
  let c0_i32_764 : BitVec 32 := 0#32
  let c13_i32 : BitVec 32 := 13#32
  let c1_i32_763 : BitVec 32 := 1#32
  let v667 : BitVec 32 := Scalar.muli c13_i32 c1_i32_763
  let v668 : BitVec 32 := Scalar.addi c0_i32_764 v667
  v668.toNat
def k0_dev48 : Nat :=
  let c0_i32_767 : BitVec 32 := 0#32
  let c14_i32 : BitVec 32 := 14#32
  let c1_i32_766 : BitVec 32 := 1#32
  let v671 : BitVec 32 := Scalar.muli c14_i32 c1_i32_766
  let v672 : BitVec 32 := Scalar.addi c0_i32_767 v671
  v672.toNat
def k0_dev49 : Nat :=
  let c0_i32_770 : BitVec 32 := 0#32
  let c15_i32 : BitVec 32 := 15#32
  let c1_i32_769 : BitVec 32 := 1#32
  let v675 : BitVec 32 := Scalar.muli c15_i32 c1_i32_769
  let v676 : BitVec 32 := Scalar.addi c0_i32_770 v675
  v676.toNat
def k0_dev50 : Nat :=
  let c0_i32_773 : BitVec 32 := 0#32
  let c16_i32 : BitVec 32 := 16#32
  let c1_i32_772 : BitVec 32 := 1#32
  let v679 : BitVec 32 := Scalar.muli c16_i32 c1_i32_772
  let v680 : BitVec 32 := Scalar.addi c0_i32_773 v679
  v680.toNat
def k0_dev51 : Nat :=
  let c0_i32_776 : BitVec 32 := 0#32
  let c17_i32 : BitVec 32 := 17#32
  let c1_i32_775 : BitVec 32 := 1#32
  let v683 : BitVec 32 := Scalar.muli c17_i32 c1_i32_775
  let v684 : BitVec 32 := Scalar.addi c0_i32_776 v683
  v684.toNat
def k0_dev52 : Nat :=
  let c0_i32_779 : BitVec 32 := 0#32
  let c18_i32 : BitVec 32 := 18#32
  let c1_i32_778 : BitVec 32 := 1#32
  let v687 : BitVec 32 := Scalar.muli c18_i32 c1_i32_778
  let v688 : BitVec 32 := Scalar.addi c0_i32_779 v687
  v688.toNat
def k0_dev53 : Nat :=
  let c0_i32_782 : BitVec 32 := 0#32
  let c19_i32 : BitVec 32 := 19#32
  let c1_i32_781 : BitVec 32 := 1#32
  let v691 : BitVec 32 := Scalar.muli c19_i32 c1_i32_781
  let v692 : BitVec 32 := Scalar.addi c0_i32_782 v691
  v692.toNat
def k0_dev54 : Nat :=
  let c0_i32_785 : BitVec 32 := 0#32
  let c20_i32 : BitVec 32 := 20#32
  let c1_i32_784 : BitVec 32 := 1#32
  let v695 : BitVec 32 := Scalar.muli c20_i32 c1_i32_784
  let v696 : BitVec 32 := Scalar.addi c0_i32_785 v695
  v696.toNat
def k0_dev55 : Nat :=
  let c0_i32_788 : BitVec 32 := 0#32
  let c21_i32 : BitVec 32 := 21#32
  let c1_i32_787 : BitVec 32 := 1#32
  let v699 : BitVec 32 := Scalar.muli c21_i32 c1_i32_787
  let v700 : BitVec 32 := Scalar.addi c0_i32_788 v699
  v700.toNat
def k0_dev56 : Nat :=
  let c0_i32_791 : BitVec 32 := 0#32
  let c22_i32 : BitVec 32 := 22#32
  let c1_i32_790 : BitVec 32 := 1#32
  let v703 : BitVec 32 := Scalar.muli c22_i32 c1_i32_790
  let v704 : BitVec 32 := Scalar.addi c0_i32_791 v703
  v704.toNat
def k0_dev57 : Nat :=
  let c0_i32_794 : BitVec 32 := 0#32
  let c23_i32 : BitVec 32 := 23#32
  let c1_i32_793 : BitVec 32 := 1#32
  let v707 : BitVec 32 := Scalar.muli c23_i32 c1_i32_793
  let v708 : BitVec 32 := Scalar.addi c0_i32_794 v707
  v708.toNat
def k0_dev58 : Nat :=
  let c0_i32_797 : BitVec 32 := 0#32
  let c24_i32 : BitVec 32 := 24#32
  let c1_i32_796 : BitVec 32 := 1#32
  let v711 : BitVec 32 := Scalar.muli c24_i32 c1_i32_796
  let v712 : BitVec 32 := Scalar.addi c0_i32_797 v711
  v712.toNat
def k0_dev59 : Nat :=
  let c0_i32_800 : BitVec 32 := 0#32
  let c25_i32 : BitVec 32 := 25#32
  let c1_i32_799 : BitVec 32 := 1#32
  let v715 : BitVec 32 := Scalar.muli c25_i32 c1_i32_799
  let v716 : BitVec 32 := Scalar.addi c0_i32_800 v715
  v716.toNat
def k0_dev60 : Nat :=
  let c0_i32_803 : BitVec 32 := 0#32
  let c26_i32 : BitVec 32 := 26#32
  let c1_i32_802 : BitVec 32 := 1#32
  let v719 : BitVec 32 := Scalar.muli c26_i32 c1_i32_802
  let v720 : BitVec 32 := Scalar.addi c0_i32_803 v719
  v720.toNat
def k0_dev61 : Nat :=
  let c0_i32_806 : BitVec 32 := 0#32
  let c27_i32 : BitVec 32 := 27#32
  let c1_i32_805 : BitVec 32 := 1#32
  let v723 : BitVec 32 := Scalar.muli c27_i32 c1_i32_805
  let v724 : BitVec 32 := Scalar.addi c0_i32_806 v723
  v724.toNat
def k0_dev62 : Nat :=
  let c0_i32_809 : BitVec 32 := 0#32
  let c28_i32 : BitVec 32 := 28#32
  let c1_i32_808 : BitVec 32 := 1#32
  let v727 : BitVec 32 := Scalar.muli c28_i32 c1_i32_808
  let v728 : BitVec 32 := Scalar.addi c0_i32_809 v727
  v728.toNat
def k0_dev63 : Nat :=
  let c0_i32_812 : BitVec 32 := 0#32
  let c29_i32 : BitVec 32 := 29#32
  let c1_i32_811 : BitVec 32 := 1#32
  let v731 : BitVec 32 := Scalar.muli c29_i32 c1_i32_811
  let v732 : BitVec 32 := Scalar.addi c0_i32_812 v731
  v732.toNat
def k0_dev64 : Nat :=
  let c0_i32_815 : BitVec 32 := 0#32
  let c30_i32 : BitVec 32 := 30#32
  let c1_i32_814 : BitVec 32 := 1#32
  let v735 : BitVec 32 := Scalar.muli c30_i32 c1_i32_814
  let v736 : BitVec 32 := Scalar.addi c0_i32_815 v735
  v736.toNat
def k0_dev65 : Nat :=
  let c0_i32_819 : BitVec 32 := 0#32
  let c31_i32_817 : BitVec 32 := 31#32
  let c1_i32_818 : BitVec 32 := 1#32
  let v739 : BitVec 32 := Scalar.muli c31_i32_817 c1_i32_818
  let v740 : BitVec 32 := Scalar.addi c0_i32_819 v739
  v740.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_43 : BitVec 32 := 0#32
  let v54 : BitVec 1 := Scalar.cmpi .ne v2 c0_i32_43
  let v55 : BitVec 32 := Scalar.extui v54
  let c0_i32_47 : BitVec 32 := 0#32
  let v56 : BitVec 1 := Scalar.cmpi .ne v55 c0_i32_47
  v56

def k0_dev66 (d0 : Dev nD) : Nat :=
  let c0_i32_705 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_704 : BitVec 32 := 1#32
  let v609 : BitVec 32 := Scalar.muli v13 c1_i32_704
  let v610 : BitVec 32 := Scalar.addi c0_i32_705 v609
  v610.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v57 : BitVec 1 := Scalar.cmpi .ne v2 c31_i32
  let v58 : BitVec 32 := Scalar.extui v57
  let c0_i32_51 : BitVec 32 := 0#32
  let v59 : BitVec 1 := Scalar.cmpi .ne v58 c0_i32_51
  v59

def k0_dev67 (d0 : Dev nD) : Nat :=
  let c0_i32_705 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_704 : BitVec 32 := 1#32
  let v609 : BitVec 32 := Scalar.muli v24 c1_i32_704
  let v610 : BitVec 32 := Scalar.addi c0_i32_705 v609
  v610.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_236 : BitVec 32 := 0#32
  let v239 : BitVec 1 := Scalar.cmpi .ne v2 c0_i32_236
  let v240 : BitVec 32 := Scalar.extui v239
  let c0_i32_237 : BitVec 32 := 0#32
  let v241 : BitVec 1 := Scalar.cmpi .ne v240 c0_i32_237
  v241

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 5 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_707 : BitVec 32 := 0#32
  let c0_i32_708 : BitVec 32 := 0#32
  let c0_i32_709 : BitVec 32 := 0#32
  let c0_i32_710 : BitVec 32 := 0#32
  ![v2.toNat, 0, 0, 0, 0]
def k0_dev68 : Nat :=
  let c0_i32_706 : BitVec 32 := 0#32
  let c0_i32_704 : BitVec 32 := 0#32
  let c1_i32_705 : BitVec 32 := 1#32
  let v609 : BitVec 32 := Scalar.muli c0_i32_704 c1_i32_705
  let v610 : BitVec 32 := Scalar.addi c0_i32_706 v609
  v610.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_700 : BitVec 32 := 0#32
  let v603 : BitVec 1 := Scalar.cmpi .ne v2 c0_i32_700
  let v604 : BitVec 32 := Scalar.extui v603
  let c0_i32_701 : BitVec 32 := 0#32
  let v605 : BitVec 1 := Scalar.cmpi .ne v604 c0_i32_701
  v605

def k0_off3 (d0 : Dev nD) : Fin 5 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_706 : BitVec 32 := 0#32
  let c0_i32_707 : BitVec 32 := 0#32
  let c0_i32_708 : BitVec 32 := 0#32
  let c0_i32_709 : BitVec 32 := 0#32
  ![v2.toNat, 0, 0, 0, 0]
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x4096x512 : Shape := ⟨3, ![2, 4096, 512]⟩
abbrev S512x256 : Shape := ⟨2, ![512, 256]⟩
abbrev S2x4096x4x64 : Shape := ⟨4, ![2, 4096, 4, 64]⟩
abbrev S256x512 : Shape := ⟨2, ![256, 512]⟩
abbrev S2x4096x256 : Shape := ⟨3, ![2, 4096, 256]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S2x4x4096x4096 : Shape := ⟨4, ![2, 4, 4096, 4096]⟩
abbrev S1x1x4096x4096 : Shape := ⟨4, ![1, 1, 4096, 4096]⟩
abbrev S2x4x4096 : Shape := ⟨3, ![2, 4, 4096]⟩
abbrev S2x4x4096x1 : Shape := ⟨4, ![2, 4, 4096, 1]⟩
abbrev S1x1x4096x1 : Shape := ⟨4, ![1, 1, 4096, 1]⟩
abbrev S2x4x64x4096 : Shape := ⟨4, ![2, 4, 64, 4096]⟩

abbrev nBuf : Space → Nat
  | .hbm => 67
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S512x256, .f32⟩
  | .hbm, ⟨2, _⟩ => ⟨S2x4096x4x64, .f32⟩
  | .hbm, ⟨3, _⟩ => ⟨S2x4096x4x64, .f32⟩
  | .hbm, ⟨4, _⟩ => ⟨S256x512, .f32⟩
  | .hbm, ⟨5, _⟩ => ⟨S2x4096x256, .f32⟩
  | .hbm, ⟨6, _⟩ => ⟨S2x4096x4x64, .f32⟩
  | .hbm, ⟨7, _⟩ => ⟨S4096, .i32⟩
  | .hbm, ⟨8, _⟩ => ⟨S4096x1, .i32⟩
  | .hbm, ⟨9, _⟩ => ⟨S4096, .i32⟩
  | .hbm, ⟨10, _⟩ => ⟨S1x4096, .i32⟩
  | .hbm, ⟨11, _⟩ => ⟨S4096x4096, .i32⟩
  | .hbm, ⟨12, _⟩ => ⟨S4096x4096, .i32⟩
  | .hbm, ⟨13, _⟩ => ⟨S4096x4096, .i32⟩
  | .hbm, ⟨14, _⟩ => ⟨S4096x4096, .i32⟩
  | .hbm, ⟨15, _⟩ => ⟨S_, .i32⟩
  | .hbm, ⟨16, _⟩ => ⟨S4096x4096, .i32⟩
  | .hbm, ⟨17, _⟩ => ⟨S4096x4096, .i1⟩
  | .hbm, ⟨18, _⟩ => ⟨S_, .i32⟩
  | .hbm, ⟨19, _⟩ => ⟨S1x4096, .i32⟩
  | .hbm, ⟨20, _⟩ => ⟨S1x4096, .i1⟩
  | .hbm, ⟨21, _⟩ => ⟨S_, .i32⟩
  | .hbm, ⟨22, _⟩ => ⟨S4096x1, .i32⟩
  | .hbm, ⟨23, _⟩ => ⟨S4096x1, .i1⟩
  | .hbm, ⟨24, _⟩ => ⟨S4096x4096, .i1⟩
  | .hbm, ⟨25, _⟩ => ⟨S4096x4096, .i1⟩
  | .hbm, ⟨26, _⟩ => ⟨S4096x4096, .i1⟩
  | .hbm, ⟨27, _⟩ => ⟨S4096x4096, .i1⟩
  | .hbm, ⟨28, _⟩ => ⟨S2x4x4096x4096, .f32⟩
  | .hbm, ⟨29, _⟩ => ⟨S_, .f32⟩
  | .hbm, ⟨30, _⟩ => ⟨S2x4x4096x4096, .f32⟩
  | .hbm, ⟨31, _⟩ => ⟨S2x4x4096x4096, .f32⟩
  | .hbm, ⟨32, _⟩ => ⟨S1x1x4096x4096, .i1⟩
  | .hbm, ⟨33, _⟩ => ⟨S_, .f32⟩
  | .hbm, ⟨34, _⟩ => ⟨S_, .f32⟩
  | .hbm, ⟨35, _⟩ => ⟨S2x4x4096x4096, .i1⟩
  | .hbm, ⟨36, _⟩ => ⟨S2x4x4096x4096, .f32⟩
  | .hbm, ⟨37, _⟩ => ⟨S2x4x4096x4096, .f32⟩
  | .hbm, ⟨38, _⟩ => ⟨S_, .f32⟩
  | .hbm, ⟨39, _⟩ => ⟨S2x4x4096, .f32⟩
  | .hbm, ⟨40, _⟩ => ⟨S2x4x4096x1, .f32⟩
  | .hbm, ⟨41, _⟩ => ⟨S2x4x4096x4096, .f32⟩
  | .hbm, ⟨42, _⟩ => ⟨S2x4x4096x4096, .f32⟩
  | .hbm, ⟨43, _⟩ => ⟨S2x4x4096x4096, .f32⟩
  | .hbm, ⟨44, _⟩ => ⟨S_, .i1⟩
  | .hbm, ⟨45, _⟩ => ⟨S4096, .i1⟩
  | .hbm, ⟨46, _⟩ => ⟨S1x1x4096x1, .i1⟩
  | .hbm, ⟨47, _⟩ => ⟨S_, .f32⟩
  | .hbm, ⟨48, _⟩ => ⟨S2x4x4096, .f32⟩
  | .hbm, ⟨49, _⟩ => ⟨S2x4x4096x1, .f32⟩
  | .hbm, ⟨50, _⟩ => ⟨S_, .f32⟩
  | .hbm, ⟨51, _⟩ => ⟨S_, .f32⟩
  | .hbm, ⟨52, _⟩ => ⟨S2x4x4096x1, .i1⟩
  | .hbm, ⟨53, _⟩ => ⟨S2x4x4096x1, .f32⟩
  | .hbm, ⟨54, _⟩ => ⟨S2x4x4096x1, .f32⟩
  | .hbm, ⟨55, _⟩ => ⟨S2x4x4096x4096, .f32⟩
  | .hbm, ⟨56, _⟩ => ⟨S2x4x4096x4096, .f32⟩
  | .hbm, ⟨57, _⟩ => ⟨S1x1x4096x1, .i1⟩
  | .hbm, ⟨58, _⟩ => ⟨S_, .f32⟩
  | .hbm, ⟨59, _⟩ => ⟨S_, .f32⟩
  | .hbm, ⟨60, _⟩ => ⟨S2x4x4096x4096, .i1⟩
  | .hbm, ⟨61, _⟩ => ⟨S2x4x4096x4096, .f32⟩
  | .hbm, ⟨62, _⟩ => ⟨S2x4x4096x4096, .f32⟩
  | .hbm, ⟨63, _⟩ => ⟨S2x4x64x4096, .f32⟩
  | .hbm, ⟨64, _⟩ => ⟨S2x4096x4x64, .f32⟩
  | .hbm, ⟨65, _⟩ => ⟨S2x4096x256, .f32⟩
  | .hbm, ⟨66, _⟩ => ⟨S2x4096x512, .f32⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Proof.KernelIdeal.Proto.lean ====
/-
The cross-device protocol of the kernel, before any program text.

Thirty-two devices stand on a ring.  Each semaphore of each device is used for one round:

* the barrier of `c` is raised by both neighbours and, on device 0, by every other device as well; with the
  unit comes the memory the receiver of the unit is going to write on the sender of it;
* device 0 copies its global queries and its global keys and values to every other device;
* every device copies its own keys and values to its left and right neighbour, except across the cut 31–0;
* every device but 0 copies its partial sums into its own row of device 0's buffer.

A duty is named by the device that pays it and its place in that device's program (`TokK`).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The ring -/

set_option backward.proofsInPublic true in
/-- The left neighbour. -/
def lft (c : Dev nD) : Dev nD := ⟨(c.val + 31) % 32, Nat.mod_lt _ (by decide)⟩
set_option backward.proofsInPublic true in
/-- The right neighbour. -/
def rgt (c : Dev nD) : Dev nD := ⟨(c.val + 1) % 32, Nat.mod_lt _ (by decide)⟩

theorem lft_rgt (c : Dev nD) : lft (rgt c) = c := by revert c; decide
theorem rgt_lft (c : Dev nD) : rgt (lft c) = c := by revert c; decide
theorem rgt_ne_lft (c : Dev nD) : rgt c ≠ lft c := by revert c; decide
theorem rgt_eq_zero (c : Dev nD) : rgt c = 0 ↔ c = 31 := by revert c; decide
theorem lft_eq_last (c : Dev nD) : lft c = 31 ↔ c = 0 := by revert c; decide
theorem lft_eq_iff (c d : Dev nD) : lft d = c ↔ d = rgt c :=
  ⟨fun h => by rw [← h, rgt_lft], fun h => by rw [h, lft_rgt]⟩
theorem rgt_eq_iff (c d : Dev nD) : rgt d = c ↔ d = lft c :=
  ⟨fun h => by rw [← h, lft_rgt], fun h => by rw [h, rgt_lft]⟩

set_option backward.proofsInPublic true in
/-- The device the `k`-th broadcast copy goes to. -/
def nth (k : Fin 31) : Dev nD := ⟨k.val + 1, by have := k.isLt; show k.val + 1 < 32; omega⟩
set_option backward.proofsInPublic true in
/-- Which broadcast copy reaches device `c` (for `c` other than 0). -/
def idx (c : Dev nD) : Fin 31 := ⟨c.val - 1, by have : c.val < 32 := c.isLt; omega⟩

theorem nth_ne (k : Fin 31) : nth k ≠ 0 := by revert k; decide
theorem nth_idx (c : Dev nD) (h : c ≠ 0) : nth (idx c) = c := by revert c; decide
theorem idx_nth (k : Fin 31) : idx (nth k) = k := by revert k; decide
theorem nth_eq_iff (c : Dev nD) (h : c ≠ 0) (k : Fin 31) : nth k = c ↔ k = idx c :=
  ⟨fun e => by rw [← e, idx_nth], fun e => by rw [e, nth_idx c h]⟩

/-! ## The semaphores -/

/-- The kernel's own transfer semaphores on one device. -/
inductive OK | nsend (i : Fin 2) | nrecv (i : Fin 2) | bq (k : Fin 31) | bkv (k : Fin 31) | brq | brkv | ps | pr (s : Fin 32)
  deriving DecidableEq, Fintype

/-- All of them, the runtime's barrier first. -/
abbrev CK := Unit ⊕ OK
abbrev CK.bar : CK := .inl ()

abbrev barS : Sem sig := (SemArray.scalar (sig.barrier 0 rfl) : Sems sig S_).sem

set_option backward.proofsInPublic true in
def osem : OK → SemLoc sig
  | .nsend i => .dma (⟨6 + i.val, by have := i.isLt; show 6 + i.val < 107; omega⟩ : Fin 107)
  | .nrecv i => .dma (⟨8 + i.val, by have := i.isLt; show 8 + i.val < 107; omega⟩ : Fin 107)
  | .bq k => .dma (⟨10 + k.val, by have := k.isLt; show 10 + k.val < 107; omega⟩ : Fin 107)
  | .bkv k => .dma (⟨41 + k.val, by have := k.isLt; show 41 + k.val < 107; omega⟩ : Fin 107)
  | .brq => .dma (⟨72, by decide⟩ : Fin 107)
  | .brkv => .dma (⟨73, by decide⟩ : Fin 107)
  | .ps => .dma (⟨74, by decide⟩ : Fin 107)
  | .pr s => .dma (⟨75 + s.val, by have := s.isLt; show 75 + s.val < 107; omega⟩ : Fin 107)

def csem : CK → SemLoc sig
  | .inl _ => .reg barS
  | .inr k => osem k

theorem osem_injective : Function.Injective osem := by
  intro a b h
  have key : ∀ x y : Fin 107, (SemLoc.dma x : SemLoc sig) = .dma y → x.val = y.val := fun x y h => by cases h; rfl
  cases a <;> cases b <;> have h' := key _ _ h <;> simp only at h' <;>
    first | rfl | (congr 1; ext; omega) | (exfalso; omega)

theorem csem_injective : Function.Injective csem := by
  rintro (⟨⟩ | a) (⟨⟩ | b) h
  · rfl
  · cases b <;> cases h
  · cases a <;> cases h
  · exact congrArg _ (osem_injective h)

abbrev kcell (x : Dev nD × CK) : GSem nD τ sig := ((x.1 : Thread nD τ), csem x.2)

theorem kcell_injective : Function.Injective kcell := by
  rintro ⟨c, k⟩ ⟨c', k'⟩ h
  have h1 : c = c' := congrArg (fun g : GSem nD τ sig => g.1.1) h
  have h2 : csem k = csem k' := congrArg (fun g : GSem nD τ sig => g.2) h
  rw [h1, csem_injective h2]

theorem ownSemFacts : Pipeline.OwnSemFacts cfg0.spec osem where
  isScoped := by decide
  inj := osem_injective
  disj := by decide

/-! ## The duties -/

/-- A duty's place in its payer's program. -/
inductive TokK | barL | barR | bar0 | ns0 | nr1 | ns1 | nr0 | ps | pr | bq (k : Fin 31) | brq (k : Fin 31) | bkv (k : Fin 31) | brkv (k : Fin 31)
  deriving DecidableEq, Fintype

abbrev Tok := Dev nD × TokK

/-- Which devices have which duties. -/
def valid (d : Dev nD) : TokK → Bool
  | .barL | .barR => true
  | .bar0 | .ns0 | .nr1 | .ps | .pr => d ≠ 0
  | .ns1 | .nr0 => d ≠ 31
  | .bq _ | .brq _ | .bkv _ | .brkv _ => d = 0

/-- The semaphore a duty raises. -/
def tgt (d : Dev nD) : TokK → Dev nD × CK
  | .barL => (lft d, .inl ())
  | .barR => (rgt d, .inl ())
  | .bar0 => (0, .inl ())
  | .ns0 => (d, .inr (.nsend 0))
  | .nr1 => (lft d, .inr (.nrecv 1))
  | .ns1 => (d, .inr (.nsend 1))
  | .nr0 => (rgt d, .inr (.nrecv 0))
  | .ps => (d, .inr .ps)
  | .pr => (0, .inr (.pr d))
  | .bq k => (d, .inr (.bq k))
  | .brq k => (nth k, .inr .brq)
  | .bkv k => (d, .inr (.bkv k))
  | .brkv k => (nth k, .inr .brkv)

/-- The duties that another device waits for: they are owed from the launch on. -/
def owedK : TokK → Bool
  | .ns0 | .ns1 | .ps | .bq _ | .bkv _ => false
  | _ => true

/-- The order in which a device's program pays them. -/
def ord : TokK → ℕ
  | .barL => 0
  | .barR => 1
  | .bar0 => 2
  | .brq k => 3 + k.val
  | .brkv k => 34 + k.val
  | .nr1 => 65
  | .nr0 => 66
  | .pr => 67
  | _ => 68

/-! ## The memory the protocol moves -/

abbrev stM : Memref sig .tc .vmem S2x2x4x128x64 .f32 := Memref.whole cc0_scratch0
abbrev nbW : Memref sig .tc .vmem S2x2x2x4x128x64 .f32 := Memref.whole cc0_scratch1
abbrev bqM : Memref sig .tc .vmem S2x4x32x64 .f32 := Memref.whole cc0_scratch2
abbrev bkvM : Memref sig .tc .vmem S2x2x4x32x64 .f32 := Memref.whole cc0_scratch3
abbrev psM : Memref sig .tc .vmem S2x4x33x64 .f32 := Memref.whole cc0_scratch4
abbrev pbW : Memref sig .tc .vmem S32x2x4x33x64 .f32 := Memref.whole cc0_scratch5

/-- Row 0 of the neighbours' buffer: what the left neighbour copies in. -/
abbrev nbM0 : Memref sig .tc .vmem S2x2x4x128x64 .f32 :=
  (nbW.slice (Rect.unit (s := S2x2x2x4x128x64) ![0, 0, 0, 0, 0, 0] S1x2x2x4x128x64.size inb_S2x2x2x4x128x64_S1x2x2x4x128x64_0_0_0_0_0_0) (fun _ => rfl)).squeeze S2x2x4x128x64 squeezes_S1x2x2x4x128x64_S2x2x4x128x64
/-- Row 1: what the right neighbour copies in. -/
abbrev nbM1 : Memref sig .tc .vmem S2x2x4x128x64 .f32 :=
  (nbW.slice (Rect.unit (s := S2x2x2x4x128x64) ![1, 0, 0, 0, 0, 0] S1x2x2x4x128x64.size inb_S2x2x2x4x128x64_S1x2x2x4x128x64_1_0_0_0_0_0) (fun _ => rfl)).squeeze S2x2x4x128x64 squeezes_S1x2x2x4x128x64_S2x2x4x128x64

theorem pb_inb (d : Dev nD) : ∀ a, (![d.val, 0, 0, 0, 0] : Fin 5 → ℕ) a + S1x2x4x33x64.size a ≤ S32x2x4x33x64.size a := by
  revert d; decide

/-- Row `d` of the partials' buffer: what device `d` copies in. -/
abbrev pbM (d : Dev nD) : Memref sig .tc .vmem S2x4x33x64 .f32 :=
  (pbW.slice (Rect.unit (s := S32x2x4x33x64) ![d.val, 0, 0, 0, 0] S1x2x4x33x64.size (pb_inb d)) (fun _ => rfl)).squeeze S2x4x33x64 squeezes_S1x2x4x33x64_S2x4x33x64

abbrev stN : ℕ := (stM : Memref sig .tc .vmem S2x2x4x128x64 .f32).view.dmaCredit
abbrev bqN : ℕ := (bqM : Memref sig .tc .vmem S2x4x32x64 .f32).view.dmaCredit
abbrev bkvN : ℕ := (bkvM : Memref sig .tc .vmem S2x2x4x32x64 .f32).view.dmaCredit
abbrev psN : ℕ := (psM : Memref sig .tc .vmem S2x4x33x64 .f32).view.dmaCredit

theorem stN_pos : 0 < stN := View.dmaCredit_pos _ (by decide)
theorem bqN_pos : 0 < bqN := View.dmaCredit_pos _ (by decide)
theorem bkvN_pos : 0 < bkvN := View.dmaCredit_pos _ (by decide)
theorem psN_pos : 0 < psN := View.dmaCredit_pos _ (by decide)

theorem nbM0_credit : (nbM0 : Memref sig .tc .vmem S2x2x4x128x64 .f32).view.dmaCredit = stN := rfl
theorem nbM1_credit : (nbM1 : Memref sig .tc .vmem S2x2x4x128x64 .f32).view.dmaCredit = stN := rfl
theorem pbM_credit (d : Dev nD) : (pbM d).view.dmaCredit = psN := rfl

/-- The units a duty raises its semaphore by. -/
def amt : TokK → ℕ
  | .barL | .barR | .bar0 => 1
  | .ns0 | .nr1 | .ns1 | .nr0 => stN
  | .ps | .pr => psN
  | .bq _ | .brq _ => bqN
  | .bkv _ | .brkv _ => bkvN

theorem amt_pos (t : TokK) : 0 < amt t := by
  cases t <;> first | exact Nat.one_pos | exact stN_pos | exact psN_pos | exact bqN_pos | exact bkvN_pos

/-! ## The resource algebra -/

variable {F : FTy → Type} [FloatOps F] [Named F]

abbrev UB : Type := URounds (GSem nD τ sig) Tok
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The contents the copies carry: each device's own keys and values, the global queries, the global keys and
    values, each device's partial sums. -/
structure Cont (F : FTy → Type) where
  st : Dev nD → S2x2x4x128x64.Idx → Elt F .f32
  bq : S2x4x32x64.Idx → Elt F .f32
  bkv : S2x2x4x32x64.Idx → Elt F .f32
  ps : Dev nD → S2x4x33x64.Idx → Elt F .f32

/-- Some contents of a memref. -/
abbrev some_ (d : Dev nD) {s : Shape} (M : Memref sig .tc .vmem s .f32) : sProp 𝕄 :=
  iprop(∃ X : s.Idx → Elt F .f32, owns (d : Thread nD τ) M fullShare X)

instance owns_storable (d : Dev nD) {s : Shape} (M : Memref sig .tc .vmem s .f32) (q : PosShare TreeShare) (X : s.Idx → Elt F .f32) :
    BI.Storable (upEmb : UEmb _ 𝕄) (owns (d : Thread nD τ) M q X : sProp 𝕄) := by
  unfold owns; infer_instance

variable (K : Cont F)

/-- What a duty's units hand to the device that waits for them. -/
def pay (d : Dev nD) : TokK → sProp 𝕄
  | .barL => if d = 0 then iprop(emp) else some_ d nbM0
  | .barR => if d = 31 then iprop(emp) else some_ d nbM1
  | .bar0 => iprop(some_ d bqM ∗ some_ d bkvM)
  | .ns0 => owns (d : Thread nD τ) stM fullShare.left (K.st d)
  | .ns1 => owns (d : Thread nD τ) stM fullShare.right.left (K.st d)
  | .nr1 => owns (lft d : Thread nD τ) nbM1 fullShare (K.st d)
  | .nr0 => owns (rgt d : Thread nD τ) nbM0 fullShare (K.st d)
  | .ps => owns (d : Thread nD τ) psM fullShare (K.ps d)
  | .pr => owns ((0 : Dev nD) : Thread nD τ) (pbM d) fullShare (K.ps d)
  | .bq k => owns (d : Thread nD τ) bqM (Transfers.shareTokN fullShare k.val) K.bq
  | .brq k => iprop(owns (nth k : Thread nD τ) bqM fullShare K.bq ∗ some_ 0 (pbM (nth k)))
  | .bkv k => owns (d : Thread nD τ) bkvM (Transfers.shareTokN fullShare k.val) K.bkv
  | .brkv k => owns (nth k : Thread nD τ) bkvM fullShare K.bkv

instance pay_storable (d : Dev nD) (t : TokK) : BI.Storable (upEmb : UEmb _ 𝕄) (pay K d t) := by
  have hi (p : Prop) [Decidable p] (P Q : sProp 𝕄) (hP : BI.Storable (upEmb : UEmb _ 𝕄) P) (hQ : BI.Storable (upEmb : UEmb _ 𝕄) Q) :
      BI.Storable (upEmb : UEmb _ 𝕄) (if p then P else Q) := by by_cases h : p <;> simp only [h, if_true, if_false] <;> assumption
  cases t <;> unfold pay <;> (try unfold some_) <;> first | infer_instance | (refine hi _ _ _ ?_ ?_ <;> infer_instance)

/-- Every semaphore has one round; its duties are those aimed at it. -/
def Rd : Rounds.Schedule (GSem nD τ sig) Tok 𝕄 where
  duties g r := if r = 0 then Finset.univ.filter (fun t : Tok => valid t.1 t.2 = true ∧ kcell (tgt t.1 t.2) = g) else ∅
  amount _ _ t := amt t.2
  payload _ _ t := pay K t.1 t.2
  amount_pos _ _ t _ := amt_pos t.2
  unitless _ := False

instance Rd_payload_storable (g : GSem nD τ sig) (r : ℕ) (t : Tok) : BI.Storable (upEmb : UEmb _ 𝕄) ((Rd K).payload g r t) :=
  pay_storable K t.1 t.2

theorem mem_duties (d : Dev nD) (t : TokK) (h : valid d t = true) : (d, t) ∈ (Rd K).duties (kcell (tgt d t)) 0 := by
  dsimp only [Rd]; rw [if_pos rfl]; exact Finset.mem_filter.mpr ⟨Finset.mem_univ _, h, rfl⟩

theorem duties_later (g : GSem nD τ sig) : ∀ r, 1 ≤ r → (Rd K).duties g r = ∅ :=
  fun r hr => by dsimp only [Rd]; rw [if_neg (by omega)]

theorem duties_of (x : Dev nD × CK) (S : Finset Tok) (h : ∀ t : Tok, (valid t.1 t.2 = true ∧ tgt t.1 t.2 = x) ↔ t ∈ S) :
    (Rd K).duties (kcell x) 0 = S := by
  dsimp only [Rd]; rw [if_pos rfl]; ext t
  rw [Finset.mem_filter, ← h t]
  exact ⟨fun ⟨_, h1, h2⟩ => ⟨h1, kcell_injective h2⟩, fun ⟨h1, h2⟩ => ⟨Finset.mem_univ _, h1, congrArg kcell h2⟩⟩

theorem duties_one (x : Dev nD × CK) (d : Dev nD) (u : TokK) (h : ∀ t : Tok, (valid t.1 t.2 = true ∧ tgt t.1 t.2 = x) ↔ t = (d, u)) :
    (Rd K).duties (kcell x) 0 = {(d, u)} :=
  duties_of K x _ fun t => (h t).trans Finset.mem_singleton.symm

theorem duties_none (x : Dev nD × CK) (h : ∀ t : Tok, valid t.1 t.2 = true → tgt t.1 t.2 ≠ x) :
    (Rd K).duties (kcell x) 0 = ∅ :=
  duties_of K x _ fun t => ⟨fun ⟨h1, h2⟩ => absurd h2 (h t h1), fun h => absurd h (Finset.notMem_empty _)⟩

/-! ### Which duties each semaphore has -/

theorem duties_nsend0 (c : Dev nD) (h : c ≠ 0) : (Rd K).duties (kcell (c, .inr (.nsend 0))) 0 = {(c, .ns0)} :=
  duties_one K _ _ _ fun ⟨d, t⟩ => by cases t <;> simp [tgt, valid] <;> (try rintro rfl; try exact h)
theorem duties_nsend1 (c : Dev nD) (h : c ≠ 31) : (Rd K).duties (kcell (c, .inr (.nsend 1))) 0 = {(c, .ns1)} :=
  duties_one K _ _ _ fun ⟨d, t⟩ => by cases t <;> simp [tgt, valid] <;> (try rintro rfl; try exact h)
theorem duties_nrecv1 (c : Dev nD) (h : c ≠ 31) : (Rd K).duties (kcell (c, .inr (.nrecv 1))) 0 = {(rgt c, .nr1)} :=
  duties_one K _ _ _ fun ⟨d, t⟩ => by
    cases t <;> simp [tgt, valid, lft_eq_iff]; rintro rfl; rwa [rgt_eq_zero]
theorem duties_nrecv0 (c : Dev nD) (h : c ≠ 0) : (Rd K).duties (kcell (c, .inr (.nrecv 0))) 0 = {(lft c, .nr0)} :=
  duties_one K _ _ _ fun ⟨d, t⟩ => by
    cases t <;> simp [tgt, valid, rgt_eq_iff]; rintro rfl; rwa [lft_eq_last]
theorem duties_bq (k : Fin 31) : (Rd K).duties (kcell (0, .inr (.bq k))) 0 = {(0, .bq k)} :=
  duties_one K _ _ _ fun ⟨d, t⟩ => by cases t <;> simp [tgt, valid] <;> (try rintro rfl; try tauto)
theorem duties_bkv (k : Fin 31) : (Rd K).duties (kcell (0, .inr (.bkv k))) 0 = {(0, .bkv k)} :=
  duties_one K _ _ _ fun ⟨d, t⟩ => by cases t <;> simp [tgt, valid] <;> (try rintro rfl; try tauto)
theorem duties_brq (c : Dev nD) (h : c ≠ 0) : (Rd K).duties (kcell (c, .inr .brq)) 0 = {(0, .brq (idx c))} :=
  duties_one K _ _ _ fun ⟨d, t⟩ => by cases t <;> simp [tgt, valid, nth_eq_iff c h]
theorem duties_brkv (c : Dev nD) (h : c ≠ 0) : (Rd K).duties (kcell (c, .inr .brkv)) 0 = {(0, .brkv (idx c))} :=
  duties_one K _ _ _ fun ⟨d, t⟩ => by cases t <;> simp [tgt, valid, nth_eq_iff c h]
theorem duties_ps (c : Dev nD) (h : c ≠ 0) : (Rd K).duties (kcell (c, .inr .ps)) 0 = {(c, .ps)} :=
  duties_one K _ _ _ fun ⟨d, t⟩ => by cases t <;> simp [tgt, valid] <;> (try rintro rfl; try exact h)
theorem duties_pr (s : Dev nD) (h : s ≠ 0) : (Rd K).duties (kcell (0, .inr (.pr s))) 0 = {(s, .pr)} :=
  duties_one K _ _ _ fun ⟨d, t⟩ => by cases t <;> simp [tgt, valid] <;> (try rintro rfl; try exact h)

theorem duties_bar (c : Dev nD) (h : c ≠ 0) : (Rd K).duties (kcell (c, .inl ())) 0 = {(rgt c, .barL), (lft c, .barR)} :=
  duties_of K _ _ fun ⟨d, t⟩ => by
    cases t <;> simp [tgt, valid, lft_eq_iff, rgt_eq_iff]
    exact fun _ => h.symm
/-- The duties of the devices other than 0 on device 0's barrier. -/
def barEmb : Fin 31 ↪ Tok := ⟨fun k => (nth k, .bar0), fun a b h => by
  have h' : nth a = nth b := congrArg Prod.fst h
  rw [← idx_nth a, h', idx_nth]⟩
theorem barEmb_apply (k : Fin 31) : barEmb k = (nth k, .bar0) := rfl
theorem duties_bar_zero : (Rd K).duties (kcell (0, .inl ())) 0
    = {(rgt 0, .barL), (lft 0, .barR)} ∪ (Finset.univ : Finset (Fin 31)).map barEmb :=
  duties_of K _ _ fun ⟨d, t⟩ => by
    cases t <;> simp [tgt, valid, lft_eq_iff, rgt_eq_iff, barEmb_apply]
    exact ⟨fun h => ⟨idx d, nth_idx d h⟩, fun ⟨k, hk⟩ => hk ▸ nth_ne k⟩

theorem none_nsend0 : (Rd K).duties (kcell (0, .inr (.nsend 0))) 0 = ∅ :=
  duties_none K _ fun ⟨d, t⟩ => by cases t <;> simp [tgt, valid]
theorem none_nsend1 : (Rd K).duties (kcell (31, .inr (.nsend 1))) 0 = ∅ :=
  duties_none K _ fun ⟨d, t⟩ => by cases t <;> simp [tgt, valid]
theorem none_nrecv1 : (Rd K).duties (kcell (31, .inr (.nrecv 1))) 0 = ∅ :=
  duties_none K _ fun ⟨d, t⟩ => by cases t <;> simp [tgt, valid, lft_eq_last]
theorem none_nrecv0 : (Rd K).duties (kcell (0, .inr (.nrecv 0))) 0 = ∅ :=
  duties_none K _ fun ⟨d, t⟩ => by cases t <;> simp [tgt, valid, rgt_eq_zero]
theorem none_bq (c : Dev nD) (h : c ≠ 0) (k : Fin 31) : (Rd K).duties (kcell (c, .inr (.bq k))) 0 = ∅ :=
  duties_none K _ fun ⟨d, t⟩ => by cases t <;> simp [tgt, valid] ; rintro rfl h' ; exact absurd h'.symm h
theorem none_bkv (c : Dev nD) (h : c ≠ 0) (k : Fin 31) : (Rd K).duties (kcell (c, .inr (.bkv k))) 0 = ∅ :=
  duties_none K _ fun ⟨d, t⟩ => by cases t <;> simp [tgt, valid] ; rintro rfl h' ; exact absurd h'.symm h
theorem none_brq : (Rd K).duties (kcell (0, .inr .brq)) 0 = ∅ :=
  duties_none K _ fun ⟨d, t⟩ => by cases t <;> simp [tgt, valid, nth_ne]
theorem none_brkv : (Rd K).duties (kcell (0, .inr .brkv)) 0 = ∅ :=
  duties_none K _ fun ⟨d, t⟩ => by cases t <;> simp [tgt, valid, nth_ne]
theorem none_ps : (Rd K).duties (kcell (0, .inr .ps)) 0 = ∅ :=
  duties_none K _ fun ⟨d, t⟩ => by cases t <;> simp [tgt, valid]
theorem none_pr (c : Dev nD) (s : Dev nD) (h : c ≠ 0 ∨ s = 0) : (Rd K).duties (kcell (c, .inr (.pr s))) 0 = ∅ :=
  duties_none K _ fun ⟨d, t⟩ => by
    cases t <;> simp [tgt, valid]
    rintro h0 rfl rfl; simp at h; exact h0 h

theorem expect_one (x : Dev nD × CK) (d : Dev nD) (u : TokK) (h : (Rd K).duties (kcell x) 0 = {(d, u)}) :
    (Rd K).expect (kcell x) 0 = amt u := by
  unfold Schedule.expect Schedule.amountOf; rw [h, Finset.sum_singleton]; rfl

theorem expect_bar (c : Dev nD) (h : c ≠ 0) : (Rd K).expect (kcell (c, .inl ())) 0 = 2 := by
  unfold Schedule.expect Schedule.amountOf
  rw [duties_bar K c h, Finset.sum_pair (fun h => by have := congrArg Prod.snd h; cases this)]; rfl

theorem bar_disj : Disjoint ({(rgt 0, .barL), (lft 0, .barR)} : Finset Tok) ((Finset.univ : Finset (Fin 31)).map barEmb) := by
  rw [Finset.disjoint_left]; rintro ⟨d, t⟩ h1 h2
  simp [barEmb_apply] at h1 h2
  rcases h1 with ⟨_, rfl⟩ | ⟨_, rfl⟩ <;> obtain ⟨k, hk⟩ := h2 <;> cases hk

theorem expect_bar_zero : (Rd K).expect (kcell (0, .inl ())) 0 = 33 := by
  unfold Schedule.expect Schedule.amountOf
  rw [duties_bar_zero K, Finset.sum_union bar_disj, Finset.sum_pair (fun h => by have := congrArg Prod.snd h; cases this), Finset.sum_map]
  show 1 + 1 + ∑ _k : Fin 31, 1 = 33
  simp

/-! ## What each device owes; the levels -/

open Classical in
/-- What device `c` still owes when it has paid its duties below place `j`. -/
def Orest (c : Dev nD) (j : ℕ) : CellTallies nD τ sig Unit :=
  ∑ t ∈ Finset.univ.filter (fun t : TokK => valid c t = true ∧ owedK t = true ∧ j ≤ ord t), tallyAt (kcell (tgt c t)) () (amt t)

theorem ord_lt (t : TokK) (h : owedK t = true) : ord t < 68 := by
  cases t <;> simp [ord, owedK] at h ⊢ <;> omega

theorem ord_inj (t u : TokK) (ht : owedK t = true) (hu : owedK u = true) (h : ord t = ord u) : t = u := by
  cases t <;> cases u <;> simp [ord, owedK] at ht hu h ⊢ <;> omega

theorem Orest_step (c : Dev nD) (t : TokK) (hv : valid c t = true) (ho : owedK t = true) (j : ℕ) (hj : ord t = j) :
    Orest c j = Orest c (j + 1) + tallyAt (kcell (tgt c t)) () (amt t) := by
  classical
  subst hj
  unfold Orest
  rw [add_comm, ← Finset.sum_insert (f := fun t : TokK => (tallyAt (kcell (tgt c t)) () (amt t) : CellTallies nD τ sig Unit)) (by simp)]
  refine Finset.sum_congr ?_ fun _ _ => rfl
  ext u
  simp only [Finset.mem_filter, Finset.mem_univ, true_and, Finset.mem_insert]
  constructor
  · rintro ⟨h1, h2, h3⟩
    rcases Nat.lt_or_eq_of_le h3 with h | h
    · exact .inr ⟨h1, h2, h⟩
    · exact .inl (ord_inj _ _ h2 ho h.symm)
  · rintro (rfl | ⟨h1, h2, h3⟩)
    · exact ⟨hv, ho, le_refl _⟩
    · exact ⟨h1, h2, by omega⟩

theorem Orest_skip (c : Dev nD) (i j : ℕ) (hij : i ≤ j) (h : ∀ t, valid c t = true → owedK t = true → i ≤ ord t → ord t < j → False) :
    Orest c i = Orest c j := by
  classical
  unfold Orest
  refine Finset.sum_congr ?_ fun _ _ => rfl
  ext u
  simp only [Finset.mem_filter, Finset.mem_univ, true_and]
  constructor
  · rintro ⟨h1, h2, h3⟩; exact ⟨h1, h2, by by_contra hn; exact h u h1 h2 h3 (by omega)⟩
  · rintro ⟨h1, h2, h3⟩; exact ⟨h1, h2, by omega⟩

theorem Orest_end (c : Dev nD) : Orest c 68 = 0 := by
  classical
  unfold Orest
  rw [Finset.filter_false_of_mem fun t _ h => by have := ord_lt t h.2.1; omega, Finset.sum_empty]

def L (g : GSem nD τ sig) : Finset Unit := if g.1.2 = .tc then {()} else ∅

/-- Barriers at 1, what the neighbours and device 0 send at 2, the partials at 3, the rest at 0. -/
def lvK : CK → ℕ
  | .inl _ => 1
  | .inr .brq | .inr .brkv | .inr (.nrecv _) => 2
  | .inr (.pr _) => 3
  | _ => 0

open Classical in
def lv (g : GSem nD τ sig) (_ : Unit) : ℕ := if h : ∃ k, csem k = g.2 then lvK h.choose else 0

theorem lv_kcell (x : Dev nD × CK) (u : Unit) : lv (kcell x) u = lvK x.2 := by
  have h : ∃ k, csem k = (kcell x).2 := ⟨x.2, rfl⟩
  unfold lv; rw [dif_pos h, csem_injective h.choose_spec]

theorem L_of_ne (g : GSem nD τ sig) (h : g.1.2 ≠ .tc) : L g = ∅ := if_neg h
theorem L_tc (c : Dev nD) (sm : SemLoc sig) : L ((c : Thread nD τ), sm) = {()} := if_pos rfl

theorem Orest_pos {c : Dev nD} {j : ℕ} {g : GSem nD τ sig} {u : Unit} (h : 0 < Orest c j g u) :
    ∃ t, valid c t = true ∧ owedK t = true ∧ j ≤ ord t ∧ g = kcell (tgt c t) := by
  classical
  obtain ⟨t, ht, h'⟩ := Pipeline.sum_pos_exists h
  rw [Finset.mem_filter] at ht
  refine ⟨t, ht.2.1, ht.2.2.1, ht.2.2.2, ?_⟩
  rw [tallyAt_apply] at h'
  by_contra hn
  rw [if_neg fun e => hn e.1] at h'
  exact Nat.lt_irrefl 0 h'

/-- Waiting on a semaphore is allowed while everything still owed is owed to higher ones. -/
theorem mayWait (c : Dev nD) (k : CK) (j : ℕ) (h : ∀ t, owedK t = true → j ≤ ord t → lvK k < lvK (tgt c t).2) :
    (levAts L lv : sProp 𝕄) ⊢ MayWait (c : Thread nD τ) (csem k) () (Orest c j) :=
  Pipeline.mayWait_of_levAts (by rw [L_tc]; exact Finset.mem_singleton_self _) fun g u hg => by
    obtain ⟨t, _, h2, h3, rfl⟩ := Orest_pos hg
    refine ⟨by rw [L_tc]; exact Finset.mem_singleton_self _, ?_⟩
    have e := lv_kcell (c, k) ()
    rw [lv_kcell, show lv ((c : Thread nD τ), csem k) () = lvK k from e]
    exact h t h2 h3

theorem mayWait_stage (c : Dev nD) (s : SemLoc sig) (hs : ∀ k, csem k ≠ s) (j : ℕ) :
    (levAts L lv : sProp 𝕄) ⊢ MayWait (c : Thread nD τ) s () (Orest c j) :=
  Pipeline.mayWait_of_levAts (by rw [L_tc]; exact Finset.mem_singleton_self _) fun g u hg => by
    obtain ⟨t, _, h2, h3, rfl⟩ := Orest_pos hg
    refine ⟨by rw [L_tc]; exact Finset.mem_singleton_self _, ?_⟩
    rw [lv_kcell]
    have e : lv ((c : Thread nD τ), s) () = 0 := by unfold lv; rw [dif_neg]; exact fun ⟨k, hk⟩ => hs k hk
    rw [e]; cases t <;> simp [owedK] at h2 <;> simp [tgt, lvK]

theorem mayWait_bar (c : Dev nD) : (levAts L lv : sProp 𝕄) ⊢ MayWait (c : Thread nD τ) (csem (.inl ())) () (Orest c 3) :=
  mayWait c _ _ fun t h1 h2 => by cases t <;> simp [owedK, ord] at h1 h2 <;> simp [tgt, lvK]
theorem mayWait_brq (c : Dev nD) : (levAts L lv : sProp 𝕄) ⊢ MayWait (c : Thread nD τ) (csem (.inr .brq)) () (Orest c 67) :=
  mayWait c _ _ fun t h1 h2 => by cases t <;> simp [owedK, ord] at h1 h2 <;> first | (exfalso; omega) | (simp [tgt, lvK])

end Cert.KernelIdealProof
-- ==== Proof.KernelIdeal.Steps.lean ====
/-
One rule per effect of the protocol: a signal, the wait on the barrier, an addressed copy, the wait on a copy's
semaphore.  Each is stated with what the device still owes (`owesJ c j`: everything from place `j` of its program
on), so a program's steps follow one another without any bookkeeping of tallies.
-/
module

public import proofs.«01_k».proof.Proof.KernelIdeal.Proto

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option maxRecDepth 8000

variable {F : FTy → Type} [FloatOps F] [Named F]

local notation "𝕄" => MT nD τ sig Unit (Elt F) ℕ UU ℕ

abbrev 𝒱₀ : Variants := Variants.none

variable (K : Cont F) (N : Dev nD × CK → ℕ)

/-- The invariants of all semaphores, and that each is at its round. -/
def recs : sProp 𝕄 :=
  iprop((bigSep Finset.univ fun x : Dev nD × CK => cellInv ER (Rd K) (N x) (kcell x))
    ∗ (bigSep Finset.univ fun x : Dev nD × CK => reached ER (kcell x) 0) ∗ levAts L lv)

instance recs_persistent : BI.Persistent (recs K N) := by unfold recs; infer_instance

theorem recs_inv (x : Dev nD × CK) : recs K N ⊢ cellInv ER (Rd K) (N x) (kcell x) := by
  have h : (bigSep Finset.univ fun x : Dev nD × CK => (cellInv ER (Rd K) (N x) (kcell x) : sProp 𝕄)) ⊢ cellInv ER (Rd K) (N x) (kcell x) :=
    bigSep_elim (Finset.mem_univ x)
  unfold recs; iintro ⟨H, -, -⟩; iapply h; iexact H
theorem recs_reached (x : Dev nD × CK) : recs K N ⊢ reached ER (kcell x) 0 := by
  have h : (bigSep Finset.univ fun x : Dev nD × CK => (reached ER (kcell x) 0 : sProp 𝕄)) ⊢ reached ER (kcell x) 0 :=
    bigSep_elim (Finset.mem_univ x)
  unfold recs; iintro ⟨-, H, -⟩; iapply h; iexact H
theorem recs_lev : recs K N ⊢ levAts L lv := by
  unfold recs; iintro ⟨-, -, H⟩; iexact H

/-- What device `c` owes from place `j` of its program on. -/
def owesJ (c : Dev nD) (j : ℕ) : sProp 𝕄 := iprop(∃ W, owes (c : Thread nD τ) (Orest c j) W)

theorem owesJ_skip (c : Dev nD) (i j : ℕ) (h : Orest c i = Orest c j) : (owesJ c i : sProp 𝕄) ⊢ owesJ c j := by
  unfold owesJ; rw [h]

/-- The token of a duty of device `c`. -/
def tok (c : Dev nD) (t : TokK) : sProp 𝕄 := dutyTok ER (kcell (tgt c t)) 0 (c, t)
/-- The position of device `c` on one of its semaphores. -/
def pos (c : Dev nD) (k : CK) (r : ℕ) : sProp 𝕄 := atPos ER (kcell (c, k)) r ∅ 0
/-- The right to wait for `n` units on one of device `c`'s semaphores. -/
def crd (c : Dev nD) (k : CK) (n : ℕ) : sProp 𝕄 := cred (tallyAt (kcell (c, k)) () n)

theorem recs_mayWait (c : Dev nD) (s : SemLoc sig) (j : ℕ) (h : (levAts L lv : sProp 𝕄) ⊢ MayWait (c : Thread nD τ) s () (Orest c j)) :
    recs K N ⊢ MayWait (c : Thread nD τ) s () (Orest c j) := by
  unfold recs
  exact (sep_mono_right (sep_mono_right h)).trans (by iintro ⟨-, -, H⟩; iexact H)

theorem payload_eq (g : GSem nD τ sig) (r : ℕ) (t : Tok) : (Rd K).payload g r t = pay K t.1 t.2 := rfl

theorem step_signal (c n m : Dev nD) (t : TokK) (hv : valid c t = true) (ho : owedK t = true) (hm : amt t = 1)
    (ht : tgt c t = (m, .inl ())) (hn : n = m) (j : ℕ) (hj : ord t = j)
    {α : Type} {Q : α → sProp 𝕄} {k : PUnit → Prog (TpuEff nD τ sig (Elt F) Λ₀ .tc) α} :
    iprop(recs K N ∗ owesJ c j ∗ tok c t ∗ pay K c t)
      ⊢ iprop((owesJ c (j + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS 1) k) Q) := by
  subst hn
  unfold owesJ tok
  iintro ⟨#HR, ⟨%W, HO⟩, Ht, Hp⟩ Hk
  rw [ht]
  iapply (Rounds.wp_signal 𝒱₀ ER (Rd K) (c : Thread nD τ) none (dst := (n : Thread nD τ)) (κ := N (n, .inl ())) (r := 0)
      (d := (c, t)) (by have h := mem_duties K c t hv; rw [ht] at h; exact h) hm () (O₀ := Orest c j) (Orest c (j + 1))
      (by have h := Orest_step c t hv ho j hj; rw [ht, hm] at h; exact h) (W := W)) $$ [HO Ht Hp]
  · isplitr; · iapply (recs_inv K N (n, .inl ())); iexact HR
    isplitl [HO]; · iexact HO
    isplitl [Ht]; · iexact Ht
    isplitl [Hp]; · rw [payload_eq]; iexact Hp
    iapply (recs_reached K N (n, .inl ())); iexact HR
  iintro HO
  iapply Hk
  iexists W; iexact HO

/-- The wait on the barrier for all its units: every signaller's memory comes with it. -/
theorem step_bar (c : Dev nD) (n : ℕ) (hn : n = (Rd K).expect (kcell (c, .inl ())) 0)
    {α : Type} {Q : α → sProp 𝕄} {k : PUnit → Prog (TpuEff nD τ sig (Elt F) Λ₀ .tc) α} :
    iprop(recs K N ∗ crd c (.inl ()) n ∗ owesJ c 3 ∗ pos c (.inl ()) 0)
      ⊢ iprop(((owesJ c 3 ∗ pos c (.inl ()) 1 ∗ bigSep ((Rd K).duties (kcell (c, .inl ())) 0) (fun t => pay K t.1 t.2))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS n) k) Q) := by
  unfold owesJ crd pos
  iintro ⟨#HR, Hc, ⟨%W, HO⟩, Ha⟩ Hk
  iapply (Rounds.wp_wait_rest_token 𝒱₀ ER (Rd K) (c : Thread nD τ) none (κ := N (c, .inl ()))
      (wpE_semWait_eq 𝒱₀ (c : Thread nD τ) none Set.univ) (Set.mem_univ _) () (O := Orest c 3) (W := W) (R := 0) (m := 0) (T := ∅)
      ((Nat.zero_add n).trans hn)) $$ [Hc HO Ha]
  · isplitr; · iapply (recs_inv K N (c, .inl ())); iexact HR
    isplitl [Hc]; · iexact Hc
    isplitl [HO]; · iexact HO
    isplitr; · iapply (recs_mayWait K N c _ 3 (mayWait_bar c)); iexact HR
    iexact Ha
  rw [Finset.sdiff_empty, show (bigSep ((Rd K).duties ((c : Thread nD τ), SemLoc.reg barS) 0) (fun t => (Rd K).payload ((c : Thread nD τ), SemLoc.reg barS) 0 t) : sProp 𝕄)
    = bigSep ((Rd K).duties (kcell (c, .inl ())) 0) (fun t => pay K t.1 t.2) from rfl]
  iintro ⟨HO, Ha, -, Hp⟩
  iapply Hk
  isplitl [HO]; · iexists _; iexact HO
  isplitl [Ha]; · iexact Ha
  iexact Hp

/-- A copy to another device: it pays the sender's own duty `ts` with the source back and the receiver's duty `tr`
    with the destination written (and `Fr`, memory handed along). -/
theorem step_send (c n m : Dev nD) (ts tr : TokK) (ks kr : CK) (hvs : valid c ts = true) (hvr : valid c tr = true)
    (ho : owedK tr = true) (hts : tgt c ts = (c, ks)) (htr : tgt c tr = (m, kr)) (hn : n = m) (j : ℕ) (hj : ord tr = j)
    {s : Shape} (src dst : Memref sig .tc .vmem s .f32) (sS sem : SemLoc sig) (hsS : sS = csem ks) (hsR : sem = csem kr)
    (q : PosShare TreeShare) (X : s.Idx → Elt F .f32) (Fr : sProp 𝕄)
    (hN : dst.view.amount sem = amt ts) (hNr : amt tr = amt ts)
    (hp₁ : owns (c : Thread nD τ) src q X ⊢ pay K c ts)
    (hp₂ : iprop(owns (m : Thread nD τ) dst fullShare X ∗ Fr) ⊢ pay K c tr)
    {hsc : (dst : Memref sig (Dev.tc n : Thread nD τ).2.kind .vmem s .f32).view.ref.isScScratch = false}
    {hsrc : src.view.WordExact} {hdst : dst.view.WordExact}
    {hsem : DmaTarget.Typed .vmem sem (.remote (Dev.tc n : Thread nD τ) dst sS hsc)}
    {α : Type} {Q : α → sProp 𝕄} {k : PUnit → Prog (TpuEff nD τ sig (Elt F) Λ₀ .tc) α} :
    iprop(recs K N ∗ owns (c : Thread nD τ) src q X ∗ some_ m dst ∗ Fr ∗ owesJ c j ∗ tok c ts ∗ tok c tr)
      ⊢ iprop(((crd c ks (amt ts) ∗ owesJ c (j + 1))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst sS hsc) sem hsrc hdst hsem) k) Q) := by
  subst hn hsS hsR
  unfold some_ owesJ tok crd
  rw [hts, htr]
  iintro ⟨#HR, Hs, ⟨%Y, Hd⟩, HF, ⟨%W, HO⟩, Hts, Htr⟩ Hk
  simp only [owns]
  icases Hs with ⟨%fs, %hfs, Hs⟩
  icases Hd with ⟨%fd, %hfd, Hd⟩
  iapply (Rounds.wp_send_pointsTo_with 𝒱₀ ER (Rd K) (c : Thread nD τ) none (κ₁ := N (c, ks)) (κ₂ := N (n, kr))
    (r₁ := 0) (r₂ := 0) (d₁ := (c, ts)) (d₂ := (c, tr)) (fs := fs) (fd := fd) (F := Fr) (O₀ := Orest c j) (W := W)
    (by have h := mem_duties K c ts hvs; rw [hts] at h; exact h)
    (by have h := mem_duties K c tr hvr; rw [htr] at h; exact h)
    () () (amt ts) hN rfl hNr (Orest c (j + 1))
    (by have h := Orest_step c tr hvr ho j hj; rw [htr, hNr] at h; exact h)
    (by subst hfs; exact (owns_intro (c : Thread nD τ) src q fs).trans hp₁)
    (by subst hfs
        refine (sep_mono_left ?_).trans hp₂
        have h := owns_intro (Val := Elt F) (U := UU) (Name := ℕ) (Lvl := ℕ) (Ix := Unit) (n : Thread nD τ) dst fullShare (dst.view.write (Elt F) fd (src.view.read (Elt F) fs) Finset.univ)
        rw [View.read_write_univ] at h
        exact h)) $$ [Hs Hd HF HO Hts Htr]
  · isplitr; · iapply (recs_inv K N (c, ks)); iexact HR
    isplitr; · iapply (recs_inv K N (n, kr)); iexact HR
    isplitl [Hs]; · iexact Hs
    isplitl [Hd HF]
    · isplitl [Hd]; · iexact Hd
      iexact HF
    isplitl [HO]; · iexact HO
    isplitl [Hts]; · iexact Hts
    isplitr; · iapply (recs_reached K N (c, ks)); iexact HR
    isplitl [Htr]; · iexact Htr
    iapply (recs_reached K N (n, kr)); iexact HR
  iintro ⟨HcS, HO⟩
  iapply Hk
  isplitl [HcS]; · iexact HcS
  iexists W; iexact HO

/-- The wait on a copy's semaphore, whose one duty is `(d, u)`: its memory comes back. -/
theorem step_wait (c : Dev nD) (k : CK) (d : Dev nD) (u : TokK) (hd : (Rd K).duties (kcell (c, k)) 0 = {(d, u)})
    (j : ℕ) (hmw : (levAts L lv : sProp 𝕄) ⊢ MayWait (c : Thread nD τ) (csem k) () (Orest c j))
    {s s' : Shape} (src : Memref sig .tc .vmem s .f32) (dst : Memref sig .tc .vmem s' .f32) (sem : DmaSem sig) (hs : csem k = .dma sem)
    (hN : dst.view.dmaCredit = amt u)
    {h1 : src.view.WordExact} {h2 : dst.view.WordExact}
    {α : Type} {Q : α → sProp 𝕄} {kk : PUnit → Prog (TpuEff nD τ sig (Elt F) Λ₀ .tc) α} :
    iprop(recs K N ∗ crd c k (amt u) ∗ owesJ c j ∗ pos c k 0)
      ⊢ iprop(((owesJ c j ∗ pos c k 1 ∗ pay K d u)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 sem src dst h1 h2) kk) Q) := by
  have hx := expect_one K (c, k) d u hd
  have hgc : kcell (c, k) = ((c : Thread nD τ), SemLoc.dma sem) := by rw [← hs]
  unfold owesJ crd pos
  rw [hgc] at hx hd
  have hinv := recs_inv K N (c, k)
  rw [hgc] at hinv ⊢
  rw [hs] at hmw
  iintro ⟨#HR, Hc, ⟨%W, HO⟩, Ha⟩ Hk
  rw [← hN]
  iapply (Rounds.wp_wait_rest_token 𝒱₀ ER (Rd K) (c : Thread nD τ) none (κ := N (c, k))
      (wpE_waitDma2_eq 𝒱₀ (c : Thread nD τ) none Set.univ) (Set.mem_univ _) () (O := Orest c j) (W := W) (R := 0) (m := 0) (T := ∅)
      ((Nat.zero_add _).trans (hN.trans hx.symm))) $$ [Hc HO Ha]
  · isplitr; · iapply hinv; iexact HR
    isplitl [Hc]; · iexact Hc
    isplitl [HO]; · iexact HO
    isplitr; · iapply (recs_mayWait K N c _ j hmw); iexact HR
    iexact Ha
  rw [Finset.sdiff_empty, hd, bigSep_singleton, payload_eq]
  iintro ⟨HO, Ha, -, Hp⟩
  iapply Hk
  isplitl [HO]; · iexists _; iexact HO
  isplitl [Ha]; · iexact Ha
  iexact Hp

/-! ## A semaphore that is done with -/

/-- Device `c`'s semaphore has had all its duties paid and waited for. -/
def closed (c : Dev nD) (k : CK) : sProp 𝕄 :=
  iprop(∃ R : ℕ, ⌜∀ r, R ≤ r → (Rd K).duties (kcell (c, k)) r = ∅⌝ ∗ pos c k R)

theorem closed_used (c : Dev nD) (k : CK) : (pos c k 1 : sProp 𝕄) ⊢ closed K c k := by
  unfold closed; iintro H; iexists 1
  isplitr; · ipureintro; exact duties_later K _
  iexact H

theorem closed_unused (c : Dev nD) (k : CK) (h : (Rd K).duties (kcell (c, k)) 0 = ∅) : (pos c k 0 : sProp 𝕄) ⊢ closed K c k := by
  unfold closed; iintro H; iexists 0
  isplitr
  · ipureintro; intro r _
    rcases Nat.eq_zero_or_pos r with rfl | hr
    · exact h
    · exact duties_later K _ r hr
  iexact H

theorem closed_zero (c : Dev nD) (k : CK) : iprop(recs K N ∗ closed K c k) ⊢ |={Set.univ}=> semVal (kcell (c, k)) 0 := by
  unfold closed pos
  iintro ⟨#HR, %R, %h, H⟩
  iapply (Rounds.cell_close ER (Rd K) (Set.mem_univ (N (c, k))) (fun h => h) h)
  isplitr; · iapply (recs_inv K N (c, k)); iexact HR
  iexact H

end Cert.KernelIdealProof
-- ==== Proof.KernelIdeal.Contents.lean ====
/-
What the kernel's buffers hold: names for the values its loads read, and for the contents its stores leave.
-/
module

public import proofs.«01_k».proof.Proof.KernelIdeal.Steps
public import Idealize.ShloMosaic.Lib.WritesUnit
public import Idealize.ShloMosaic.Lib.Pointwise

@[expose] public section

set_option maxRecDepth 8000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- A memref's memory on device `c`, whole, at contents `X`. -/
abbrev pts (c : Dev nD) {s : Shape} (M : Memref sig .tc .vmem s .f32) (q : PosShare TreeShare)
    (X : Buf (Elt F) (M.view.loc (c : Thread nD τ))) : sProp 𝕄 :=
  (M.view.loc (c : Thread nD τ)) ↦[Finset.univ]{q} X

abbrev xM : Memref sig .tc .vmem S2x128x512 .f32 := Memref.whole cc0_stg0_0
abbrev wqM : Memref sig .tc .vmem S512x256 .f32 := Memref.whole cc0_stg1_0
abbrev kM : Memref sig .tc .vmem S2x128x4x64 .f32 := Memref.whole cc0_stg2_0
abbrev vM : Memref sig .tc .vmem S2x128x4x64 .f32 := Memref.whole cc0_stg3_0
abbrev woM : Memref sig .tc .vmem S256x512 .f32 := Memref.whole cc0_stg4_0
abbrev outM : Memref sig .tc .vmem S2x128x512 .f32 := Memref.whole cc0_stg5_0

/-! ## The values the loads read -/

/-- One head's block of the own keys (`i = 0`) or values (`i = 1`). -/
def ldS (f : Vec F S2x2x4x128x64 .f32) (i b h : ℕ) : Vec F S1x1x1x128x64 .f32 :=
  fun j => f (ix5 (Fin.ofNat 2 i) (Fin.ofNat 2 b) (Fin.ofNat 4 h) (j 3) (j 4))
/-- One head's block of the left (`x = 0`) or right (`x = 1`) neighbour's keys or values. -/
def ldN (f : Vec F S2x2x2x4x128x64 .f32) (x i b h : ℕ) : Vec F S1x1x1x1x128x64 .f32 :=
  fun j => f (ix6 (Fin.ofNat 2 x) (Fin.ofNat 2 i) (Fin.ofNat 2 b) (Fin.ofNat 4 h) (j 4) (j 5))
/-- One head's block of the global keys or values. -/
def ldG (f : Vec F S2x2x4x32x64 .f32) (i b h : ℕ) : Vec F S1x1x1x32x64 .f32 :=
  fun j => f (ix5 (Fin.ofNat 2 i) (Fin.ofNat 2 b) (Fin.ofNat 4 h) (j 3) (j 4))
/-- One head's block of the global queries. -/
def ldQ (f : Vec F S2x4x32x64 .f32) (b h : ℕ) : Vec F S1x1x32x64 .f32 :=
  fun j => f (ix4 (Fin.ofNat 2 b) (Fin.ofNat 4 h) (j 2) (j 3))
/-- One batch of the own rows. -/
def ldX (f : Vec F S2x128x512 .f32) (b : ℕ) : Vec F S1x128x512 .f32 :=
  fun j => f (ix3 (Fin.ofNat 2 b) (j 1) (j 2))
/-- The first 32 of one batch of the own rows. -/
def ldX32 (f : Vec F S2x128x512 .f32) (b : ℕ) : Vec F S1x32x512 .f32 :=
  fun j => f (ix3 (Fin.ofNat 2 b) (Fin.castLE (show 32 ≤ 128 by decide) (j 1)) (j 2))
/-- The first 32 positions of the own keys or values. -/
def ldS32 (f : Vec F S2x2x4x128x64 .f32) (i : ℕ) : Vec F S1x2x4x32x64 .f32 :=
  fun j => f (ix5 (Fin.ofNat 2 i) (j 1) (j 2) (Fin.castLE (show 32 ≤ 128 by decide) (j 3)) (j 4))
/-- One head of all devices' partial numerators. -/
def ldU (f : Vec F S32x2x4x33x64 .f32) (b h : ℕ) : Vec F S32x1x1x32x64 .f32 :=
  fun j => f (ix5 (j 0) (Fin.ofNat 2 b) (Fin.ofNat 4 h) (Fin.castLE (show 32 ≤ 33 by decide) (j 3)) (j 4))
/-- One head of all devices' row maxima and row sums. -/
def ldML (f : Vec F S32x2x4x33x64 .f32) (b h : ℕ) : Vec F S32x1x1x1x64 .f32 :=
  fun j => f (ix5 (j 0) (Fin.ofNat 2 b) (Fin.ofNat 4 h) 32 (j 4))

section Loads

theorem readS (f : Vec F S2x2x4x128x64 .f32) (i b h : ℕ) (inb) :
    View.readAt (Elt F) (stM : Memref sig .tc .vmem S2x2x4x128x64 .f32).view (Rect.unit (s := S2x2x4x128x64) ![i, b, h, 0, 0] S1x1x1x128x64.size inb).toLoadRect f = ldS f i b h := by
  have h0 : i + 1 ≤ 2 := inb 0
  have h1 : b + 1 ≤ 2 := inb 1
  have h2 : h + 1 ≤ 4 := inb 2
  funext j
  refine congrArg f (funext fun d => Fin.ext ?_)
  have e0 : (j 0).val = 0 := by have : (j 0).val < 1 := (j 0).isLt; omega
  have e1 : (j 1).val = 0 := by have : (j 1).val < 1 := (j 1).isLt; omega
  have e2 : (j 2).val = 0 := by have : (j 2).val < 1 := (j 2).isLt; omega
  match d with
  | 0 => show i + 1 * (j 0).val = i % 2; omega
  | 1 => show b + 1 * (j 1).val = b % 2; omega
  | 2 => show h + 1 * (j 2).val = h % 4; omega
  | 3 => show 0 + 1 * (j 3).val = (j 3).val; omega
  | 4 => show 0 + 1 * (j 4).val = (j 4).val; omega

theorem readN (f : Vec F S2x2x2x4x128x64 .f32) (x i b h : ℕ) (inb) :
    View.readAt (Elt F) (nbW : Memref sig .tc .vmem S2x2x2x4x128x64 .f32).view (Rect.unit (s := S2x2x2x4x128x64) ![x, i, b, h, 0, 0] S1x1x1x1x128x64.size inb).toLoadRect f = ldN f x i b h := by
  have hx : x + 1 ≤ 2 := inb 0
  have h0 : i + 1 ≤ 2 := inb 1
  have h1 : b + 1 ≤ 2 := inb 2
  have h2 : h + 1 ≤ 4 := inb 3
  funext j
  refine congrArg f (funext fun d => Fin.ext ?_)
  have e0 : (j 0).val = 0 := by have : (j 0).val < 1 := (j 0).isLt; omega
  have e1 : (j 1).val = 0 := by have : (j 1).val < 1 := (j 1).isLt; omega
  have e2 : (j 2).val = 0 := by have : (j 2).val < 1 := (j 2).isLt; omega
  have e3 : (j 3).val = 0 := by have : (j 3).val < 1 := (j 3).isLt; omega
  match d with
  | 0 => show x + 1 * (j 0).val = x % 2; omega
  | 1 => show i + 1 * (j 1).val = i % 2; omega
  | 2 => show b + 1 * (j 2).val = b % 2; omega
  | 3 => show h + 1 * (j 3).val = h % 4; omega
  | 4 => show 0 + 1 * (j 4).val = (j 4).val; omega
  | 5 => show 0 + 1 * (j 5).val = (j 5).val; omega

theorem readG (f : Vec F S2x2x4x32x64 .f32) (i b h : ℕ) (inb) :
    View.readAt (Elt F) (bkvM : Memref sig .tc .vmem S2x2x4x32x64 .f32).view (Rect.unit (s := S2x2x4x32x64) ![i, b, h, 0, 0] S1x1x1x32x64.size inb).toLoadRect f = ldG f i b h := by
  have h0 : i + 1 ≤ 2 := inb 0
  have h1 : b + 1 ≤ 2 := inb 1
  have h2 : h + 1 ≤ 4 := inb 2
  funext j
  refine congrArg f (funext fun d => Fin.ext ?_)
  have e0 : (j 0).val = 0 := by have : (j 0).val < 1 := (j 0).isLt; omega
  have e1 : (j 1).val = 0 := by have : (j 1).val < 1 := (j 1).isLt; omega
  have e2 : (j 2).val = 0 := by have : (j 2).val < 1 := (j 2).isLt; omega
  match d with
  | 0 => show i + 1 * (j 0).val = i % 2; omega
  | 1 => show b + 1 * (j 1).val = b % 2; omega
  | 2 => show h + 1 * (j 2).val = h % 4; omega
  | 3 => show 0 + 1 * (j 3).val = (j 3).val; omega
  | 4 => show 0 + 1 * (j 4).val = (j 4).val; omega

theorem readQ (f : Vec F S2x4x32x64 .f32) (b h : ℕ) (inb) :
    View.readAt (Elt F) (bqM : Memref sig .tc .vmem S2x4x32x64 .f32).view (Rect.unit (s := S2x4x32x64) ![b, h, 0, 0] S1x1x32x64.size inb).toLoadRect f = ldQ f b h := by
  have h0 : b + 1 ≤ 2 := inb 0
  have h1 : h + 1 ≤ 4 := inb 1
  funext j
  refine congrArg f (funext fun d => Fin.ext ?_)
  have e0 : (j 0).val = 0 := by have : (j 0).val < 1 := (j 0).isLt; omega
  have e1 : (j 1).val = 0 := by have : (j 1).val < 1 := (j 1).isLt; omega
  match d with
  | 0 => show b + 1 * (j 0).val = b % 2; omega
  | 1 => show h + 1 * (j 1).val = h % 4; omega
  | 2 => show 0 + 1 * (j 2).val = (j 2).val; omega
  | 3 => show 0 + 1 * (j 3).val = (j 3).val; omega

theorem readX (f : Vec F S2x128x512 .f32) (b : ℕ) (inb) :
    View.readAt (Elt F) (xM : Memref sig .tc .vmem S2x128x512 .f32).view (Rect.unit (s := S2x128x512) ![b, 0, 0] S1x128x512.size inb).toLoadRect f = ldX f b := by
  have h0 : b + 1 ≤ 2 := inb 0
  funext j
  refine congrArg f (funext fun d => Fin.ext ?_)
  have e0 : (j 0).val = 0 := by have : (j 0).val < 1 := (j 0).isLt; omega
  match d with
  | 0 => show b + 1 * (j 0).val = b % 2; omega
  | 1 => show 0 + 1 * (j 1).val = (j 1).val; omega
  | 2 => show 0 + 1 * (j 2).val = (j 2).val; omega

theorem readX32 (f : Vec F S2x128x512 .f32) (b : ℕ) (inb) :
    View.readAt (Elt F) (xM : Memref sig .tc .vmem S2x128x512 .f32).view (Rect.unit (s := S2x128x512) ![b, 0, 0] S1x32x512.size inb).toLoadRect f = ldX32 f b := by
  have h0 : b + 1 ≤ 2 := inb 0
  funext j
  refine congrArg f (funext fun d => Fin.ext ?_)
  have e0 : (j 0).val = 0 := by have : (j 0).val < 1 := (j 0).isLt; omega
  match d with
  | 0 => show b + 1 * (j 0).val = b % 2; omega
  | 1 => show 0 + 1 * (j 1).val = (j 1).val; omega
  | 2 => show 0 + 1 * (j 2).val = (j 2).val; omega

theorem readS32 (f : Vec F S2x2x4x128x64 .f32) (i : ℕ) (inb) :
    View.readAt (Elt F) (stM : Memref sig .tc .vmem S2x2x4x128x64 .f32).view (Rect.unit (s := S2x2x4x128x64) ![i, 0, 0, 0, 0] S1x2x4x32x64.size inb).toLoadRect f = ldS32 f i := by
  have h0 : i + 1 ≤ 2 := inb 0
  funext j
  refine congrArg f (funext fun d => Fin.ext ?_)
  have e0 : (j 0).val = 0 := by have : (j 0).val < 1 := (j 0).isLt; omega
  match d with
  | 0 => show i + 1 * (j 0).val = i % 2; omega
  | 1 => show 0 + 1 * (j 1).val = (j 1).val; omega
  | 2 => show 0 + 1 * (j 2).val = (j 2).val; omega
  | 3 => show 0 + 1 * (j 3).val = (j 3).val; omega
  | 4 => show 0 + 1 * (j 4).val = (j 4).val; omega

theorem readU (f : Vec F S32x2x4x33x64 .f32) (b h : ℕ) (inb) :
    View.readAt (Elt F) (pbW : Memref sig .tc .vmem S32x2x4x33x64 .f32).view (Rect.unit (s := S32x2x4x33x64) ![0, b, h, 0, 0] S32x1x1x32x64.size inb).toLoadRect f = ldU f b h := by
  have h0 : b + 1 ≤ 2 := inb 1
  have h1 : h + 1 ≤ 4 := inb 2
  funext j
  refine congrArg f (funext fun d => Fin.ext ?_)
  have e1 : (j 1).val = 0 := by have : (j 1).val < 1 := (j 1).isLt; omega
  have e2 : (j 2).val = 0 := by have : (j 2).val < 1 := (j 2).isLt; omega
  match d with
  | 0 => show 0 + 1 * (j 0).val = (j 0).val; omega
  | 1 => show b + 1 * (j 1).val = b % 2; omega
  | 2 => show h + 1 * (j 2).val = h % 4; omega
  | 3 => show 0 + 1 * (j 3).val = (j 3).val; omega
  | 4 => show 0 + 1 * (j 4).val = (j 4).val; omega

theorem readML (f : Vec F S32x2x4x33x64 .f32) (b h : ℕ) (inb) :
    View.readAt (Elt F) (pbW : Memref sig .tc .vmem S32x2x4x33x64 .f32).view (Rect.unit (s := S32x2x4x33x64) ![0, b, h, 32, 0] S32x1x1x1x64.size inb).toLoadRect f = ldML f b h := by
  have h0 : b + 1 ≤ 2 := inb 1
  have h1 : h + 1 ≤ 4 := inb 2
  funext j
  refine congrArg f (funext fun d => Fin.ext ?_)
  have e1 : (j 1).val = 0 := by have : (j 1).val < 1 := (j 1).isLt; omega
  have e2 : (j 2).val = 0 := by have : (j 2).val < 1 := (j 2).isLt; omega
  have e3 : (j 3).val = 0 := by have : (j 3).val < 1 := (j 3).isLt; omega
  match d with
  | 0 => show 0 + 1 * (j 0).val = (j 0).val; omega
  | 1 => show b + 1 * (j 1).val = b % 2; omega
  | 2 => show h + 1 * (j 2).val = h % 4; omega
  | 3 => show 32 + 1 * (j 3).val = 32; omega
  | 4 => show 0 + 1 * (j 4).val = (j 4).val; omega

/-- A whole buffer's load reads what it holds. -/
theorem readK (f : Vec F S2x128x4x64 .f32) (inb) :
    View.readAt (Elt F) (kM : Memref sig .tc .vmem S2x128x4x64 .f32).view (Rect.unit (s := S2x128x4x64) ![0, 0, 0, 0] S2x128x4x64.size inb).toLoadRect f = f :=
  Memref.readAt_unit_zero (Elt F) cc0_stg2_0 (by decide) _ f
theorem readV (f : Vec F S2x128x4x64 .f32) (inb) :
    View.readAt (Elt F) (vM : Memref sig .tc .vmem S2x128x4x64 .f32).view (Rect.unit (s := S2x128x4x64) ![0, 0, 0, 0] S2x128x4x64.size inb).toLoadRect f = f :=
  Memref.readAt_unit_zero (Elt F) cc0_stg3_0 (by decide) _ f
theorem readWq (f : Vec F S512x256 .f32) (inb) :
    View.readAt (Elt F) (wqM : Memref sig .tc .vmem S512x256 .f32).view (Rect.unit (s := S512x256) ![0, 0] S512x256.size inb).toLoadRect f = f :=
  Memref.readAt_unit_zero (Elt F) cc0_stg1_0 (by decide) _ f
theorem readWo (f : Vec F S256x512 .f32) (inb) :
    View.readAt (Elt F) (woM : Memref sig .tc .vmem S256x512 .f32).view (Rect.unit (s := S256x512) ![0, 0] S256x512.size inb).toLoadRect f = f :=
  Memref.readAt_unit_zero (Elt F) cc0_stg4_0 (by decide) _ f
theorem readPs (f : Vec F S2x4x33x64 .f32) (inb) :
    View.readAt (Elt F) (psM : Memref sig .tc .vmem S2x4x33x64 .f32).view (Rect.unit (s := S2x4x33x64) ![0, 0, 0, 0] S2x4x33x64.size inb).toLoadRect f = f :=
  Memref.readAt_unit_zero (Elt F) cc0_scratch4 (by decide) _ f

/-! The same, for a buffer written by its reference. -/

theorem readS' (f : Vec F S2x2x4x128x64 .f32) (i b h : ℕ) (inb) :
    View.readAt (Elt F) (View.whole cc0_scratch0) (Rect.unit (s := S2x2x4x128x64) ![i, b, h, 0, 0] ![1, 1, 1, 128, 64] inb).toLoadRect f = ldS f i b h :=
  readS f i b h inb
theorem readN' (f : Vec F S2x2x2x4x128x64 .f32) (x i b h : ℕ) (inb) :
    View.readAt (Elt F) (View.whole cc0_scratch1) (Rect.unit (s := S2x2x2x4x128x64) ![x, i, b, h, 0, 0] ![1, 1, 1, 1, 128, 64] inb).toLoadRect f = ldN f x i b h :=
  readN f x i b h inb
theorem readG' (f : Vec F S2x2x4x32x64 .f32) (i b h : ℕ) (inb) :
    View.readAt (Elt F) (View.whole cc0_scratch3) (Rect.unit (s := S2x2x4x32x64) ![i, b, h, 0, 0] ![1, 1, 1, 32, 64] inb).toLoadRect f = ldG f i b h :=
  readG f i b h inb
theorem readQ' (f : Vec F S2x4x32x64 .f32) (b h : ℕ) (inb) :
    View.readAt (Elt F) (View.whole cc0_scratch2) (Rect.unit (s := S2x4x32x64) ![b, h, 0, 0] ![1, 1, 32, 64] inb).toLoadRect f = ldQ f b h :=
  readQ f b h inb
theorem readX' (f : Vec F S2x128x512 .f32) (b : ℕ) (inb) :
    View.readAt (Elt F) (View.whole cc0_stg0_0) (Rect.unit (s := S2x128x512) ![b, 0, 0] ![1, 128, 512] inb).toLoadRect f = ldX f b :=
  readX f b inb
theorem readX32' (f : Vec F S2x128x512 .f32) (b : ℕ) (inb) :
    View.readAt (Elt F) (View.whole cc0_stg0_0) (Rect.unit (s := S2x128x512) ![b, 0, 0] ![1, 32, 512] inb).toLoadRect f = ldX32 f b :=
  readX32 f b inb
theorem readS32' (f : Vec F S2x2x4x128x64 .f32) (i : ℕ) (inb) :
    View.readAt (Elt F) (View.whole cc0_scratch0) (Rect.unit (s := S2x2x4x128x64) ![i, 0, 0, 0, 0] ![1, 2, 4, 32, 64] inb).toLoadRect f = ldS32 f i :=
  readS32 f i inb
theorem readU' (f : Vec F S32x2x4x33x64 .f32) (b h : ℕ) (inb) :
    View.readAt (Elt F) (View.whole cc0_scratch5) (Rect.unit (s := S32x2x4x33x64) ![0, b, h, 0, 0] ![32, 1, 1, 32, 64] inb).toLoadRect f = ldU f b h :=
  readU f b h inb
theorem readML' (f : Vec F S32x2x4x33x64 .f32) (b h : ℕ) (inb) :
    View.readAt (Elt F) (View.whole cc0_scratch5) (Rect.unit (s := S32x2x4x33x64) ![0, b, h, 32, 0] ![32, 1, 1, 1, 64] inb).toLoadRect f = ldML f b h :=
  readML f b h inb
theorem readK' (f : Vec F S2x128x4x64 .f32) (inb) :
    View.readAt (Elt F) (View.whole cc0_stg2_0) (Rect.unit (s := S2x128x4x64) ![0, 0, 0, 0] ![2, 128, 4, 64] inb).toLoadRect f = f :=
  readK f inb
theorem readV' (f : Vec F S2x128x4x64 .f32) (inb) :
    View.readAt (Elt F) (View.whole cc0_stg3_0) (Rect.unit (s := S2x128x4x64) ![0, 0, 0, 0] ![2, 128, 4, 64] inb).toLoadRect f = f :=
  readV f inb
theorem readWq' (f : Vec F S512x256 .f32) (inb) :
    View.readAt (Elt F) (View.whole cc0_stg1_0) (Rect.unit (s := S512x256) ![0, 0] ![512, 256] inb).toLoadRect f = f :=
  readWq f inb
theorem readWo' (f : Vec F S256x512 .f32) (inb) :
    View.readAt (Elt F) (View.whole cc0_stg4_0) (Rect.unit (s := S256x512) ![0, 0] ![256, 512] inb).toLoadRect f = f :=
  readWo f inb
theorem readPs' (f : Vec F S2x4x33x64 .f32) (inb) :
    View.readAt (Elt F) (View.whole cc0_scratch4) (Rect.unit (s := S2x4x33x64) ![0, 0, 0, 0] ![2, 4, 33, 64] inb).toLoadRect f = f :=
  readPs f inb

end Loads

/-! ## The contents the stores leave -/

/-- The own keys and values, heads before positions. -/
def stG (k v : Vec F S2x128x4x64 .f32) : Vec F S2x2x4x128x64 .f32 := fun y =>
  if (y 0).val = 1 then k0_pay21 v (ix5 (0 : Fin 1) (y 1) (y 2) (y 3) (y 4)) else k0_pay20 k (ix5 (0 : Fin 1) (y 1) (y 2) (y 3) (y 4))
/-- The global queries. -/
def bqG (x : Vec F S2x128x512 .f32) (wq : Vec F S512x256 .f32) : Vec F S2x4x32x64 .f32 := fun y =>
  k0_pay1 (ldX32 x (y 0).val) wq (ix4 (0 : Fin 1) (y 1) (y 2) (y 3))
/-- The global keys and values. -/
def bkvG (st : Vec F S2x2x4x128x64 .f32) : Vec F S2x2x4x32x64 .f32 := fun y =>
  k0_pay3 (ldS32 st (y 0).val) (ix5 (0 : Fin 1) (y 1) (y 2) (y 3) (y 4))
/-- One device's partial sums: the numerators, then the row maxima and row sums. -/
def psG (bq : Vec F S2x4x32x64 .f32) (st : Vec F S2x2x4x128x64 .f32) : Vec F S2x4x33x64 .f32 := fun y =>
  k0_pay24 (ldQ bq (y 0).val (y 1).val) (ldS st 0 (y 0).val (y 1).val) (ldS st 1 (y 0).val (y 1).val)
    (ix4 (0 : Fin 1) (0 : Fin 1) (y 2) (y 3))
/-- All devices' partial sums, gathered. -/
def pbG (ps : Dev nD → S2x4x33x64.Idx → Elt F .f32) : Vec F S32x2x4x33x64 .f32 := fun y => ps (y 0) (ix4 (y 1) (y 2) (y 3) (y 4))
/-- What came from the left and from the right. -/
def nbG (l r : Vec F S2x2x4x128x64 .f32) : Vec F S2x2x2x4x128x64 .f32 := fun y =>
  if (y 0).val = 1 then r (ix5 (y 1) (y 2) (y 3) (y 4) (y 5)) else l (ix5 (y 1) (y 2) (y 3) (y 4) (y 5))

/-- One head of the attention in the window: the four blocks of keys side by side, the scores of the masked columns
    replaced, the row normalised, and its product with the four blocks of values. -/
def headW (q : FVec F S128x64 .f32) (mask : IVec S128x416 1) (nb : Vec F S2x2x2x4x128x64 .f32) (st : Vec F S2x2x4x128x64 .f32)
    (g : Vec F S2x2x4x32x64 .f32) (b h : ℕ) : FVec F S128x64 .f32 :=
  k0_pay62 (k0_pay59 (ldN nb 0 1 b h) (ldS st 1 b h) (ldN nb 1 1 b h) (ldG g 1 b h))
    (k0_pay60 q mask (k0_pay58 (ldN nb 0 0 b h)) (ldS st 0 b h) (ldN nb 1 0 b h) (ldG g 0 b h))
    (k0_pay61 q mask (k0_pay58 (ldN nb 0 0 b h)) (ldS st 0 b h) (ldN nb 1 0 b h) (ldG g 0 b h))

/-- Four heads side by side times the output weights. -/
def projW (h0 h1 h2 h3 : FVec F S128x64 .f32) (wo : Vec F S256x512 .f32) : FVec F S1x128x512 .f32 :=
  shapeCast S1x128x512 (matmul dot_S128x256_S256x512_S128x512_1_0_0_1_n_n none
    (concatenate S128x256 1 [⟨S128x64, h0⟩, ⟨S128x64, h1⟩, ⟨S128x64, h2⟩, ⟨S128x64, h3⟩] concatenates_S128x64_S128x64_S128x64_S128x64_S128x256_d1)
    (shapeCast S256x512 wo shapeCasts_S256x512_S256x512) (constant S128x512 .f32 0x00000000#32)) shapeCasts_S128x512_S1x128x512

/-- The mask of the window at device `c`, from the device's word. -/
def maskW (w : BitVec 32) : IVec S128x416 1 :=
  k0_pay57 w (k0_pay54 w) (iota .tc S128x416 32 [1] iota_S128x416_d1_w32) (k0_pay55 w) k0_pay56 1#32

/-- One batch of the output rows of the window. -/
def outB (w : BitVec 32) (x : Vec F S2x128x512 .f32) (wq : Vec F S512x256 .f32) (wo : Vec F S256x512 .f32)
    (nb : Vec F S2x2x2x4x128x64 .f32) (st : Vec F S2x2x4x128x64 .f32) (g : Vec F S2x2x4x32x64 .f32) (b : ℕ) : FVec F S1x128x512 .f32 :=
  projW (headW (k0_pay43 (ldX x b) wq) (maskW w) nb st g b 0) (headW (k0_pay44 (ldX x b) wq) (maskW w) nb st g b 1)
    (headW (k0_pay45 (ldX x b) wq) (maskW w) nb st g b 2) (headW (k0_pay46 (ldX x b) wq) (maskW w) nb st g b 3) wo

/-- The output block of the window. -/
def outW (w : BitVec 32) (x : Vec F S2x128x512 .f32) (wq : Vec F S512x256 .f32) (wo : Vec F S256x512 .f32)
    (nb : Vec F S2x2x2x4x128x64 .f32) (st : Vec F S2x2x4x128x64 .f32) (g : Vec F S2x2x4x32x64 .f32) : Vec F S2x128x512 .f32 := fun y =>
  outB w x wq wo nb st g (y 0).val (ix3 (0 : Fin 1) (y 1) (y 2))

/-- One batch of the global rows: the four heads of the combined partial sums, times the output weights. -/
def combB (pb : Vec F S32x2x4x33x64 .f32) (wo : Vec F S256x512 .f32) (b : ℕ) : FVec F S1x32x512 .f32 :=
  k0_pay9 (k0_pay8 (ldU pb b 0) (ldML pb b 0)) (k0_pay8 (ldU pb b 1) (ldML pb b 1)) (k0_pay8 (ldU pb b 2) (ldML pb b 2))
    (ldU pb b 3) (ldML pb b 3) wo

/-- The output block of device 0: the window's, its first 32 rows replaced. -/
def outZ (o : Vec F S2x128x512 .f32) (pb : Vec F S32x2x4x33x64 .f32) (wo : Vec F S256x512 .f32) : Vec F S2x128x512 .f32 := fun y =>
  if h : (y 1).val < 32 then combB pb wo (y 0).val (ix3 (0 : Fin 1) ⟨(y 1).val, h⟩ (y 2)) else o y

theorem pay2_eq (a : Vec F S1x32x512 .f32) (b : Vec F S512x256 .f32) : k0_pay2 a b = k0_pay1 a b := rfl
theorem pay4_eq (a : Vec F S1x2x4x32x64 .f32) : k0_pay4 a = k0_pay3 a := rfl

end Cert.KernelIdealProof

end
-- ==== Proof.KernelIdeal.Stores.lean ====
/-
A buffer after the kernel's stores into it, piece by piece, is the contents named for it.
-/
module

public import proofs.«01_k».proof.Proof.KernelIdeal.Contents

@[expose] public section

set_option maxRecDepth 8000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- A whole buffer's contents are told by reading them. -/
theorem of_read (b : Ref sig .tc) {X Y : b.ty.Contents (Elt F)} (h : ∀ y, (Memref.whole b).view.read (Elt F) X y = Y y) : X = Y := by
  funext y
  have := h y
  rwa [View.read_whole] at this

section Halves
variable {κ : Kind} {sp : Space} {e : EltTy} {Val : EltTy → Type}

/-- Two stores that cover a rank-5 buffer's two halves along the first axis. -/
theorem read_halves5 {a b c d : ℕ} (v : View sig κ sp ⟨5, ![2, a, b, c, d]⟩ e) (f : v.ty.Contents Val) (i1 i0)
    (w1 w0 : (⟨5, ![1, a, b, c, d]⟩ : Shape).Idx → Val e) (y : (⟨5, ![2, a, b, c, d]⟩ : Shape).Idx) :
    v.read Val (v.writes Val f
      [(⟨Rect.unit (s := ⟨5, ![2, a, b, c, d]⟩) ![1, 0, 0, 0, 0] ![1, a, b, c, d] i1, w1⟩ : View.Piece Val _ _),
       ⟨Rect.unit (s := ⟨5, ![2, a, b, c, d]⟩) ![0, 0, 0, 0, 0] ![1, a, b, c, d] i0, w0⟩]) y
      = if (y 0).val = 1 then w1 (ix5 (0 : Fin 1) (y 1) (y 2) (y 3) (y 4)) else w0 (ix5 (0 : Fin 1) (y 1) (y 2) (y 3) (y 4)) := by
  have hy : (y 0).val < 2 := (y 0).isLt
  by_cases h : (y 0).val = 1
  · rw [if_pos h]
    refine View.read_writes_cons_unit_of_mem _ _ i1 _ _ y (ix5 (0 : Fin 1) (y 1) (y 2) (y 3) (y 4)) rfl fun k => ?_
    match k with
    | 0 => exact h
    | 1 => exact (Nat.zero_add _).symm
    | 2 => exact (Nat.zero_add _).symm
    | 3 => exact (Nat.zero_add _).symm
    | 4 => exact (Nat.zero_add _).symm
  · rw [if_neg h]
    refine (View.read_writes_cons_unit_of_not_mem _ _ i1 _ _ y rfl 0 (.inl (show (y 0).val < 1 by omega))).trans ?_
    refine View.read_writes_cons_unit_of_mem _ _ i0 _ _ y (ix5 (0 : Fin 1) (y 1) (y 2) (y 3) (y 4)) rfl fun k => ?_
    match k with
    | 0 => show (y 0).val = 0 + 0; omega
    | 1 => exact (Nat.zero_add _).symm
    | 2 => exact (Nat.zero_add _).symm
    | 3 => exact (Nat.zero_add _).symm
    | 4 => exact (Nat.zero_add _).symm

/-- The same at rank 4. -/
theorem read_halves4 {a b c : ℕ} (v : View sig κ sp ⟨4, ![2, a, b, c]⟩ e) (f : v.ty.Contents Val) (i1 i0)
    (w1 w0 : (⟨4, ![1, a, b, c]⟩ : Shape).Idx → Val e) (y : (⟨4, ![2, a, b, c]⟩ : Shape).Idx) :
    v.read Val (v.writes Val f
      [(⟨Rect.unit (s := ⟨4, ![2, a, b, c]⟩) ![1, 0, 0, 0] ![1, a, b, c] i1, w1⟩ : View.Piece Val _ _),
       ⟨Rect.unit (s := ⟨4, ![2, a, b, c]⟩) ![0, 0, 0, 0] ![1, a, b, c] i0, w0⟩]) y
      = if (y 0).val = 1 then w1 (ix4 (0 : Fin 1) (y 1) (y 2) (y 3)) else w0 (ix4 (0 : Fin 1) (y 1) (y 2) (y 3)) := by
  have hy : (y 0).val < 2 := (y 0).isLt
  by_cases h : (y 0).val = 1
  · rw [if_pos h]
    refine View.read_writes_cons_unit_of_mem _ _ i1 _ _ y (ix4 (0 : Fin 1) (y 1) (y 2) (y 3)) rfl fun k => ?_
    match k with
    | 0 => exact h
    | 1 => exact (Nat.zero_add _).symm
    | 2 => exact (Nat.zero_add _).symm
    | 3 => exact (Nat.zero_add _).symm
  · rw [if_neg h]
    refine (View.read_writes_cons_unit_of_not_mem _ _ i1 _ _ y rfl 0 (.inl (show (y 0).val < 1 by omega))).trans ?_
    refine View.read_writes_cons_unit_of_mem _ _ i0 _ _ y (ix4 (0 : Fin 1) (y 1) (y 2) (y 3)) rfl fun k => ?_
    match k with
    | 0 => show (y 0).val = 0 + 0; omega
    | 1 => exact (Nat.zero_add _).symm
    | 2 => exact (Nat.zero_add _).symm
    | 3 => exact (Nat.zero_add _).symm

/-- Two stores into the first `r` rows of either half of a rank-3 buffer: those rows hold what was stored, the others
    what they held. -/
theorem read_halves3 {r n m : ℕ} (v : View sig κ sp ⟨3, ![2, n, m]⟩ e) (f : v.ty.Contents Val) (i1 i0)
    (w1 w0 : (⟨3, ![1, r, m]⟩ : Shape).Idx → Val e) (y : (⟨3, ![2, n, m]⟩ : Shape).Idx) :
    v.read Val (v.writes Val f
      [(⟨Rect.unit (s := ⟨3, ![2, n, m]⟩) ![1, 0, 0] ![1, r, m] i1, w1⟩ : View.Piece Val _ _),
       ⟨Rect.unit (s := ⟨3, ![2, n, m]⟩) ![0, 0, 0] ![1, r, m] i0, w0⟩]) y
      = if h : (y 1).val < r then
          (if (y 0).val = 1 then w1 (ix3 (0 : Fin 1) ⟨(y 1).val, h⟩ (y 2)) else w0 (ix3 (0 : Fin 1) ⟨(y 1).val, h⟩ (y 2)))
        else v.read Val f y := by
  have hy : (y 0).val < 2 := (y 0).isLt
  by_cases hr : (y 1).val < r
  · rw [dif_pos hr]
    by_cases h : (y 0).val = 1
    · rw [if_pos h]
      refine View.read_writes_cons_unit_of_mem _ _ i1 _ _ y (ix3 (0 : Fin 1) ⟨(y 1).val, hr⟩ (y 2)) rfl fun k => ?_
      match k with
      | 0 => exact h
      | 1 => exact (Nat.zero_add _).symm
      | 2 => exact (Nat.zero_add _).symm
    · rw [if_neg h]
      refine (View.read_writes_cons_unit_of_not_mem _ _ i1 _ _ y rfl 0 (.inl (show (y 0).val < 1 by omega))).trans ?_
      refine View.read_writes_cons_unit_of_mem _ _ i0 _ _ y (ix3 (0 : Fin 1) ⟨(y 1).val, hr⟩ (y 2)) rfl fun k => ?_
      match k with
      | 0 => show (y 0).val = 0 + 0; omega
      | 1 => exact (Nat.zero_add _).symm
      | 2 => exact (Nat.zero_add _).symm
  · rw [dif_neg hr]
    refine (View.read_writes_cons_unit_of_not_mem _ _ i1 _ _ y rfl 1 (.inr (show 0 + r ≤ (y 1).val by omega))).trans ?_
    refine (View.read_writes_cons_unit_of_not_mem _ _ i0 _ _ y rfl 1 (.inr (show 0 + r ≤ (y 1).val by omega))).trans ?_
    rfl

end Halves

theorem st_writes (f k v) (i1 i0) :
    (stM : Memref sig .tc .vmem S2x2x4x128x64 .f32).view.writes (Elt F) f
      [⟨Rect.unit (s := S2x2x4x128x64) ![1, 0, 0, 0, 0] S1x2x4x128x64.size i1, k0_pay21 v⟩,
       ⟨Rect.unit (s := S2x2x4x128x64) ![0, 0, 0, 0, 0] S1x2x4x128x64.size i0, k0_pay20 k⟩] = stG k v :=
  of_read cc0_scratch0 fun y => (read_halves5 _ f i1 i0 _ _ y).trans (by rfl)

theorem bq_writes (f x wq) (i1 i0) :
    (bqM : Memref sig .tc .vmem S2x4x32x64 .f32).view.writes (Elt F) f
      [⟨Rect.unit (s := S2x4x32x64) ![1, 0, 0, 0] S1x4x32x64.size i1, k0_pay1 (ldX32 x 1) wq⟩,
       ⟨Rect.unit (s := S2x4x32x64) ![0, 0, 0, 0] S1x4x32x64.size i0, k0_pay1 (ldX32 x 0) wq⟩] = bqG x wq :=
  of_read cc0_scratch2 fun y => (read_halves4 _ f i1 i0 _ _ y).trans (by
    have hy : (y 0).val < 2 := (y 0).isLt
    unfold bqG
    by_cases h : (y 0).val = 1
    · rw [if_pos h, h]
    · rw [if_neg h, show (y 0).val = 0 by omega])

theorem bkv_writes (f st) (i1 i0) :
    (bkvM : Memref sig .tc .vmem S2x2x4x32x64 .f32).view.writes (Elt F) f
      [⟨Rect.unit (s := S2x2x4x32x64) ![1, 0, 0, 0, 0] S1x2x4x32x64.size i1, k0_pay3 (ldS32 st 1)⟩,
       ⟨Rect.unit (s := S2x2x4x32x64) ![0, 0, 0, 0, 0] S1x2x4x32x64.size i0, k0_pay3 (ldS32 st 0)⟩] = bkvG st :=
  of_read cc0_scratch3 fun y => (read_halves5 _ f i1 i0 _ _ y).trans (by
    have hy : (y 0).val < 2 := (y 0).isLt
    unfold bkvG
    by_cases h : (y 0).val = 1
    · rw [if_pos h, h]
    · rw [if_neg h, show (y 0).val = 0 by omega])

theorem out_writes (w x wq wo nb st g) (f) (i1 i0) :
    (outM : Memref sig .tc .vmem S2x128x512 .f32).view.writes (Elt F) f
      [⟨Rect.unit (s := S2x128x512) ![1, 0, 0] S1x128x512.size i1, outB w x wq wo nb st g 1⟩,
       ⟨Rect.unit (s := S2x128x512) ![0, 0, 0] S1x128x512.size i0, outB w x wq wo nb st g 0⟩] = outW w x wq wo nb st g :=
  of_read cc0_stg5_0 fun y => (read_halves3 _ f i1 i0 _ _ y).trans (by
    have hy : (y 0).val < 2 := (y 0).isLt
    have hr : (y 1).val < 128 := (y 1).isLt
    unfold outW
    rw [dif_pos hr]
    by_cases h : (y 0).val = 1
    · rw [if_pos h, h]; rfl
    · rw [if_neg h, show (y 0).val = 0 by omega]; rfl)

theorem outZ_writes (o pb wo) (i1 i0) :
    (outM : Memref sig .tc .vmem S2x128x512 .f32).view.writes (Elt F) o
      [⟨Rect.unit (s := S2x128x512) ![1, 0, 0] S1x32x512.size i1, combB pb wo 1⟩,
       ⟨Rect.unit (s := S2x128x512) ![0, 0, 0] S1x32x512.size i0, combB pb wo 0⟩] = outZ o pb wo :=
  of_read cc0_stg5_0 fun y => (read_halves3 _ o i1 i0 _ _ y).trans (by
    have hy : (y 0).val < 2 := (y 0).isLt
    unfold outZ
    by_cases hr : (y 1).val < 32
    · rw [dif_pos hr, dif_pos hr]
      by_cases h : (y 0).val = 1
      · rw [if_pos h, h]
      · rw [if_neg h, show (y 0).val = 0 by omega]
    · rw [dif_neg hr, dif_neg hr, View.read_whole])

/-- The piece of the partials' buffer that head `h` of batch `b` is stored to. -/
abbrev psR (b h : ℕ) (inb : ∀ a, (![b, h, 0, 0] : Fin 4 → ℕ) a + S1x1x33x64.size a ≤ S2x4x33x64.size a) : Rect S2x4x33x64 :=
  Rect.unit (s := S2x4x33x64) ![b, h, 0, 0] S1x1x33x64.size inb

/-- One head's partial sums. -/
abbrev psH (bq : Vec F S2x4x32x64 .f32) (st : Vec F S2x2x4x128x64 .f32) (b h : ℕ) : FVec F S1x1x33x64 .f32 :=
  k0_pay24 (ldQ bq b h) (ldS st 0 b h) (ldS st 1 b h)

theorem ps_piece (bq : Vec F S2x4x32x64 .f32) (st : Vec F S2x2x4x128x64 .f32) (b h : ℕ) (inb) (x : (psR b h inb).shape.Idx) :
    psH bq st b h x = psG bq st ((psR b h inb).emb x) := by
  have e0 : (x 0).val = 0 := by have : (x 0).val < 1 := (x 0).isLt; omega
  have e1 : (x 1).val = 0 := by have : (x 1).val < 1 := (x 1).isLt; omega
  have k0 : (((psR b h inb).emb x) 0).val = b := by show b + 1 * (x 0).val = b; omega
  have k1 : (((psR b h inb).emb x) 1).val = h := by show h + 1 * (x 1).val = h; omega
  unfold psG; rw [k0, k1]
  refine congrArg _ (funext fun d => Fin.ext ?_)
  match d with
  | 0 => exact e0
  | 1 => exact e1
  | 2 => show (x 2).val = 0 + 1 * (x 2).val; omega
  | 3 => show (x 3).val = 0 + 1 * (x 3).val; omega

theorem ps_cover (y : S2x4x33x64.Idx) (b h : ℕ) (inb) (h0 : (y 0).val = b) (h1 : (y 1).val = h) : y ∈ (psR b h inb).set := by
  rw [Rect.mem_set_unit]
  intro a
  have h2 : (y 2).val < 33 := (y 2).isLt
  have h3 : (y 3).val < 64 := (y 3).isLt
  match a with
  | 0 => exact ⟨le_of_eq h0.symm, show (y 0).val < b + 1 by omega⟩
  | 1 => exact ⟨le_of_eq h1.symm, show (y 1).val < h + 1 by omega⟩
  | 2 => exact ⟨Nat.zero_le _, show (y 2).val < 0 + 33 by omega⟩
  | 3 => exact ⟨Nat.zero_le _, show (y 3).val < 0 + 64 by omega⟩

/-- The eight pieces. -/
theorem read_ps {κ : Kind} {sp : Space} (v : View sig κ sp S2x4x33x64 .f32) (f : v.ty.Contents (Elt F)) (bq st) (i00 i01 i02 i03 i10 i11 i12 i13)
    (y : S2x4x33x64.Idx) :
    v.read (Elt F) (v.writes (Elt F) f
      [(⟨psR 1 3 i13, psH bq st 1 3⟩ : View.Piece (Elt F) _ _), ⟨psR 1 2 i12, psH bq st 1 2⟩, ⟨psR 1 1 i11, psH bq st 1 1⟩, ⟨psR 1 0 i10, psH bq st 1 0⟩,
       ⟨psR 0 3 i03, psH bq st 0 3⟩, ⟨psR 0 2 i02, psH bq st 0 2⟩, ⟨psR 0 1 i01, psH bq st 0 1⟩, ⟨psR 0 0 i00, psH bq st 0 0⟩]) y = psG bq st y := by
  refine View.read_writes_apply_of_pieces v f (psG bq st) _ (by
    intro p hp'
    simp only [List.mem_cons, List.not_mem_nil, or_false] at hp'
    rcases hp' with rfl | rfl | rfl | rfl | rfl | rfl | rfl | rfl <;> exact fun x => ps_piece bq st _ _ (by assumption) x) y ?_
  have h0 : (y 0).val < 2 := (y 0).isLt
  have h1 : (y 1).val < 4 := (y 1).isLt
  obtain h0 | h0 : (y 0).val = 0 ∨ (y 0).val = 1 := by omega
  all_goals
    obtain h1 | h1 | h1 | h1 : (y 1).val = 0 ∨ (y 1).val = 1 ∨ (y 1).val = 2 ∨ (y 1).val = 3 := by omega
  · exact ⟨⟨psR 0 0 i00, psH bq st 0 0⟩, by simp, ps_cover y 0 0 i00 h0 h1⟩
  · exact ⟨⟨psR 0 1 i01, psH bq st 0 1⟩, by simp, ps_cover y 0 1 i01 h0 h1⟩
  · exact ⟨⟨psR 0 2 i02, psH bq st 0 2⟩, by simp, ps_cover y 0 2 i02 h0 h1⟩
  · exact ⟨⟨psR 0 3 i03, psH bq st 0 3⟩, by simp, ps_cover y 0 3 i03 h0 h1⟩
  · exact ⟨⟨psR 1 0 i10, psH bq st 1 0⟩, by simp, ps_cover y 1 0 i10 h0 h1⟩
  · exact ⟨⟨psR 1 1 i11, psH bq st 1 1⟩, by simp, ps_cover y 1 1 i11 h0 h1⟩
  · exact ⟨⟨psR 1 2 i12, psH bq st 1 2⟩, by simp, ps_cover y 1 2 i12 h0 h1⟩
  · exact ⟨⟨psR 1 3 i13, psH bq st 1 3⟩, by simp, ps_cover y 1 3 i13 h0 h1⟩

theorem ps_writes (bq st f) (i00 i01 i02 i03 i10 i11 i12 i13) :
    (psM : Memref sig .tc .vmem S2x4x33x64 .f32).view.writes (Elt F) f
      [⟨psR 1 3 i13, psH bq st 1 3⟩, ⟨psR 1 2 i12, psH bq st 1 2⟩, ⟨psR 1 1 i11, psH bq st 1 1⟩, ⟨psR 1 0 i10, psH bq st 1 0⟩,
       ⟨psR 0 3 i03, psH bq st 0 3⟩, ⟨psR 0 2 i02, psH bq st 0 2⟩, ⟨psR 0 1 i01, psH bq st 0 1⟩, ⟨psR 0 0 i00, psH bq st 0 0⟩] = psG bq st :=
  of_read cc0_scratch4 fun y => read_ps _ f bq st i00 i01 i02 i03 i10 i11 i12 i13 y

end Cert.KernelIdealProof

end
-- ==== Proof.KernelIdeal.Send.lean ====
/-
Device 0's broadcasts: the global queries, then the global keys and values, are copied to each of the other devices.
What is left of the resources after `k` of the copies is a function of `k`.
-/
module

public import proofs.«01_k».proof.Proof.KernelIdeal.Stores

@[expose] public section

set_option maxRecDepth 65536

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Families by number -/

/-- The numbers from `k` on. -/
abbrev geK (n k : ℕ) : Finset (Fin n) := Finset.univ.filter fun i => k ≤ i.val
/-- The numbers below `k`. -/
abbrev ltK (n k : ℕ) : Finset (Fin n) := Finset.univ.filter fun i => i.val < k

theorem bigSep_geK {n : ℕ} (k : Fin n) (Φ : Fin n → sProp 𝕄) : bigSep (geK n k.val) Φ = iprop(Φ k ∗ bigSep (geK n (k.val + 1)) Φ) := by
  have h : geK n k.val = insert k (geK n (k.val + 1)) := by
    ext i; simp only [Finset.mem_filter, Finset.mem_univ, true_and, Finset.mem_insert, Fin.ext_iff]; omega
  rw [h, bigSep_insert (by simp)]; rfl
theorem bigSep_ltK {n : ℕ} (k : Fin n) (Φ : Fin n → sProp 𝕄) : bigSep (ltK n (k.val + 1)) Φ = iprop(Φ k ∗ bigSep (ltK n k.val) Φ) := by
  have h : ltK n (k.val + 1) = insert k (ltK n k.val) := by
    ext i; simp only [Finset.mem_filter, Finset.mem_univ, true_and, Finset.mem_insert, Fin.ext_iff]; omega
  rw [h, bigSep_insert (by simp)]; rfl
theorem geK_zero (n : ℕ) : geK n 0 = Finset.univ := by ext i; simp
theorem ltK_zero (n : ℕ) : ltK n 0 = ∅ := by ext i; simp
theorem ltK_last (n : ℕ) : ltK n n = Finset.univ := by ext i; simp
theorem geK_last (n : ℕ) : geK n n = ∅ := by ext i; simp

/-! ## A share of a buffer dealt out one by one -/

theorem owns_deal (c : Dev nD) {s : Shape} (M : Memref sig .tc .vmem s .f32) (k : ℕ) (X : s.Idx → Elt F .f32) :
    (owns (c : Thread nD τ) M (Transfers.shareDrop fullShare k) X : sProp 𝕄)
      ⊢ iprop(owns (c : Thread nD τ) M (Transfers.shareTokN fullShare k) X ∗ owns (c : Thread nD τ) M (Transfers.shareDrop fullShare (k + 1)) X) := by
  simp only [owns]
  iintro ⟨%f, %hf, H⟩
  ihave H' := (pointsTo_share (PosShare.mem_left_op_right (Transfers.shareDrop fullShare k))).1 $$ H
  icases H' with ⟨Hl, Hr⟩
  isplitl [Hr]
  · iexists f; isplitr; · ipureintro; exact hf
    iexact Hr
  · iexists f; isplitr; · ipureintro; exact hf
    iexact Hl

variable (K : Cont F) (N : Dev nD × CK → ℕ)

/-- What the copies of the queries work from, `k` of them made. -/
def SQ (k : ℕ) : sProp 𝕄 :=
  iprop(owesJ 0 (3 + k) ∗ owns ((0 : Dev nD) : Thread nD τ) bqM (Transfers.shareDrop fullShare k) K.bq
    ∗ bigSep (geK 31 k) (fun i => iprop(some_ (nth i) bqM ∗ some_ 0 (pbM (nth i)) ∗ tok 0 (.bq i) ∗ tok 0 (.brq i)))
    ∗ bigSep (ltK 31 k) (fun i => crd 0 (.inr (.bq i)) bqN))
/-- What the copies of the keys and values work from, `k` of them made. -/
def SKV (k : ℕ) : sProp 𝕄 :=
  iprop(owesJ 0 (34 + k) ∗ owns ((0 : Dev nD) : Thread nD τ) bkvM (Transfers.shareDrop fullShare k) K.bkv
    ∗ bigSep (geK 31 k) (fun i => iprop(some_ (nth i) bkvM ∗ tok 0 (.bkv i) ∗ tok 0 (.brkv i)))
    ∗ bigSep (ltK 31 k) (fun i => crd 0 (.inr (.bkv i)) bkvN))

theorem step_SQ (k : Fin 31) (n : Dev nD) (hn : n = nth k) (sS : SemLoc sig) (hsS : sS = csem (.inr (.bq k)))
    (sem : SemLoc sig) (hsR : sem = csem (.inr .brq))
    {hsc : (bqM : Memref sig (Dev.tc n : Thread nD τ).2.kind .vmem S2x4x32x64 .f32).view.ref.isScScratch = false}
    {hsrc : (bqM : Memref sig .tc .vmem S2x4x32x64 .f32).view.WordExact} {hdst : (bqM : Memref sig .tc .vmem S2x4x32x64 .f32).view.WordExact}
    {hsem : DmaTarget.Typed .vmem sem (.remote (Dev.tc n : Thread nD τ) bqM sS hsc)}
    {α : Type} {Q : α → sProp 𝕄} {kk : PUnit → Prog (TpuEff nD τ sig (Elt F) Λ₀ .tc) α} :
    iprop(recs K N ∗ SQ K k.val)
      ⊢ iprop((SQ K (k.val + 1) -∗ wp frame (wpE (defs₀ (F := F)) 𝒱₀ ((0 : Dev nD) : Thread nD τ) none) Set.univ (kk ⟨⟩) Q)
          -∗ wp frame (wpE (defs₀ (F := F)) 𝒱₀ ((0 : Dev nD) : Thread nD τ) none) Set.univ
              (.op (.enqueueDma bqM (.remote (Dev.tc n : Thread nD τ) bqM sS hsc) sem hsrc hdst hsem) kk) Q) := by
  subst hsR
  unfold SQ
  rw [bigSep_geK k, bigSep_ltK k]
  iintro ⟨#HR, HO, Hb, ⟨⟨Hd, Hp, Ht, Hr⟩, Hge⟩, Hlt⟩ Hk
  ihave Hb' := (owns_deal 0 bqM k.val K.bq) $$ Hb
  icases Hb' with ⟨Hb, Hb'⟩
  iapply (step_send K N 0 n (nth k) (.bq k) (.brq k) (.inr (.bq k)) (.inr .brq) rfl rfl rfl rfl rfl hn (3 + k.val) rfl bqM bqM sS _ hsS rfl
    (Transfers.shareTokN fullShare k.val) K.bq (some_ 0 (pbM (nth k))) rfl rfl .rfl .rfl) $$ [Hb Hd Hp HO Ht Hr]
  · isplitr; · iexact HR
    isplitl [Hb]; · iexact Hb
    isplitl [Hd]; · iexact Hd
    isplitl [Hp]; · iexact Hp
    isplitl [HO]; · iexact HO
    isplitl [Ht]; · iexact Ht
    iexact Hr
  iintro ⟨Hc, HO⟩
  iapply Hk
  isplitl [HO]; · iexact HO
  isplitl [Hb']; · iexact Hb'
  isplitl [Hge]; · iexact Hge
  isplitl [Hc]; · iexact Hc
  iexact Hlt

theorem step_SKV (k : Fin 31) (n : Dev nD) (hn : n = nth k) (sS : SemLoc sig) (hsS : sS = csem (.inr (.bkv k)))
    (sem : SemLoc sig) (hsR : sem = csem (.inr .brkv))
    {hsc : (bkvM : Memref sig (Dev.tc n : Thread nD τ).2.kind .vmem S2x2x4x32x64 .f32).view.ref.isScScratch = false}
    {hsrc : (bkvM : Memref sig .tc .vmem S2x2x4x32x64 .f32).view.WordExact} {hdst : (bkvM : Memref sig .tc .vmem S2x2x4x32x64 .f32).view.WordExact}
    {hsem : DmaTarget.Typed .vmem sem (.remote (Dev.tc n : Thread nD τ) bkvM sS hsc)}
    {α : Type} {Q : α → sProp 𝕄} {kk : PUnit → Prog (TpuEff nD τ sig (Elt F) Λ₀ .tc) α} :
    iprop(recs K N ∗ SKV K k.val)
      ⊢ iprop((SKV K (k.val + 1) -∗ wp frame (wpE (defs₀ (F := F)) 𝒱₀ ((0 : Dev nD) : Thread nD τ) none) Set.univ (kk ⟨⟩) Q)
          -∗ wp frame (wpE (defs₀ (F := F)) 𝒱₀ ((0 : Dev nD) : Thread nD τ) none) Set.univ
              (.op (.enqueueDma bkvM (.remote (Dev.tc n : Thread nD τ) bkvM sS hsc) sem hsrc hdst hsem) kk) Q) := by
  subst hsR
  unfold SKV
  rw [bigSep_geK k, bigSep_ltK k]
  iintro ⟨#HR, HO, Hb, ⟨⟨Hd, Ht, Hr⟩, Hge⟩, Hlt⟩ Hk
  ihave Hb' := (owns_deal 0 bkvM k.val K.bkv) $$ Hb
  icases Hb' with ⟨Hb, Hb'⟩
  iapply (step_send K N 0 n (nth k) (.bkv k) (.brkv k) (.inr (.bkv k)) (.inr .brkv) rfl rfl rfl rfl rfl hn (34 + k.val) rfl bkvM bkvM sS _ hsS rfl
    (Transfers.shareTokN fullShare k.val) K.bkv iprop(emp) rfl rfl .rfl (by unfold pay; iintro ⟨H, -⟩; iexact H)) $$ [Hb Hd HO Ht Hr]
  · isplitr; · iexact HR
    isplitl [Hb]; · iexact Hb
    isplitl [Hd]; · iexact Hd
    isplitr; · iempintro
    isplitl [HO]; · iexact HO
    isplitl [Ht]; · iexact Ht
    iexact Hr
  iintro ⟨Hc, HO⟩
  iapply Hk
  isplitl [HO]; · iexact HO
  isplitl [Hb']; · iexact Hb'
  isplitl [Hge]; · iexact Hge
  isplitl [Hc]; · iexact Hc
  iexact Hlt

theorem part2_wp (h : k0_cond3 0 = 1#1) (v : BitVec 32) {Q : PUnit → sProp 𝕄} :
    iprop(recs K N ∗ SQ K 0) ⊢ iprop((∀ a, SQ K 7 -∗ Q a) -∗ wp frame (wpE (defs₀ (F := F)) 𝒱₀ ((0 : Dev nD) : Thread nD τ) none) Set.univ (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 0 h v) Q) := by
  rw [k0_part2_eq_skeleton]; unfold k0_part2_skel
  simp only [Prog.lift, Prog.bind_op, Prog.bind_ret, Prog.pure_eq_ret]
  iintro ⟨#HR, H⟩ Hk
  iapply (step_SQ K N 0 _ (Fin.ext k0_dev4_eq) _ rfl _ rfl) $$ [H]
  · isplitr; · iexact HR
    iexact H
  iintro H
  iapply (step_SQ K N 1 _ (Fin.ext k0_dev5_eq) _ rfl _ rfl) $$ [H]
  · isplitr; · iexact HR
    iexact H
  iintro H
  iapply (step_SQ K N 2 _ (Fin.ext k0_dev6_eq) _ rfl _ rfl) $$ [H]
  · isplitr; · iexact HR
    iexact H
  iintro H
  iapply (step_SQ K N 3 _ (Fin.ext k0_dev7_eq) _ rfl _ rfl) $$ [H]
  · isplitr; · iexact HR
    iexact H
  iintro H
  iapply (step_SQ K N 4 _ (Fin.ext k0_dev8_eq) _ rfl _ rfl) $$ [H]
  · isplitr; · iexact HR
    iexact H
  iintro H
  iapply (step_SQ K N 5 _ (Fin.ext k0_dev9_eq) _ rfl _ rfl) $$ [H]
  · isplitr; · iexact HR
    iexact H
  iintro H
  iapply (step_SQ K N 6 _ (Fin.ext k0_dev10_eq) _ rfl _ rfl) $$ [H]
  · isplitr; · iexact HR
    iexact H
  iintro H
  rw [wp_ret]; imodintro
  iapply Hk; iexact H

theorem part3_wp (h : k0_cond3 0 = 1#1)  {Q : PUnit → sProp 𝕄} :
    iprop(recs K N ∗ SQ K 7) ⊢ iprop((∀ a, SQ K 13 -∗ Q a) -∗ wp frame (wpE (defs₀ (F := F)) 𝒱₀ ((0 : Dev nD) : Thread nD τ) none) Set.univ (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 0 h) Q) := by
  rw [k0_part3_eq_skeleton]; unfold k0_part3_skel
  simp only [Prog.lift, Prog.bind_op, Prog.bind_ret, Prog.pure_eq_ret]
  iintro ⟨#HR, H⟩ Hk
  iapply (step_SQ K N 7 _ (Fin.ext k0_dev11_eq) _ rfl _ rfl) $$ [H]
  · isplitr; · iexact HR
    iexact H
  iintro H
  iapply (step_SQ K N 8 _ (Fin.ext k0_dev12_eq) _ rfl _ rfl) $$ [H]
  · isplitr; · iexact HR
    iexact H
  iintro H
  iapply (step_SQ K N 9 _ (Fin.ext k0_dev13_eq) _ rfl _ rfl) $$ [H]
  · isplitr; · iexact HR
    iexact H
  iintro H
  iapply (step_SQ K N 10 _ (Fin.ext k0_dev14_eq) _ rfl _ rfl) $$ [H]
  · isplitr; · iexact HR
    iexact H
  iintro H
  iapply (step_SQ K N 11 _ (Fin.ext k0_dev15_eq) _ rfl _ rfl) $$ [H]
  · isplitr; · iexact HR
    iexact H
  iintro H
  iapply (step_SQ K N 12 _ (Fin.ext k0_dev16_eq) _ rfl _ rfl) $$ [H]
  · isplitr; · iexact HR
    iexact H
  iintro H
  rw [wp_ret]; imodintro
  iapply Hk; iexact H

theorem part4_wp (h : k0_cond3 0 = 1#1)  {Q : BitVec 32 → sProp 𝕄} :
    iprop(recs K N ∗ SQ K 13) ⊢ iprop((∀ a, SQ K 20 -∗ Q a) -∗ wp frame (wpE (defs₀ (F := F)) 𝒱₀ ((0 : Dev nD) : Thread nD τ) none) Set.univ (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 0 h) Q) := by
  rw [k0_part4_eq_skeleton]; unfold k0_part4_skel
  simp only [Prog.lift, Prog.bind_op, Prog.bind_ret, Prog.pure_eq_ret]
  iintro ⟨#HR, H⟩ Hk
  iapply (step_SQ K N 13 _ (Fin.ext k0_dev17_eq) _ rfl _ rfl) $$ [H]
  · isplitr; · iexact HR
    iexact H
  iintro H
  iapply (step_SQ K N 14 _ (Fin.ext k0_dev18_eq) _ rfl _ rfl) $$ [H]
  · isplitr; · iexact HR
    iexact H
  iintro H
  iapply (step_SQ K N 15 _ (Fin.ext k0_dev19_eq) _ rfl _ rfl) $$ [H]
  · isplitr; · iexact HR
    iexact H
  iintro H
  iapply (step_SQ K N 16 _ (Fin.ext k0_dev20_eq) _ rfl _ rfl) $$ [H]
  · isplitr; · iexact HR
    iexact H
  iintro H
  iapply (step_SQ K N 17 _ (Fin.ext k0_dev21_eq) _ rfl _ rfl) $$ [H]
  · isplitr; · iexact HR
    iexact H
  iintro H
  iapply (step_SQ K N 18 _ (Fin.ext k0_dev22_eq) _ rfl _ rfl) $$ [H]
  · isplitr; · iexact HR
    iexact H
  iintro H
  iapply (step_SQ K N 19 _ (Fin.ext k0_dev23_eq) _ rfl _ rfl) $$ [H]
  · isplitr; · iexact HR
    iexact H
  iintro H
  rw [wp_ret]; imodintro
  iapply Hk; iexact H

theorem part5_wp (h : k0_cond3 0 = 1#1) (v : BitVec 32) {Q : PUnit → sProp 𝕄} :
    iprop(recs K N ∗ SQ K 20) ⊢ iprop((∀ a, SQ K 27 -∗ Q a) -∗ wp frame (wpE (defs₀ (F := F)) 𝒱₀ ((0 : Dev nD) : Thread nD τ) none) Set.univ (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 0 h v) Q) := by
  rw [k0_part5_eq_skeleton]; unfold k0_part5_skel
  simp only [Prog.lift, Prog.bind_op, Prog.bind_ret, Prog.pure_eq_ret]
  iintro ⟨#HR, H⟩ Hk
  iapply (step_SQ K N 20 _ (Fin.ext k0_dev24_eq) _ rfl _ rfl) $$ [H]
  · isplitr; · iexact HR
    iexact H
  iintro H
  iapply (step_SQ K N 21 _ (Fin.ext k0_dev25_eq) _ rfl _ rfl) $$ [H]
  · isplitr; · iexact HR
    iexact H
  iintro H
  iapply (step_SQ K N 22 _ (Fin.ext k0_dev26_eq) _ rfl _ rfl) $$ [H]
  · isplitr; · iexact HR
    iexact H
  iintro H
  iapply (step_SQ K N 23 _ (Fin.ext k0_dev27_eq) _ rfl _ rfl) $$ [H]
  · isplitr; · iexact HR
    iexact H
  iintro H
  iapply (step_SQ K N 24 _ (Fin.ext k0_dev28_eq) _ rfl _ rfl) $$ [H]
  · isplitr; · iexact HR
    iexact H
  iintro H
  iapply (step_SQ K N 25 _ (Fin.ext k0_dev29_eq) _ rfl _ rfl) $$ [H]
  · isplitr; · iexact HR
    iexact H
  iintro H
  iapply (step_SQ K N 26 _ (Fin.ext k0_dev30_eq) _ rfl _ rfl) $$ [H]
  · isplitr; · iexact HR
    iexact H
  iintro H
  rw [wp_ret]; imodintro
  iapply Hk; iexact H

theorem part7_wp (h : k0_cond4 0 = 1#1)  {Q : PUnit → sProp 𝕄} :
    iprop(recs K N ∗ SKV K 3) ⊢ iprop((∀ a, SKV K 9 -∗ Q a) -∗ wp frame (wpE (defs₀ (F := F)) 𝒱₀ ((0 : Dev nD) : Thread nD τ) none) Set.univ (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 0 h) Q) := by
  rw [k0_part7_eq_skeleton]; unfold k0_part7_skel
  simp only [Prog.lift, Prog.bind_op, Prog.bind_ret, Prog.pure_eq_ret]
  iintro ⟨#HR, H⟩ Hk
  iapply (step_SKV K N 3 _ (Fin.ext k0_dev38_eq) _ rfl _ rfl) $$ [H]
  · isplitr; · iexact HR
    iexact H
  iintro H
  iapply (step_SKV K N 4 _ (Fin.ext k0_dev39_eq) _ rfl _ rfl) $$ [H]
  · isplitr; · iexact HR
    iexact H
  iintro H
  iapply (step_SKV K N 5 _ (Fin.ext k0_dev40_eq) _ rfl _ rfl) $$ [H]
  · isplitr; · iexact HR
    iexact H
  iintro H
  iapply (step_SKV K N 6 _ (Fin.ext k0_dev41_eq) _ rfl _ rfl) $$ [H]
  · isplitr; · iexact HR
    iexact H
  iintro H
  iapply (step_SKV K N 7 _ (Fin.ext k0_dev42_eq) _ rfl _ rfl) $$ [H]
  · isplitr; · iexact HR
    iexact H
  iintro H
  iapply (step_SKV K N 8 _ (Fin.ext k0_dev43_eq) _ rfl _ rfl) $$ [H]
  · isplitr; · iexact HR
    iexact H
  iintro H
  rw [wp_ret]; imodintro
  iapply Hk; iexact H

theorem part8_wp (h : k0_cond4 0 = 1#1)  {Q : BitVec 32 → sProp 𝕄} :
    iprop(recs K N ∗ SKV K 9) ⊢ iprop((∀ a, SKV K 16 -∗ Q a) -∗ wp frame (wpE (defs₀ (F := F)) 𝒱₀ ((0 : Dev nD) : Thread nD τ) none) Set.univ (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 0 h) Q) := by
  rw [k0_part8_eq_skeleton]; unfold k0_part8_skel
  simp only [Prog.lift, Prog.bind_op, Prog.bind_ret, Prog.pure_eq_ret]
  iintro ⟨#HR, H⟩ Hk
  iapply (step_SKV K N 9 _ (Fin.ext k0_dev44_eq) _ rfl _ rfl) $$ [H]
  · isplitr; · iexact HR
    iexact H
  iintro H
  iapply (step_SKV K N 10 _ (Fin.ext k0_dev45_eq) _ rfl _ rfl) $$ [H]
  · isplitr; · iexact HR
    iexact H
  iintro H
  iapply (step_SKV K N 11 _ (Fin.ext k0_dev46_eq) _ rfl _ rfl) $$ [H]
  · isplitr; · iexact HR
    iexact H
  iintro H
  iapply (step_SKV K N 12 _ (Fin.ext k0_dev47_eq) _ rfl _ rfl) $$ [H]
  · isplitr; · iexact HR
    iexact H
  iintro H
  iapply (step_SKV K N 13 _ (Fin.ext k0_dev48_eq) _ rfl _ rfl) $$ [H]
  · isplitr; · iexact HR
    iexact H
  iintro H
  iapply (step_SKV K N 14 _ (Fin.ext k0_dev49_eq) _ rfl _ rfl) $$ [H]
  · isplitr; · iexact HR
    iexact H
  iintro H
  iapply (step_SKV K N 15 _ (Fin.ext k0_dev50_eq) _ rfl _ rfl) $$ [H]
  · isplitr; · iexact HR
    iexact H
  iintro H
  rw [wp_ret]; imodintro
  iapply Hk; iexact H

theorem part9_wp (h : k0_cond4 0 = 1#1) (v : BitVec 32) {Q : PUnit → sProp 𝕄} :
    iprop(recs K N ∗ SKV K 16) ⊢ iprop((∀ a, SKV K 23 -∗ Q a) -∗ wp frame (wpE (defs₀ (F := F)) 𝒱₀ ((0 : Dev nD) : Thread nD τ) none) Set.univ (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 0 h v) Q) := by
  rw [k0_part9_eq_skeleton]; unfold k0_part9_skel
  simp only [Prog.lift, Prog.bind_op, Prog.bind_ret, Prog.pure_eq_ret]
  iintro ⟨#HR, H⟩ Hk
  iapply (step_SKV K N 16 _ (Fin.ext k0_dev51_eq) _ rfl _ rfl) $$ [H]
  · isplitr; · iexact HR
    iexact H
  iintro H
  iapply (step_SKV K N 17 _ (Fin.ext k0_dev52_eq) _ rfl _ rfl) $$ [H]
  · isplitr; · iexact HR
    iexact H
  iintro H
  iapply (step_SKV K N 18 _ (Fin.ext k0_dev53_eq) _ rfl _ rfl) $$ [H]
  · isplitr; · iexact HR
    iexact H
  iintro H
  iapply (step_SKV K N 19 _ (Fin.ext k0_dev54_eq) _ rfl _ rfl) $$ [H]
  · isplitr; · iexact HR
    iexact H
  iintro H
  iapply (step_SKV K N 20 _ (Fin.ext k0_dev55_eq) _ rfl _ rfl) $$ [H]
  · isplitr; · iexact HR
    iexact H
  iintro H
  iapply (step_SKV K N 21 _ (Fin.ext k0_dev56_eq) _ rfl _ rfl) $$ [H]
  · isplitr; · iexact HR
    iexact H
  iintro H
  iapply (step_SKV K N 22 _ (Fin.ext k0_dev57_eq) _ rfl _ rfl) $$ [H]
  · isplitr; · iexact HR
    iexact H
  iintro H
  rw [wp_ret]; imodintro
  iapply Hk; iexact H

theorem part10_wp (h : k0_cond4 0 = 1#1)  {Q : PUnit → sProp 𝕄} :
    iprop(recs K N ∗ SKV K 23) ⊢ iprop((∀ a, SKV K 29 -∗ Q a) -∗ wp frame (wpE (defs₀ (F := F)) 𝒱₀ ((0 : Dev nD) : Thread nD τ) none) Set.univ (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 0 h) Q) := by
  rw [k0_part10_eq_skeleton]; unfold k0_part10_skel
  simp only [Prog.lift, Prog.bind_op, Prog.bind_ret, Prog.pure_eq_ret]
  iintro ⟨#HR, H⟩ Hk
  iapply (step_SKV K N 23 _ (Fin.ext k0_dev58_eq) _ rfl _ rfl) $$ [H]
  · isplitr; · iexact HR
    iexact H
  iintro H
  iapply (step_SKV K N 24 _ (Fin.ext k0_dev59_eq) _ rfl _ rfl) $$ [H]
  · isplitr; · iexact HR
    iexact H
  iintro H
  iapply (step_SKV K N 25 _ (Fin.ext k0_dev60_eq) _ rfl _ rfl) $$ [H]
  · isplitr; · iexact HR
    iexact H
  iintro H
  iapply (step_SKV K N 26 _ (Fin.ext k0_dev61_eq) _ rfl _ rfl) $$ [H]
  · isplitr; · iexact HR
    iexact H
  iintro H
  iapply (step_SKV K N 27 _ (Fin.ext k0_dev62_eq) _ rfl _ rfl) $$ [H]
  · isplitr; · iexact HR
    iexact H
  iintro H
  iapply (step_SKV K N 28 _ (Fin.ext k0_dev63_eq) _ rfl _ rfl) $$ [H]
  · isplitr; · iexact HR
    iexact H
  iintro H
  rw [wp_ret]; imodintro
  iapply Hk; iexact H

end Cert.KernelIdealProof

end
-- ==== Proof.KernelIdeal.Split.lean ====
/-
The neighbours' buffer is its two rows, and the partials' buffer its thirty-two: splitting them, and joining them again.
-/
module

public import proofs.«01_k».proof.Proof.KernelIdeal.Contents

@[expose] public section

set_option maxRecDepth 8000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- A memref without its leading axis of size one, owned at what it reads of the longer one. -/
theorem owns_squeeze (c : Dev nD) {s s' : Shape} (m : Memref sig .tc .vmem s .f32) (h : s.Squeezes s') (q : PosShare TreeShare)
    (X : s.Idx → Elt F .f32) :
    (owns (c : Thread nD τ) (m.squeeze s' h) q (fun x => X (Shape.reshapeEquiv h.numel_eq x)) : sProp 𝕄) = owns (c : Thread nD τ) m q X := by
  unfold owns
  have hset : (m.squeeze s' h).view.set = m.view.set := View.set_reshape _ _
  have hread (f : m.view.ty.Contents (Elt F)) :
      ((m.squeeze s' h).view.read (Elt F) f = fun x => X (Shape.reshapeEquiv h.numel_eq x)) = (m.view.read (Elt F) f = X) := by
    refine propext ⟨fun e => funext fun y => ?_, fun e => funext fun x => congrFun e (Shape.reshapeEquiv h.numel_eq x)⟩
    have := congrFun e ((Shape.reshapeEquiv h.numel_eq).symm y)
    rw [Equiv.apply_symm_apply] at this
    rw [← this]
    show _ = m.view.read (Elt F) f (Shape.reshapeEquiv h.numel_eq _)
    rw [Equiv.apply_symm_apply]
  show iprop(∃ f : m.view.ty.Contents (Elt F), ⌜(m.squeeze s' h).view.read (Elt F) f = _⌝ ∗ (m.view.loc (c : Thread nD τ) ↦[(m.squeeze s' h).view.set]{q} f)) = _
  rw [hset]
  simp only [hread]

/-! ## The neighbours' buffer -/

theorem nb_inb (t : Fin 2) : ∀ a, (![t.val, 0, 0, 0, 0, 0] : Fin 6 → ℕ) a + S1x2x2x4x128x64.size a ≤ S2x2x2x4x128x64.size a := by
  revert t; decide

/-- Row `t` of the neighbours' buffer. -/
abbrev nbR (t : Fin 2) : Rect S2x2x2x4x128x64 := Rect.unit (s := S2x2x2x4x128x64) ![t.val, 0, 0, 0, 0, 0] S1x2x2x4x128x64.size (nb_inb t)
/-- Row `t` of the partials' buffer. -/
abbrev pbR (t : Fin 32) : Rect S32x2x4x33x64 := Rect.unit (s := S32x2x4x33x64) ![t.val, 0, 0, 0, 0] S1x2x4x33x64.size (pb_inb t)

theorem nbR_disj (t t' : Fin 2) (h : t ≠ t') : Disjoint (nbR t).set (nbR t').set := by
  have := Fin.val_ne_of_ne h
  exact Rect.unit_disjoint 0 (show t.val + 1 ≤ t'.val ∨ t'.val + 1 ≤ t.val by omega)
theorem pbR_disj (t t' : Fin 32) (h : t ≠ t') : Disjoint (pbR t).set (pbR t').set := by
  have := Fin.val_ne_of_ne h
  exact Rect.unit_disjoint 0 (show t.val + 1 ≤ t'.val ∨ t'.val + 1 ≤ t.val by omega)

theorem nbR_cover : (Finset.univ : Finset (Fin 2)).biUnion (fun t => (nbR t).set) = Finset.univ := by
  refine Finset.eq_univ_of_forall fun y => Finset.mem_biUnion.mpr ⟨y 0, Finset.mem_univ _, ?_⟩
  rw [Rect.mem_set_unit]
  intro a
  match a with
  | 0 => exact ⟨le_refl _, Nat.lt_succ_self _⟩
  | 1 => exact ⟨Nat.zero_le _, by rw [show (![(y 0).val, 0, 0, 0, 0, 0] : Fin 6 → ℕ) 1 = 0 from rfl, Nat.zero_add]; exact (y 1).isLt⟩
  | 2 => exact ⟨Nat.zero_le _, by rw [show (![(y 0).val, 0, 0, 0, 0, 0] : Fin 6 → ℕ) 2 = 0 from rfl, Nat.zero_add]; exact (y 2).isLt⟩
  | 3 => exact ⟨Nat.zero_le _, by rw [show (![(y 0).val, 0, 0, 0, 0, 0] : Fin 6 → ℕ) 3 = 0 from rfl, Nat.zero_add]; exact (y 3).isLt⟩
  | 4 => exact ⟨Nat.zero_le _, by rw [show (![(y 0).val, 0, 0, 0, 0, 0] : Fin 6 → ℕ) 4 = 0 from rfl, Nat.zero_add]; exact (y 4).isLt⟩
  | 5 => exact ⟨Nat.zero_le _, by rw [show (![(y 0).val, 0, 0, 0, 0, 0] : Fin 6 → ℕ) 5 = 0 from rfl, Nat.zero_add]; exact (y 5).isLt⟩
theorem pbR_cover : (Finset.univ : Finset (Fin 32)).biUnion (fun t => (pbR t).set) = Finset.univ := by
  refine Finset.eq_univ_of_forall fun y => Finset.mem_biUnion.mpr ⟨y 0, Finset.mem_univ _, ?_⟩
  rw [Rect.mem_set_unit]
  intro a
  match a with
  | 0 => exact ⟨le_refl _, Nat.lt_succ_self _⟩
  | 1 => exact ⟨Nat.zero_le _, by rw [show (![(y 0).val, 0, 0, 0, 0] : Fin 5 → ℕ) 1 = 0 from rfl, Nat.zero_add]; exact (y 1).isLt⟩
  | 2 => exact ⟨Nat.zero_le _, by rw [show (![(y 0).val, 0, 0, 0, 0] : Fin 5 → ℕ) 2 = 0 from rfl, Nat.zero_add]; exact (y 2).isLt⟩
  | 3 => exact ⟨Nat.zero_le _, by rw [show (![(y 0).val, 0, 0, 0, 0] : Fin 5 → ℕ) 3 = 0 from rfl, Nat.zero_add]; exact (y 3).isLt⟩
  | 4 => exact ⟨Nat.zero_le _, by rw [show (![(y 0).val, 0, 0, 0, 0] : Fin 5 → ℕ) 4 = 0 from rfl, Nat.zero_add]; exact (y 4).isLt⟩

/-- Row `t` of the neighbours' buffer as a memref of its own. -/
abbrev nbS (t : Fin 2) : Memref sig .tc .vmem S2x2x4x128x64 .f32 :=
  (nbW.slice (nbR t) (fun _ => rfl)).squeeze S2x2x4x128x64 squeezes_S1x2x2x4x128x64_S2x2x4x128x64

/-- Part `t` of the contents of the neighbours' buffer. -/
theorem nb_part (c : Dev nD) (t : Fin 2) (q : PosShare TreeShare) (X : S2x2x2x4x128x64.Idx → Elt F .f32) :
    (owns (c : Thread nD τ) (nbW.slice (nbR t) (fun _ => rfl)) q (fun j => X ((nbR t).emb j)) : sProp 𝕄)
      = owns (c : Thread nD τ) (nbS t) q (fun x => X (ix6 t (x 0) (x 1) (x 2) (x 3) (x 4))) := by
  rw [← owns_squeeze c _ squeezes_S1x2x2x4x128x64_S2x2x4x128x64]
  refine congrArg _ (funext fun x => congrArg X ?_)
  rw [Shape.reshapeEquiv_cons_one (n := 5) (d := ![2, 2, 4, 128, 64])]
  refine funext fun a => Fin.ext ?_
  match a with
  | 0 => show t.val + 1 * 0 = t.val; omega
  | 1 => show 0 + 1 * (x 0).val = (x 0).val; omega
  | 2 => show 0 + 1 * (x 1).val = (x 1).val; omega
  | 3 => show 0 + 1 * (x 2).val = (x 2).val; omega
  | 4 => show 0 + 1 * (x 3).val = (x 3).val; omega
  | 5 => show 0 + 1 * (x 4).val = (x 4).val; omega

/-- Part `t` of the contents of the partials' buffer. -/
theorem pb_part (c : Dev nD) (t : Fin 32) (q : PosShare TreeShare) (X : S32x2x4x33x64.Idx → Elt F .f32) :
    (owns (c : Thread nD τ) (pbW.slice (pbR t) (fun _ => rfl)) q (fun j => X ((pbR t).emb j)) : sProp 𝕄)
      = owns (c : Thread nD τ) (pbM t) q (fun x => X (ix5 t (x 0) (x 1) (x 2) (x 3))) := by
  rw [← owns_squeeze c _ squeezes_S1x2x4x33x64_S2x4x33x64]
  refine congrArg _ (funext fun x => congrArg X ?_)
  rw [Shape.reshapeEquiv_cons_one (n := 4) (d := ![2, 4, 33, 64])]
  refine funext fun a => Fin.ext ?_
  match a with
  | 0 => show t.val + 1 * 0 = t.val; omega
  | 1 => show 0 + 1 * (x 0).val = (x 0).val; omega
  | 2 => show 0 + 1 * (x 1).val = (x 1).val; omega
  | 3 => show 0 + 1 * (x 2).val = (x 2).val; omega
  | 4 => show 0 + 1 * (x 3).val = (x 3).val; omega

instance elt_nonempty : ∀ e, Nonempty (Elt F e) := inferInstance

theorem nb_split (c : Dev nD) (f : S2x2x2x4x128x64.Idx → Elt F .f32) :
    (pts c nbW fullShare f : sProp 𝕄) ⊢ iprop(some_ c nbM0 ∗ some_ c nbM1) := by
  have h := owns_rects (Name := ℕ) (U := UU) (Lvl := ℕ) (Ix := Unit) (Val := Elt F) (c : Thread nD τ) nbW fullShare nbR (fun _ _ => rfl) nbR_disj nbR_cover f
  have h0 : (pts c nbW fullShare f : sProp 𝕄) ⊢ owns (c : Thread nD τ) nbW fullShare f := by
    rw [owns_whole]
  refine (h0.trans h).trans ?_
  rw [bigSep_congr (fun t _ => nb_part c t fullShare f), BI.bigSep_fin_two]
  show iprop(owns (c : Thread nD τ) (nbS 0) fullShare _ ∗ owns (c : Thread nD τ) (nbS 1) fullShare _) ⊢ (iprop(some_ c nbM0 ∗ some_ c nbM1) : sProp 𝕄)
  iintro ⟨H0, H1⟩
  isplitl [H0]
  · iexists _; iexact H0
  · iexists _; iexact H1

theorem nb_join (c : Dev nD) (l r : S2x2x4x128x64.Idx → Elt F .f32) :
    iprop(owns (c : Thread nD τ) nbM0 fullShare l ∗ owns (c : Thread nD τ) nbM1 fullShare r) ⊢ (pts c nbW fullShare (nbG l r) : sProp 𝕄) := by
  have h := owns_of_rects (Name := ℕ) (U := UU) (Lvl := ℕ) (Ix := Unit) (Val := Elt F) (c : Thread nD τ) nbW fullShare nbR (fun _ _ => rfl) nbR_disj nbR_cover (nbG l r)
  have h0 : owns (c : Thread nD τ) nbW fullShare (nbG l r) ⊢ (pts c nbW fullShare (nbG l r) : sProp 𝕄) := by
    rw [owns_whole]
  refine BIBase.Entails.trans ?_ (h.trans h0)
  rw [bigSep_congr (fun t _ => nb_part c t fullShare (nbG l r)), BI.bigSep_fin_two]
  have e0 : (fun x : S2x2x4x128x64.Idx => nbG l r (ix6 0 (x 0) (x 1) (x 2) (x 3) (x 4))) = l := by
    funext x; show l _ = l x; exact congrArg l (ix5_eta x)
  have e1 : (fun x : S2x2x4x128x64.Idx => nbG l r (ix6 1 (x 0) (x 1) (x 2) (x 3) (x 4))) = r := by
    funext x; show r _ = r x; exact congrArg r (ix5_eta x)
  rw [e0, e1]
  exact .rfl

theorem pb_split (c : Dev nD) (f : S32x2x4x33x64.Idx → Elt F .f32) :
    (pts c pbW fullShare f : sProp 𝕄) ⊢ bigSep Finset.univ fun d : Dev nD => some_ c (pbM d) := by
  have h := owns_rects (Name := ℕ) (U := UU) (Lvl := ℕ) (Ix := Unit) (Val := Elt F) (c : Thread nD τ) pbW fullShare pbR (fun _ _ => rfl) pbR_disj pbR_cover f
  have h0 : (pts c pbW fullShare f : sProp 𝕄) ⊢ owns (c : Thread nD τ) pbW fullShare f := by
    rw [owns_whole]
  refine (h0.trans h).trans ?_
  rw [bigSep_congr (fun t _ => pb_part c t fullShare f)]
  refine bigSep_mono fun t _ => ?_
  show owns (c : Thread nD τ) (pbM t) fullShare _ ⊢ (some_ c (pbM t) : sProp 𝕄)
  iintro H
  iexists _
  iexact H

theorem pb_join (c : Dev nD) (ps : Dev nD → S2x4x33x64.Idx → Elt F .f32) :
    (bigSep Finset.univ fun d : Dev nD => owns (c : Thread nD τ) (pbM d) fullShare (ps d)) ⊢ (pts c pbW fullShare (pbG ps) : sProp 𝕄) := by
  have h := owns_of_rects (Name := ℕ) (U := UU) (Lvl := ℕ) (Ix := Unit) (Val := Elt F) (c : Thread nD τ) pbW fullShare pbR (fun _ _ => rfl) pbR_disj pbR_cover (pbG ps)
  have h0 : owns (c : Thread nD τ) pbW fullShare (pbG ps) ⊢ (pts c pbW fullShare (pbG ps) : sProp 𝕄) := by
    rw [owns_whole]
  refine BIBase.Entails.trans ?_ (h.trans h0)
  rw [bigSep_congr (fun t _ => pb_part c t fullShare (pbG ps))]
  refine bigSep_mono fun d _ => ?_
  have e0 : (fun x : S2x4x33x64.Idx => pbG ps (ix5 d (x 0) (x 1) (x 2) (x 3))) = ps d := by
    funext x; show ps d _ = ps d x; exact congrArg (ps d) (ix4_eta x)
  rw [e0]
  show owns (c : Thread nD τ) (pbM d) fullShare (ps d) ⊢ (owns (c : Thread nD τ) (pbM d) fullShare (ps d) : sProp 𝕄)
  exact .rfl

end Cert.KernelIdealProof

end
-- ==== Proof.KernelIdeal.Comm.lean ====
/-
The parts of the program that talk to the other devices.
-/
module

public import proofs.«01_k».proof.Proof.KernelIdeal.Send
public import proofs.«01_k».proof.Proof.KernelIdeal.Split

@[expose] public section

set_option maxRecDepth 65536

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The branches -/

/-- A device's number as the program computes it. -/
abbrev dw (c : Dev nD) : BitVec 32 := Scalar.remsi (Scalar.divsi (Dev.word c) 1#32) 32#32

theorem br_eq0 (c : Dev nD) : (Scalar.cmpi .ne (Scalar.extui (Scalar.cmpi .eq (dw c) 0#32) : BitVec 32) 0#32 = 1#1) ↔ c = 0 := by revert c; decide
theorem br_ne0 (c : Dev nD) : (Scalar.cmpi .ne (Scalar.extui (Scalar.cmpi .ne (dw c) 0#32) : BitVec 32) 0#32 = 1#1) ↔ c ≠ 0 := by revert c; decide
theorem br_ne31 (c : Dev nD) : (Scalar.cmpi .ne (Scalar.extui (Scalar.cmpi .ne (dw c) 31#32) : BitVec 32) 0#32 = 1#1) ↔ c ≠ 31 := by revert c; decide
theorem cond1_iff (c : Dev nD) : (k0_cond1 c = 1#1) ↔ c ≠ 0 := by revert c; decide
theorem cond3_iff (c : Dev nD) : (k0_cond3 c = 1#1) ↔ c = 0 := by revert c; decide
theorem cond4_iff (c : Dev nD) : (k0_cond4 c = 1#1) ↔ c = 0 := by revert c; decide
theorem cond5_iff (c : Dev nD) : (k0_cond5 c = 1#1) ↔ c ≠ 0 := by revert c; decide
theorem cond6_iff (c : Dev nD) : (k0_cond6 c = 1#1) ↔ c ≠ 31 := by revert c; decide
theorem cond8_iff (c : Dev nD) : (k0_cond8 c = 1#1) ↔ c ≠ 0 := by revert c; decide
theorem cond16_iff (c : Dev nD) : (k0_cond16 c = 1#1) ↔ c ≠ 0 := by revert c; decide
theorem dev1_eq (c : Dev nD) : (⟨k0_dev1 c, k0_dev1_lt c⟩ : Dev nD) = lft c := by revert c; decide
theorem dev2_eq (c : Dev nD) : (⟨k0_dev2 c, k0_dev2_lt c⟩ : Dev nD) = rgt c := by revert c; decide
theorem dev66_eq (c : Dev nD) (h) : (⟨k0_dev66 c, k0_dev66_lt c h⟩ : Dev nD) = lft c := by revert c; decide
theorem dev67_eq (c : Dev nD) (h) : (⟨k0_dev67 c, k0_dev67_lt c h⟩ : Dev nD) = rgt c := by revert c; decide

variable (K : Cont F) (N : Dev nD × CK → ℕ)

theorem mayWait_end (c : Dev nD) (k : CK) : (levAts L lv : sProp 𝕄) ⊢ MayWait (c : Thread nD τ) (csem k) () (Orest c 68) :=
  mayWait c k 68 fun t h1 h2 => by have := ord_lt t h1; omega

/-! ## Buffers and shares -/

theorem pay_barR_lft (c : Dev nD) (h : c ≠ 0) : (pay K (lft c) .barR : sProp 𝕄) = some_ (lft c) nbM1 := by
  unfold pay; rw [if_neg fun e => h ((lft_eq_last c).1 e)]
theorem pay_barL_rgt (c : Dev nD) (h : c ≠ 31) : (pay K (rgt c) .barL : sProp 𝕄) = some_ (rgt c) nbM0 := by
  unfold pay; rw [if_neg fun e => h ((rgt_eq_zero c).1 e)]

theorem own_st (c : Dev nD) (q : PosShare TreeShare) (X : Vec F S2x2x4x128x64 .f32) : (owns (c : Thread nD τ) stM q X : sProp 𝕄) = pts c stM q X := by
  rw [owns_whole]
theorem own_bq (c : Dev nD) (q : PosShare TreeShare) (X : Vec F S2x4x32x64 .f32) : (owns (c : Thread nD τ) bqM q X : sProp 𝕄) = pts c bqM q X := by
  rw [owns_whole]
theorem own_bkv (c : Dev nD) (q : PosShare TreeShare) (X : Vec F S2x2x4x32x64 .f32) : (owns (c : Thread nD τ) bkvM q X : sProp 𝕄) = pts c bkvM q X := by
  rw [owns_whole]
theorem own_ps (c : Dev nD) (q : PosShare TreeShare) (X : Vec F S2x4x33x64 .f32) : (owns (c : Thread nD τ) psM q X : sProp 𝕄) = pts c psM q X := by
  rw [owns_whole]

/-- The left half of a share of the own keys and values, for a copy, and the right one. -/
theorem stage_split (c : Dev nD) (X : Vec F S2x2x4x128x64 .f32) :
    (pts c stM fullShare X : sProp 𝕄) ⊢ iprop(owns (c : Thread nD τ) stM fullShare.left X ∗ pts c stM fullShare.right X) := by
  rw [own_st]; exact (pointsTo_share (PosShare.mem_left_op_right fullShare)).1
theorem stage_split' (c : Dev nD) (X : Vec F S2x2x4x128x64 .f32) :
    (pts c stM fullShare.right X : sProp 𝕄) ⊢ iprop(owns (c : Thread nD τ) stM fullShare.right.left X ∗ pts c stM fullShare.right.right X) := by
  rw [own_st]; exact (pointsTo_share (PosShare.mem_left_op_right fullShare.right)).1
theorem stage_join (c : Dev nD) (X : Vec F S2x2x4x128x64 .f32) :
    iprop(owns (c : Thread nD τ) stM fullShare.left X ∗ pts c stM fullShare.right X) ⊢ (pts c stM fullShare X : sProp 𝕄) := by
  rw [own_st]; exact (pointsTo_share (PosShare.mem_left_op_right fullShare)).2
theorem stage_join' (c : Dev nD) (X : Vec F S2x2x4x128x64 .f32) :
    iprop(owns (c : Thread nD τ) stM fullShare.right.left X ∗ pts c stM fullShare.right.right X) ⊢ (pts c stM fullShare.right X : sProp 𝕄) := by
  rw [own_st]; exact (pointsTo_share (PosShare.mem_left_op_right fullShare.right)).2

/-! ## The stores, for a buffer written by its reference -/

theorem st_writes' (f k v) (i1 i0) :
    (View.whole cc0_scratch0).writes (Elt F) f
      [⟨Rect.unit (s := S2x2x4x128x64) ![1, 0, 0, 0, 0] ![1, 2, 4, 128, 64] i1, k0_pay21 v⟩,
       ⟨Rect.unit (s := S2x2x4x128x64) ![0, 0, 0, 0, 0] ![1, 2, 4, 128, 64] i0, k0_pay20 k⟩] = stG k v := st_writes f k v i1 i0
theorem bq_writes' (f x wq) (i1 i0) :
    (View.whole cc0_scratch2).writes (Elt F) f
      [⟨Rect.unit (s := S2x4x32x64) ![1, 0, 0, 0] ![1, 4, 32, 64] i1, k0_pay1 (ldX32 x 1) wq⟩,
       ⟨Rect.unit (s := S2x4x32x64) ![0, 0, 0, 0] ![1, 4, 32, 64] i0, k0_pay1 (ldX32 x 0) wq⟩] = bqG x wq := bq_writes f x wq i1 i0
theorem bkv_writes' (f st) (i1 i0) :
    (View.whole cc0_scratch3).writes (Elt F) f
      [⟨Rect.unit (s := S2x2x4x32x64) ![1, 0, 0, 0, 0] ![1, 2, 4, 32, 64] i1, k0_pay3 (ldS32 st 1)⟩,
       ⟨Rect.unit (s := S2x2x4x32x64) ![0, 0, 0, 0, 0] ![1, 2, 4, 32, 64] i0, k0_pay3 (ldS32 st 0)⟩] = bkvG st := bkv_writes f st i1 i0

/-! ## The first signals -/

theorem part30_wp (c : Dev nD) {Q : (Σ' (d0 : Dev nD) (v2 : BitVec 32) (v13 : BitVec 32) (v24 : BitVec 32), Sems sig S_) → sProp 𝕄} :
    iprop(recs K N ∗ owesJ c 0 ∗ tok c .barL ∗ tok c .barR ∗ pay K c .barL ∗ pay K c .barR)
      ⊢ iprop((∀ v13 v24, owesJ c 2 -∗ Q ⟨c, dw c, v13, v24, SemArray.scalar (sig.barrier 0 rfl)⟩) -∗ wp frame (wpE (defs₀ (F := F)) 𝒱₀ (c : Thread nD τ) none) Set.univ (k0_part30 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 ) Q) := by
  rw [k0_part30_eq_skeleton]; unfold k0_part30_skel
  simp only [semSignalWord, Prog.lift, Prog.bind_op, Prog.bind_ret, Prog.pure_eq_ret, wp_deviceId]
  iintro ⟨#HR, HO, Ht1, Ht2, Hp1, Hp2⟩ Hk
  iapply (step_signal K N c _ (lft c) .barL rfl rfl rfl rfl (dev1_eq c) 0 rfl) $$ [HO Ht1 Hp1]
  · isplitr; · iexact HR
    isplitl [HO]; · iexact HO
    isplitl [Ht1]; · iexact Ht1
    iexact Hp1
  iintro HO
  iapply (step_signal K N c _ (rgt c) .barR rfl rfl rfl rfl (dev2_eq c) 1 rfl) $$ [HO Ht2 Hp2]
  · isplitr; · iexact HR
    isplitl [HO]; · iexact HO
    isplitl [Ht2]; · iexact Ht2
    iexact Hp2
  iintro HO
  rw [wp_ret]; imodintro
  iapply Hk; iexact HO

/-! ## Barrier, own keys and values, the copy to the left -/

theorem part31_pos (c : Dev nD) (h0 : c ≠ 0) (k v : Vec F S2x128x4x64 .f32) (f : Vec F S2x2x4x128x64 .f32) (hst : K.st c = stG k v)
    (v13 : BitVec 32) {Q : PUnit → sProp 𝕄} :
    iprop(recs K N ∗ owesJ c 2 ∗ tok c .bar0 ∗ pay K c .bar0 ∗ crd c (.inl ()) 2 ∗ pos c (.inl ()) 0
        ∗ pts c kM fullShare k ∗ pts c vM fullShare v ∗ pts c stM fullShare f ∗ tok c .ns0 ∗ tok c .nr1)
      ⊢ iprop((∀ a, (owesJ c 66 ∗ pos c (.inl ()) 1 ∗ pay K (rgt c) .barL ∗ crd c (.inr (.nsend 0)) stN
          ∗ pts c kM fullShare k ∗ pts c vM fullShare v ∗ pts c stM fullShare.right (stG k v)) -∗ Q a)
        -∗ wp frame (wpE (defs₀ (F := F)) 𝒱₀ (c : Thread nD τ) none) Set.univ (k0_part31 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c (dw c) v13 (SemArray.scalar (sig.barrier 0 rfl))) Q) := by
  rw [k0_part31_eq_skeleton]; unfold k0_part31_skel
  simp only [dif_pos ((cond1_iff c).2 h0), dif_neg (fun h => h0 ((br_eq0 c).1 h)), dif_neg (fun h => h0 ((cond3_iff c).1 h)), dif_neg (fun h => h0 ((cond4_iff c).1 h)),
    dif_pos ((cond5_iff c).2 h0)]
  simp only [semSignalWord, semWaitWord, Prog.lift, Prog.bind_op, Prog.bind_ret, Prog.pure_eq_ret]
  iintro ⟨#HR, HO, Ht, Hp, Hc, Ha, H2, H3, H6, Hts, Htr⟩ Hk
  iapply (step_signal K N c _ 0 .bar0 (by simpa [valid] using h0) rfl rfl rfl (Fin.ext k0_dev3_eq) 2 rfl) $$ [HO Ht Hp]
  · isplitr; · iexact HR
    isplitl [HO]; · iexact HO
    isplitl [Ht]; · iexact Ht
    iexact Hp
  iintro HO
  iapply (step_bar K N c _ (expect_bar K c h0).symm) $$ [Hc HO Ha]
  · isplitr; · iexact HR
    isplitl [Hc]; · iexact Hc
    isplitl [HO]; · iexact HO
    iexact Ha
  have e : (bigSep ((Rd K).duties (kcell (c, .inl ())) 0) (fun t => pay K t.1 t.2) : sProp 𝕄) = iprop(pay K (rgt c) .barL ∗ pay K (lft c) .barR) := by
    rw [duties_bar K c h0, bigSep_insert (by intro h; have := congrArg Prod.snd (Finset.mem_singleton.mp h); cases this), bigSep_singleton]; rfl
  rw [e]
  iintro ⟨HO, Ha, HpL, HpR⟩
  sl_exec
  simp only [readK', readV']
  rw [st_writes']
  ihave H6' := (stage_split c (stG k v)) $$ H6
  icases H6' with ⟨Hl, H6⟩
  ihave Hd := (Entails.of_eq (pay_barR_lft K c h0)) $$ HpR
  ihave HO := (owesJ_skip c 3 65 (Orest_skip c 3 65 (by omega) fun t h1 h2 h3 h4 => by
    cases t <;> simp [valid, ord, h0] at h1 h3 h4)) $$ HO
  iapply (step_send K N c _ (lft c) .ns0 .nr1 (.inr (.nsend 0)) (.inr (.nrecv 1)) (by simpa [valid] using h0) (by simpa [valid] using h0) rfl rfl rfl
    (dev66_eq c ((cond5_iff c).2 h0)) 65 rfl stM nbM1 _ _ rfl rfl fullShare.left (stG k v) iprop(emp) rfl rfl
    (by unfold pay; rw [hst]) (by unfold pay; rw [hst]; iintro ⟨H, -⟩; iexact H)) $$ [Hl Hd HO Hts Htr]
  · isplitr; · iexact HR
    isplitl [Hl]; · iexact Hl
    isplitl [Hd]; · iexact Hd
    isplitr; · iempintro
    isplitl [HO]; · iexact HO
    isplitl [Hts]; · iexact Hts
    iexact Htr
  iintro ⟨Hcr, HO⟩
  rw [wp_ret]; imodintro
  iapply Hk
  isplitl [HO]; · iexact HO
  isplitl [Ha]; · iexact Ha
  isplitl [HpL]; · iexact HpL
  isplitl [Hcr]; · iexact Hcr
  isplitl [H2]; · iexact H2
  isplitl [H3]; · iexact H3
  iexact H6

/-- The sending half of the copy to the right: on the last device, which makes none, the source itself. -/
def crR (c : Dev nD) : sProp 𝕄 := if c = 31 then owns (c : Thread nD τ) stM fullShare.right.left (K.st c) else crd c (.inr (.nsend 1)) stN

theorem pay_brq (c : Dev nD) (h : c ≠ 0) : (pay K 0 (.brq (idx c)) : sProp 𝕄) = iprop(owns (c : Thread nD τ) bqM fullShare K.bq ∗ some_ 0 (pbM c)) := by
  show _ = _; dsimp only [pay]; rw [nth_idx c h]
theorem pay_brkv (c : Dev nD) (h : c ≠ 0) : (pay K 0 (.brkv (idx c)) : sProp 𝕄) = owns (c : Thread nD τ) bkvM fullShare K.bkv := by
  show _ = _; dsimp only [pay]; rw [nth_idx c h]

theorem Orest_last : Orest (31 : Dev nD) 66 = Orest 31 67 := Orest_skip 31 66 67 (by omega) fun t h1 h2 h3 h4 => by
  cases t <;> simp [valid, ord] at h1 h3 h4 <;> omega

theorem part32_pos (c : Dev nD) (h0 : c ≠ 0) (st : Vec F S2x2x4x128x64 .f32) (hst : K.st c = st) (ps : Vec F S2x4x33x64 .f32)
    (v24 : BitVec 32) {Q : FVec F S33x64 .f32 → sProp 𝕄} :
    iprop(recs K N ∗ owesJ c 66 ∗ pay K (rgt c) .barL ∗ tok c .ns1 ∗ tok c .nr0 ∗ pts c stM fullShare.right st
        ∗ crd c (.inr .brq) bqN ∗ pos c (.inr .brq) 0 ∗ pts c psM fullShare ps)
      ⊢ iprop(((owesJ c 67 ∗ crR K c ∗ pts c stM fullShare.right.right st ∗ pos c (.inr .brq) 1 ∗ pts c bqM fullShare K.bq
          ∗ some_ 0 (pbM c) ∗ pts c psM fullShare ps) -∗ Q (k0_pay22 (ldQ K.bq 0 0) (ldS st 0 0 0) (ldS st 1 0 0)))
        -∗ wp frame (wpE (defs₀ (F := F)) 𝒱₀ (c : Thread nD τ) none) Set.univ (k0_part32 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c (dw c) v24) Q) := by
  rw [k0_part32_eq_skeleton]; unfold k0_part32_skel
  simp only [dif_pos ((br_ne0 c).2 h0)]
  iintro ⟨#HR, HO, HpL, Hts, Htr, H6, Hc, Ha, H10⟩ Hk
  by_cases h31 : c = 31
  · subst h31
    simp only [dif_neg (fun h => (cond6_iff 31).1 h rfl)]
    simp only [Prog.lift, Prog.bind_op, Prog.bind_ret, Prog.pure_eq_ret]
    ihave HO := (owesJ_skip 31 66 67 Orest_last) $$ HO
    ihave H6' := (stage_split' 31 st) $$ H6
    icases H6' with ⟨Hl, H6⟩
    iapply (step_wait K N 31 (.inr .brq) 0 (.brq (idx 31)) (duties_brq K 31 h0) 67 (mayWait_brq 31) bqM bqM _ rfl rfl) $$ [Hc HO Ha]
    · isplitr; · iexact HR
      isplitl [Hc]; · iexact Hc
      isplitl [HO]; · iexact HO
      iexact Ha
    rw [pay_brq K 31 h0]
    iintro ⟨HO, Ha, Hb, Hpb⟩
    ihave H8 := (Entails.of_eq (own_bq 31 fullShare K.bq)) $$ Hb
    sl_exec
    rw [wp_ret]; imodintro
    unfold part32_pos.sl.v65 part32_pos.sl.v76
    simp only [readS', readQ']
    iapply Hk
    unfold crR; rw [if_pos rfl, hst]
    isplitl [HO]; · iexact HO
    isplitl [Hl]; · iexact Hl
    isplitl [H6]; · iexact H6
    isplitl [Ha]; · iexact Ha
    isplitl [H8]; · iexact H8
    isplitl [Hpb]; · iexact Hpb
    iexact H10
  · simp only [dif_pos ((cond6_iff c).2 h31)]
    simp only [Prog.lift, Prog.bind_op, Prog.bind_ret, Prog.pure_eq_ret]
    ihave H6' := (stage_split' c st) $$ H6
    icases H6' with ⟨Hl, H6⟩
    ihave Hd := (Entails.of_eq (pay_barL_rgt K c h31)) $$ HpL
    iapply (step_send K N c _ (rgt c) .ns1 .nr0 (.inr (.nsend 1)) (.inr (.nrecv 0)) (by simpa [valid] using h31) (by simpa [valid] using h31) rfl rfl rfl
      (dev67_eq c ((cond6_iff c).2 h31)) 66 rfl stM nbM0 _ _ rfl rfl fullShare.right.left st iprop(emp) rfl rfl
      (by unfold pay; rw [hst]) (by unfold pay; rw [hst]; iintro ⟨H, -⟩; iexact H)) $$ [Hl Hd HO Hts Htr]
    · isplitr; · iexact HR
      isplitl [Hl]; · iexact Hl
      isplitl [Hd]; · iexact Hd
      isplitr; · iempintro
      isplitl [HO]; · iexact HO
      isplitl [Hts]; · iexact Hts
      iexact Htr
    iintro ⟨Hcr, HO⟩
    iapply (step_wait K N c (.inr .brq) 0 (.brq (idx c)) (duties_brq K c h0) 67 (mayWait_brq c) bqM bqM _ rfl rfl) $$ [Hc HO Ha]
    · isplitr; · iexact HR
      isplitl [Hc]; · iexact Hc
      isplitl [HO]; · iexact HO
      iexact Ha
    rw [pay_brq K c h0]
    iintro ⟨HO, Ha, Hb, Hpb⟩
    ihave H8 := (Entails.of_eq (own_bq c fullShare K.bq)) $$ Hb
    sl_exec
    rw [wp_ret]; imodintro
    unfold part32_pos.sl.v65_1 part32_pos.sl.v76_1
    simp only [readS', readQ']
    iapply Hk
    unfold crR; rw [if_neg h31]
    isplitl [HO]; · iexact HO
    isplitl [Hcr]; · iexact Hcr
    isplitl [H6]; · iexact H6
    isplitl [Ha]; · iexact Ha
    isplitl [H8]; · iexact H8
    isplitl [Hpb]; · iexact Hpb
    iexact H10

theorem part32_zero (st : Vec F S2x2x4x128x64 .f32) (hst : K.st 0 = st) (ps : Vec F S2x4x33x64 .f32) (bq : Vec F S2x4x32x64 .f32) (q : PosShare TreeShare)
    (v24 : BitVec 32) {Q : FVec F S33x64 .f32 → sProp 𝕄} :
    iprop(recs K N ∗ owesJ 0 66 ∗ pay K (rgt 0) .barL ∗ tok 0 .ns1 ∗ tok 0 .nr0 ∗ pts 0 stM fullShare.right st
        ∗ pts 0 bqM q bq ∗ pts 0 psM fullShare ps)
      ⊢ iprop(((owesJ 0 67 ∗ crR K 0 ∗ pts 0 stM fullShare.right.right st ∗ pts 0 bqM q bq
          ∗ pts 0 psM fullShare ps) -∗ Q (k0_pay22 (ldQ bq 0 0) (ldS st 0 0 0) (ldS st 1 0 0)))
        -∗ wp frame (wpE (defs₀ (F := F)) 𝒱₀ ((0 : Dev nD) : Thread nD τ) none) Set.univ (k0_part32 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 0 (dw 0) v24) Q) := by
  rw [k0_part32_eq_skeleton]; unfold k0_part32_skel
  have h31 : (0 : Dev nD) ≠ 31 := by decide
  simp only [dif_neg (fun h => (br_ne0 0).1 h rfl), dif_pos ((cond6_iff 0).2 h31)]
  simp only [Prog.lift, Prog.bind_op, Prog.bind_ret, Prog.pure_eq_ret]
  iintro ⟨#HR, HO, HpL, Hts, Htr, H6, H8, H10⟩ Hk
  ihave H6' := (stage_split' 0 st) $$ H6
  icases H6' with ⟨Hl, H6⟩
  ihave Hd := (Entails.of_eq (pay_barL_rgt K 0 h31)) $$ HpL
  iapply (step_send K N 0 _ (rgt 0) .ns1 .nr0 (.inr (.nsend 1)) (.inr (.nrecv 0)) (by simpa [valid] using h31) (by simpa [valid] using h31) rfl rfl rfl
    (dev67_eq 0 ((cond6_iff 0).2 h31)) 66 rfl stM nbM0 _ _ rfl rfl fullShare.right.left st iprop(emp) rfl rfl
    (by unfold pay; rw [hst]) (by unfold pay; rw [hst]; iintro ⟨H, -⟩; iexact H)) $$ [Hl Hd HO Hts Htr]
  · isplitr; · iexact HR
    isplitl [Hl]; · iexact Hl
    isplitl [Hd]; · iexact Hd
    isplitr; · iempintro
    isplitl [HO]; · iexact HO
    isplitl [Hts]; · iexact Hts
    iexact Htr
  iintro ⟨Hcr, HO⟩
  sl_exec
  rw [wp_ret]; imodintro
  unfold part32_zero.sl.v65 part32_zero.sl.v76
  simp only [readS', readQ']
  iapply Hk
  unfold crR; rw [if_neg h31]
  isplitl [HO]; · iexact HO
  isplitl [Hcr]; · iexact Hcr
  isplitl [H6]; · iexact H6
  isplitl [H8]; · iexact H8
  iexact H10

end Cert.KernelIdealProof

end
-- ==== Proof.KernelIdeal.Comm2.lean ====
/-
The parts of the program in the middle of the kernel that talk to the other devices: the partial sums go to device 0,
the neighbours' keys and values arrive.
-/
module

public import proofs.«01_k».proof.Proof.KernelIdeal.Comm

@[expose] public section

set_option maxRecDepth 65536

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (K : Cont F) (N : Dev nD × CK → ℕ)

/-! ## The partial sums -/

theorem pb_off (c : Dev nD) (off : Fin 5 → ℕ) (h : off = ![c.val, 0, 0, 0, 0]) (inb : ∀ a, off a + S1x2x4x33x64.size a ≤ S32x2x4x33x64.size a) :
    ((pbW.slice (Rect.unit (s := S32x2x4x33x64) off S1x2x4x33x64.size inb) (fun _ => rfl)).squeeze S2x4x33x64 squeezes_S1x2x4x33x64_S2x4x33x64 : Memref sig .tc .vmem S2x4x33x64 .f32)
      = pbM c := by subst h; rfl
theorem pr_sem (c : Dev nD) (off : Fin 1 → ℕ) (h : off = ![c.val]) (inb : ∀ a, off a + S1.size a ≤ S32.size a) :
    (SemLoc.dma ((cc0_scratch13.slice (Rect.unit (s := S32) off S1.size inb)).squeeze S_ squeezes_S1_S_).sem : SemLoc sig) = csem (.inr (.pr c)) := by
  subst h
  refine congrArg SemLoc.dma (Fin.ext ?_)
  show 75 + _ = 75 + c.val
  congr 1
  refine (Shape.rowMajor_val_one _).trans ?_
  have hz (z : Fin 1) : c.val + 1 * z.val = c.val := by omega
  exact hz _

theorem own_pb0 (X : Vec F S2x4x33x64 .f32) :
    (owns ((0 : Dev nD) : Thread nD τ) (pbW.slice (pbR 0) (fun _ => rfl)) fullShare (k0_pay41 X) : sProp 𝕄)
      = owns ((0 : Dev nD) : Thread nD τ) (pbM 0) fullShare X := by
  rw [← owns_squeeze 0 _ squeezes_S1x2x4x33x64_S2x4x33x64]
  refine congrArg _ (funext fun x => ?_)
  unfold k0_pay41
  refine congrArg X ((Shape.rowMajor _).injective (Fin.ext ?_))
  exact (Shape.rowMajor_reshapeEquiv _ _).trans (Shape.rowMajor_reshapeEquiv _ _)

/-- Row 0 of the gathered partial sums, and the whole buffer's access to it. -/
abbrev pbR0 : Rect S32x2x4x33x64 :=
  Rect.unit (s := S32x2x4x33x64) ![0, 0, 0, 0, 0] S1x2x4x33x64.size inb_S32x2x4x33x64_S1x2x4x33x64_0_0_0_0_0
abbrev pbA : View sig .tc .vmem S1x2x4x33x64 .f32 := (pbW : Memref sig .tc .vmem S32x2x4x33x64 .f32).access pbR0

theorem pb0_open : (some_ 0 (pbM 0) : sProp 𝕄) ⊢ iprop(∃ f : Buf (Elt F) ((pbA).loc ((0 : Dev nD) : Thread nD τ)),
    (pbA).loc ((0 : Dev nD) : Thread nD τ) ↦[(pbA).set]{fullShare} f) := by
  unfold some_ owns
  rw [show (pbM 0 : Memref sig .tc .vmem S2x4x33x64 .f32).view.set = (pbA).set from View.set_reshape _ _]
  iintro ⟨%X, %f, %hf, H⟩
  iexists f
  iexact H

theorem pb0_close (X : Vec F S2x4x33x64 .f32) (f : Buf (Elt F) ((pbA).loc ((0 : Dev nD) : Thread nD τ))) :
    ((pbA).loc ((0 : Dev nD) : Thread nD τ) ↦[(pbA).set]{fullShare} ((pbA).write (Elt F) f (k0_pay41 X) Finset.univ) : sProp 𝕄)
      ⊢ owns ((0 : Dev nD) : Thread nD τ) (pbM 0) fullShare X := by
  rw [← own_pb0]
  have h := owns_intro (Val := Elt F) (U := UU) (Name := ℕ) (Lvl := ℕ) (Ix := Unit) ((0 : Dev nD) : Thread nD τ) (pbW.slice (pbR 0) (fun _ => rfl)) fullShare
    ((pbA).write (Elt F) f (k0_pay41 X) Finset.univ)
  have e : (pbW.slice (pbR 0) (fun _ => rfl) : Memref sig .tc .vmem S1x2x4x33x64 .f32).view.read (Elt F) ((pbA).write (Elt F) f (k0_pay41 X) Finset.univ) = k0_pay41 X :=
    View.read_write_univ _ _
  rw [e] at h
  exact h

theorem part38_pos (c : Dev nD) (h0 : c ≠ 0) (st : Vec F S2x2x4x128x64 .f32) (ps psF : Vec F S2x4x33x64 .f32) (x : Vec F S2x128x512 .f32) (wq : Vec F S512x256 .f32) (q6 q0 q1 : PosShare TreeShare)
    (v223 : FVec F S32x128 .f32) (v224 : FVec F S32 .f32) (v226 : FVec F S32x128 .f32)
    (hps : ∀ i, (View.whole cc0_scratch4).writes (Elt F) ps [⟨Rect.unit (s := S2x4x33x64) ![1, 3, 0, 0] ![1, 1, 33, 64] i, k0_pay40 v223 v224 v226 (ldS st 1 1 3)⟩] = psF) (hK : K.ps c = psF) {Q : (Σ' (v250 : FVec F S128x64 .f32) (v251 : FVec F S128x64 .f32) (v252 : FVec F S128x64 .f32) (v253 : FVec F S128x64 .f32) (v255 : FVec F S128x512 .f32), FVec F S512x256 .f32) → sProp 𝕄} :
    iprop(recs K N ∗ owesJ c 67 ∗ some_ 0 (pbM c) ∗ tok c .ps ∗ tok c .pr ∗ pts c stM q6 st ∗ pts c psM fullShare ps ∗ pts c xM q0 x ∗ pts c wqM q1 wq)
      ⊢ iprop(((owesJ c 68 ∗ crd c (.inr .ps) psN ∗ pts c stM q6 st ∗ pts c xM q0 x ∗ pts c wqM q1 wq) -∗ Q ⟨k0_pay43 (ldX x 0) wq, k0_pay44 (ldX x 0) wq, k0_pay45 (ldX x 0) wq, k0_pay46 (ldX x 0) wq, k0_pay47 (ldX x 1), k0_pay48 wq⟩)
        -∗ wp frame (wpE (defs₀ (F := F)) 𝒱₀ (c : Thread nD τ) none) Set.univ (k0_part38 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c (dw c) v223 v224 v226) Q) := by
  rw [k0_part38_eq_skeleton]; unfold k0_part38_skel
  simp only [dif_pos ((cond8_iff c).2 h0), dif_neg (fun h => h0 ((br_eq0 c).1 h))]
  simp only [Prog.lift, Prog.bind_op, Prog.bind_ret, Prog.pure_eq_ret]
  iintro ⟨#HR, HO, Hpb, Hts, Htr, H6, H10, H0, H1⟩ Hk
  sl_exec
  unfold part38_pos.sl.v230
  simp only [readS']
  rw [hps]
  simp only [pb_off c _ (k0_off2_eq c)]
  ihave Hs := (Entails.of_eq (own_ps c fullShare psF).symm) $$ H10
  iapply (step_send K N c _ 0 .ps .pr (.inr .ps) (.inr (.pr c)) (by simpa [valid] using h0) (by simpa [valid] using h0) rfl rfl rfl
    (Fin.ext k0_dev68_eq) 67 rfl psM (pbM c) _ _ rfl (pr_sem c _ (k0_off1_eq c) _) fullShare psF iprop(emp) rfl rfl
    (by unfold pay; rw [hK]) (by unfold pay; rw [hK]; iintro ⟨H, -⟩; iexact H)) $$ [Hs Hpb HO Hts Htr]
  · isplitr; · iexact HR
    isplitl [Hs]; · iexact Hs
    isplitl [Hpb]; · iexact Hpb
    isplitr; · iempintro
    isplitl [HO]; · iexact HO
    isplitl [Hts]; · iexact Hts
    iexact Htr
  iintro ⟨Hcr, HO⟩
  sl_exec
  rw [wp_ret]; imodintro
  simp only [readX', readWq']
  iapply Hk
  isplitl [HO]; · iexact HO
  isplitl [Hcr]; · iexact Hcr
  isplitl [H6]; · iexact H6
  isplitl [H0]; · iexact H0
  iexact H1

theorem part38_zero (st : Vec F S2x2x4x128x64 .f32) (ps psF : Vec F S2x4x33x64 .f32) (x : Vec F S2x128x512 .f32) (wq : Vec F S512x256 .f32) (q6 q0 q1 : PosShare TreeShare)
    (v223 : FVec F S32x128 .f32) (v224 : FVec F S32 .f32) (v226 : FVec F S32x128 .f32)
    (hps : ∀ i, (View.whole cc0_scratch4).writes (Elt F) ps [⟨Rect.unit (s := S2x4x33x64) ![1, 3, 0, 0] ![1, 1, 33, 64] i, k0_pay40 v223 v224 v226 (ldS st 1 1 3)⟩] = psF) {Q : (Σ' (v250 : FVec F S128x64 .f32) (v251 : FVec F S128x64 .f32) (v252 : FVec F S128x64 .f32) (v253 : FVec F S128x64 .f32) (v255 : FVec F S128x512 .f32), FVec F S512x256 .f32) → sProp 𝕄} :
    iprop(some_ 0 (pbM 0) ∗ pts 0 stM q6 st ∗ pts 0 psM fullShare ps ∗ pts 0 xM q0 x ∗ pts 0 wqM q1 wq)
      ⊢ iprop(((owns ((0 : Dev nD) : Thread nD τ) (pbM 0) fullShare psF ∗ pts 0 stM q6 st ∗ pts 0 psM fullShare psF ∗ pts 0 xM q0 x ∗ pts 0 wqM q1 wq) -∗ Q ⟨k0_pay43 (ldX x 0) wq, k0_pay44 (ldX x 0) wq, k0_pay45 (ldX x 0) wq, k0_pay46 (ldX x 0) wq, k0_pay47 (ldX x 1), k0_pay48 wq⟩)
        -∗ wp frame (wpE (defs₀ (F := F)) 𝒱₀ ((0 : Dev nD) : Thread nD τ) none) Set.univ (k0_part38 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 0 (dw 0) v223 v224 v226) Q) := by
  rw [k0_part38_eq_skeleton]; unfold k0_part38_skel
  simp only [dif_neg (fun h => (cond8_iff 0).1 h rfl), dif_pos ((br_eq0 0).2 rfl)]
  simp only [Prog.lift, Prog.bind_op, Prog.bind_ret, Prog.pure_eq_ret]
  iintro ⟨Hpb, H6, H10, H0, H1⟩ Hk
  ihave Hpb := (pb0_open (F := F)) $$ Hpb
  icases Hpb with ⟨%f, H11⟩
  sl_exec
  unfold part38_zero.sl.v609 part38_zero.sl.H10_1 part38_zero.sl.v230
  simp only [readS', readPs']
  rw [hps]
  iapply (wp_load_rect 𝒱₀ ((0 : Dev nD) : Thread nD τ) none Set.univ (m := pbW) (r := pbR0) (S := (pbA).set) (f := f) (Finset.Subset.refl _)) $$ [H11]
  · iexact H11
  iintro H11
  iapply (wp_store 𝒱₀ ((0 : Dev nD) : Thread nD τ) none Set.univ (m := pbW) (r := pbR0) (S := (pbA).set) (f := f) (Finset.Subset.refl _)) $$ [H11]
  · iexact H11
  iintro H11
  ihave H11 := (pb0_close psF f) $$ H11
  sl_exec
  rw [wp_ret]; imodintro
  simp only [readX', readWq']
  iapply Hk
  isplitl [H11]; · iexact H11
  isplitl [H6]; · iexact H6
  isplitl [H10]; · iexact H10
  isplitl [H0]; · iexact H0
  iexact H1

/-! ## The neighbours' keys and values -/

/-- What a device at an end of the line keeps of its own. -/
def keepL (c : Dev nD) : sProp 𝕄 := if c = 0 then some_ c nbM0 else iprop(emp)
def keepR (c : Dev nD) : sProp 𝕄 := if c = 31 then some_ c nbM1 else iprop(emp)
/-- What the buffer's rows hold in the end: the neighbours' blocks, or, where there is none, anything. -/
def selL (c : Dev nD) (g : S2x2x4x128x64.Idx → Elt F .f32) : S2x2x4x128x64.Idx → Elt F .f32 := if c = 0 then g else K.st (lft c)
def selR (c : Dev nD) (g : S2x2x4x128x64.Idx → Elt F .f32) : S2x2x4x128x64.Idx → Elt F .f32 := if c = 31 then g else K.st (rgt c)

theorem nb_deal (c : Dev nD) (f : S2x2x2x4x128x64.Idx → Elt F .f32) :
    (pts c nbW fullShare f : sProp 𝕄) ⊢ iprop(pay K c .barL ∗ keepL c ∗ pay K c .barR ∗ keepR c) := by
  have h0 : (some_ c nbM0 : sProp 𝕄) ⊢ iprop(pay K c .barL ∗ keepL c) := by
    show (some_ c nbM0 : sProp 𝕄) ⊢ iprop((if c = 0 then iprop(emp) else some_ c nbM0) ∗ (if c = 0 then some_ c nbM0 else iprop(emp)))
    by_cases h : c = 0
    · rw [if_pos h, if_pos h]; iintro H; isplitr; · iempintro
      iexact H
    · rw [if_neg h, if_neg h]; iintro H; isplitl [H]; · iexact H
      iempintro
  have h1 : (some_ c nbM1 : sProp 𝕄) ⊢ iprop(pay K c .barR ∗ keepR c) := by
    show (some_ c nbM1 : sProp 𝕄) ⊢ iprop((if c = 31 then iprop(emp) else some_ c nbM1) ∗ (if c = 31 then some_ c nbM1 else iprop(emp)))
    by_cases h : c = 31
    · rw [if_pos h, if_pos h]; iintro H; isplitr; · iempintro
      iexact H
    · rw [if_neg h, if_neg h]; iintro H; isplitl [H]; · iexact H
      iempintro
  iintro H
  ihave H := (nb_split c f) $$ H
  icases H with ⟨Ha, Hb⟩
  ihave Ha := h0 $$ Ha
  ihave Hb := h1 $$ Hb
  icases Ha with ⟨H1, H2⟩
  icases Hb with ⟨H3, H4⟩
  isplitl [H1]; · iexact H1
  isplitl [H2]; · iexact H2
  isplitl [H3]; · iexact H3
  iexact H4

theorem pay_nr0 (c : Dev nD) : (pay K (lft c) .nr0 : sProp 𝕄) = owns (c : Thread nD τ) nbM0 fullShare (K.st (lft c)) := by
  show (owns (rgt (lft c) : Thread nD τ) nbM0 fullShare (K.st (lft c)) : sProp 𝕄) = _; rw [rgt_lft]
theorem pay_nr1 (c : Dev nD) : (pay K (rgt c) .nr1 : sProp 𝕄) = owns (c : Thread nD τ) nbM1 fullShare (K.st (rgt c)) := by
  show (owns (lft (rgt c) : Thread nD τ) nbM1 fullShare (K.st (rgt c)) : sProp 𝕄) = _; rw [lft_rgt]

theorem part39_pos (c : Dev nD) (h0 : c ≠ 0) (st : Vec F S2x2x4x128x64 .f32) (hst : K.st c = st) (n5 : ℕ) (hn5 : c ≠ 31 → n5 = stN)
    (v13 v24 : BitVec 32) (v255 : FVec F S128x512 .f32) (v257 : FVec F S512x256 .f32) {Q : (Σ' (v259 : FVec F S128x64 .f32) (v260 : FVec F S128x64 .f32) (v261 : FVec F S128x64 .f32) (v262 : FVec F S128x64 .f32) (v281 : IVec S128x416 32) (v282 : IVec S128x416 32) (v283 : IVec S128x416 32) (v285 : IVec S128x416 1), BitVec 32) → sProp 𝕄} :
    iprop(recs K N ∗ owesJ c 68 ∗ crd c (.inr (.nsend 0)) stN ∗ pos c (.inr (.nsend 0)) 0 ∗ crR K c ∗ pos c (.inr (.nsend 1)) 0
        ∗ crd c (.inr .brkv) bkvN ∗ pos c (.inr .brkv) 0 ∗ crd c (.inr (.nrecv 0)) stN ∗ pos c (.inr (.nrecv 0)) 0 ∗ keepR c
        ∗ crd c (.inr (.nrecv 1)) n5 ∗ pos c (.inr (.nrecv 1)) 0 ∗ pts c stM fullShare.right.right st)
      ⊢ iprop(((owesJ c 68 ∗ closed K c (.inr (.nsend 0)) ∗ closed K c (.inr (.nsend 1)) ∗ closed K c (.inr .brkv) ∗ closed K c (.inr (.nrecv 0))
            ∗ closed K c (.inr (.nrecv 1)) ∗ pts c stM fullShare st ∗ pts c bkvM fullShare K.bkv ∗ (∃ g0 g1, pts c nbW fullShare (nbG (selL K c g0) (selR K c g1)))) -∗ Q ⟨k0_pay50 v255 v257, k0_pay51 v255 v257, k0_pay52 v255 v257, k0_pay53 v255 v257, k0_pay54 (dw c), iota .tc S128x416 32 [1] iota_S128x416_d1_w32, k0_pay55 (dw c), k0_pay56, 1#32⟩)
        -∗ wp frame (wpE (defs₀ (F := F)) 𝒱₀ (c : Thread nD τ) none) Set.univ (k0_part39 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (dw c) v13 v24 v255 v257) Q) := by
  rw [k0_part39_eq_skeleton]; unfold k0_part39_skel
  simp only [dif_pos ((br_ne0 c).2 h0)]
  iintro ⟨#HR, HO, Hc1, Ha1, Hcr, Ha2, Hc3, Ha3, Hc4, Ha4, HkR, Hc5, Ha5, H6⟩ Hk
  by_cases h31 : c = 31
  · simp only [dif_neg (fun h => (br_ne31 c).1 h h31)]
    simp only [Prog.lift, Prog.bind_op, Prog.bind_ret, Prog.pure_eq_ret]
    iapply (step_wait K N c (.inr (.nsend 0)) c .ns0 (duties_nsend0 K c h0) 68 (mayWait_end c _) nbM1 stM _ rfl rfl) $$ [Hc1 HO Ha1]
    · isplitr; · iexact HR
      isplitl [Hc1]; · iexact Hc1
      isplitl [HO]; · iexact HO
      iexact Ha1
    iintro ⟨HO, Ha1, HL⟩
    ihave HL := (Entails.of_eq (show (pay K c .ns0 : sProp 𝕄) = owns (c : Thread nD τ) stM fullShare.left (K.st c) from rfl)) $$ HL
    ihave Ha1 := (closed_used K c _) $$ Ha1
    ihave HRl := (Entails.of_eq (show crR K c = owns (c : Thread nD τ) stM fullShare.right.left (K.st c) from if_pos h31)) $$ Hcr
    ihave Ha2 := (closed_unused K c _ (by rw [h31]; exact none_nsend1 K)) $$ Ha2
    iapply (step_wait K N c (.inr .brkv) 0 (.brkv (idx c)) (duties_brkv K c h0) 68 (mayWait_end c _) bkvM bkvM _ rfl rfl) $$ [Hc3 HO Ha3]
    · isplitr; · iexact HR
      isplitl [Hc3]; · iexact Hc3
      isplitl [HO]; · iexact HO
      iexact Ha3
    rw [pay_brkv K c h0]
    iintro ⟨HO, Ha3, H9⟩
    ihave H9 := (Entails.of_eq (own_bkv c fullShare K.bkv)) $$ H9
    ihave Ha3 := (closed_used K c _) $$ Ha3
    iapply (step_wait K N c (.inr (.nrecv 0)) (lft c) .nr0 (duties_nrecv0 K c h0) 68 (mayWait_end c _) stM nbM0 _ rfl rfl) $$ [Hc4 HO Ha4]
    · isplitr; · iexact HR
      isplitl [Hc4]; · iexact Hc4
      isplitl [HO]; · iexact HO
      iexact Ha4
    rw [pay_nr0]
    iintro ⟨HO, Ha4, Hn0⟩
    ihave Ha4 := (closed_used K c _) $$ Ha4
    ihave Hn1 := (Entails.of_eq (show keepR c = some_ c nbM1 from if_pos h31)) $$ HkR
    icases Hn1 with ⟨%g1, Hn1⟩
    ihave Ha5 := (closed_unused K c _ (by rw [h31]; exact none_nrecv1 K)) $$ Ha5
    ihave H7 := (nb_join c (K.st (lft c)) g1) $$ [Hn0 Hn1]
    · isplitl [Hn0]; · iexact Hn0
      iexact Hn1
    ihave H6 := (stage_join' c st) $$ [HRl H6]
    · isplitl [HRl]; · rw [← hst]; iexact HRl
      iexact H6
    ihave H6 := (stage_join c st) $$ [HL H6]
    · isplitl [HL]; · rw [← hst]; iexact HL
      iexact H6
    rw [wp_ret]; imodintro
    iapply Hk
    isplitl [HO]; · iexact HO
    isplitl [Ha1]; · iexact Ha1
    isplitl [Ha2]; · iexact Ha2
    isplitl [Ha3]; · iexact Ha3
    isplitl [Ha4]; · iexact Ha4
    isplitl [Ha5]; · iexact Ha5
    isplitl [H6]; · iexact H6
    isplitl [H9]; · iexact H9
    iexists (K.st c); iexists g1
    rw [show selL K c (K.st c) = (K.st (lft c)) from if_neg h0, show selR K c g1 = g1 from if_pos h31]
    iexact H7
  · simp only [dif_pos ((br_ne31 c).2 h31)]
    simp only [Prog.lift, Prog.bind_op, Prog.bind_ret, Prog.pure_eq_ret]
    iapply (step_wait K N c (.inr (.nsend 0)) c .ns0 (duties_nsend0 K c h0) 68 (mayWait_end c _) nbM1 stM _ rfl rfl) $$ [Hc1 HO Ha1]
    · isplitr; · iexact HR
      isplitl [Hc1]; · iexact Hc1
      isplitl [HO]; · iexact HO
      iexact Ha1
    iintro ⟨HO, Ha1, HL⟩
    ihave HL := (Entails.of_eq (show (pay K c .ns0 : sProp 𝕄) = owns (c : Thread nD τ) stM fullShare.left (K.st c) from rfl)) $$ HL
    ihave Ha1 := (closed_used K c _) $$ Ha1
    ihave Hcr := (Entails.of_eq (show crR K c = crd c (.inr (.nsend 1)) stN from if_neg h31)) $$ Hcr
    iapply (step_wait K N c (.inr (.nsend 1)) c .ns1 (duties_nsend1 K c h31) 68 (mayWait_end c _) nbM0 stM _ rfl rfl) $$ [Hcr HO Ha2]
    · isplitr; · iexact HR
      isplitl [Hcr]; · iexact Hcr
      isplitl [HO]; · iexact HO
      iexact Ha2
    iintro ⟨HO, Ha2, HRl⟩
    ihave HRl := (Entails.of_eq (show (pay K c .ns1 : sProp 𝕄) = owns (c : Thread nD τ) stM fullShare.right.left (K.st c) from rfl)) $$ HRl
    ihave Ha2 := (closed_used K c _) $$ Ha2
    iapply (step_wait K N c (.inr .brkv) 0 (.brkv (idx c)) (duties_brkv K c h0) 68 (mayWait_end c _) bkvM bkvM _ rfl rfl) $$ [Hc3 HO Ha3]
    · isplitr; · iexact HR
      isplitl [Hc3]; · iexact Hc3
      isplitl [HO]; · iexact HO
      iexact Ha3
    rw [pay_brkv K c h0]
    iintro ⟨HO, Ha3, H9⟩
    ihave H9 := (Entails.of_eq (own_bkv c fullShare K.bkv)) $$ H9
    ihave Ha3 := (closed_used K c _) $$ Ha3
    iapply (step_wait K N c (.inr (.nrecv 0)) (lft c) .nr0 (duties_nrecv0 K c h0) 68 (mayWait_end c _) stM nbM0 _ rfl rfl) $$ [Hc4 HO Ha4]
    · isplitr; · iexact HR
      isplitl [Hc4]; · iexact Hc4
      isplitl [HO]; · iexact HO
      iexact Ha4
    rw [pay_nr0]
    iintro ⟨HO, Ha4, Hn0⟩
    ihave Ha4 := (closed_used K c _) $$ Ha4
    ihave Hc5 := (Entails.of_eq (congrArg (crd c (.inr (.nrecv 1))) (hn5 h31))) $$ Hc5
    iapply (step_wait K N c (.inr (.nrecv 1)) (rgt c) .nr1 (duties_nrecv1 K c h31) 68 (mayWait_end c _) stM nbM1 _ rfl rfl) $$ [Hc5 HO Ha5]
    · isplitr; · iexact HR
      isplitl [Hc5]; · iexact Hc5
      isplitl [HO]; · iexact HO
      iexact Ha5
    rw [pay_nr1]
    iintro ⟨HO, Ha5, Hn1⟩
    ihave Ha5 := (closed_used K c _) $$ Ha5
    ihave H7 := (nb_join c (K.st (lft c)) (K.st (rgt c))) $$ [Hn0 Hn1]
    · isplitl [Hn0]; · iexact Hn0
      iexact Hn1
    ihave H6 := (stage_join' c st) $$ [HRl H6]
    · isplitl [HRl]; · rw [← hst]; iexact HRl
      iexact H6
    ihave H6 := (stage_join c st) $$ [HL H6]
    · isplitl [HL]; · rw [← hst]; iexact HL
      iexact H6
    rw [wp_ret]; imodintro
    iapply Hk
    isplitl [HO]; · iexact HO
    isplitl [Ha1]; · iexact Ha1
    isplitl [Ha2]; · iexact Ha2
    isplitl [Ha3]; · iexact Ha3
    isplitl [Ha4]; · iexact Ha4
    isplitl [Ha5]; · iexact Ha5
    isplitl [H6]; · iexact H6
    isplitl [H9]; · iexact H9
    iexists (K.st c); iexists (K.st c)
    rw [show selL K c (K.st c) = (K.st (lft c)) from if_neg h0, show selR K c (K.st c) = (K.st (rgt c)) from if_neg h31]
    iexact H7

theorem part39_zero (c : Dev nD) (h0 : c = 0) (st : Vec F S2x2x4x128x64 .f32) (hst : K.st c = st) (n5 : ℕ) (hn5 : c ≠ 31 → n5 = stN)
    (v13 v24 : BitVec 32) (v255 : FVec F S128x512 .f32) (v257 : FVec F S512x256 .f32) {Q : (Σ' (v259 : FVec F S128x64 .f32) (v260 : FVec F S128x64 .f32) (v261 : FVec F S128x64 .f32) (v262 : FVec F S128x64 .f32) (v281 : IVec S128x416 32) (v282 : IVec S128x416 32) (v283 : IVec S128x416 32) (v285 : IVec S128x416 1), BitVec 32) → sProp 𝕄} :
    iprop(recs K N ∗ owesJ c 68 ∗ owns (c : Thread nD τ) stM fullShare.left st ∗ crR K c ∗ pos c (.inr (.nsend 1)) 0 ∗ keepL c
        ∗ crd c (.inr (.nrecv 1)) n5 ∗ pos c (.inr (.nrecv 1)) 0 ∗ pts c stM fullShare.right.right st)
      ⊢ iprop(((owesJ c 68 ∗ closed K c (.inr (.nsend 1))
            ∗ closed K c (.inr (.nrecv 1)) ∗ pts c stM fullShare st ∗ (∃ g0 g1, pts c nbW fullShare (nbG (selL K c g0) (selR K c g1)))) -∗ Q ⟨k0_pay50 v255 v257, k0_pay51 v255 v257, k0_pay52 v255 v257, k0_pay53 v255 v257, k0_pay54 (dw c), iota .tc S128x416 32 [1] iota_S128x416_d1_w32, k0_pay55 (dw c), k0_pay56, 1#32⟩)
        -∗ wp frame (wpE (defs₀ (F := F)) 𝒱₀ (c : Thread nD τ) none) Set.univ (k0_part39 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (dw c) v13 v24 v255 v257) Q) := by
  rw [k0_part39_eq_skeleton]; unfold k0_part39_skel
  have h31 : c ≠ 31 := by rw [h0]; decide
  simp only [dif_neg (fun h => (br_ne0 c).1 h h0), dif_pos ((br_ne31 c).2 h31)]
  simp only [Prog.lift, Prog.bind_op, Prog.bind_ret, Prog.pure_eq_ret]
  iintro ⟨#HR, HO, HL, Hcr, Ha2, HkL, Hc5, Ha5, H6⟩ Hk
  ihave Hcr := (Entails.of_eq (show crR K c = crd c (.inr (.nsend 1)) stN from if_neg h31)) $$ Hcr
  iapply (step_wait K N c (.inr (.nsend 1)) c .ns1 (duties_nsend1 K c h31) 68 (mayWait_end c _) nbM0 stM _ rfl rfl) $$ [Hcr HO Ha2]
  · isplitr; · iexact HR
    isplitl [Hcr]; · iexact Hcr
    isplitl [HO]; · iexact HO
    iexact Ha2
  iintro ⟨HO, Ha2, HRl⟩
  ihave HRl := (Entails.of_eq (show (pay K c .ns1 : sProp 𝕄) = owns (c : Thread nD τ) stM fullShare.right.left (K.st c) from rfl)) $$ HRl
  ihave Ha2 := (closed_used K c _) $$ Ha2
  ihave Hn0 := (Entails.of_eq (show keepL c = some_ c nbM0 from if_pos h0)) $$ HkL
  icases Hn0 with ⟨%g0, Hn0⟩
  ihave Hc5 := (Entails.of_eq (congrArg (crd c (.inr (.nrecv 1))) (hn5 h31))) $$ Hc5
  iapply (step_wait K N c (.inr (.nrecv 1)) (rgt c) .nr1 (duties_nrecv1 K c h31) 68 (mayWait_end c _) stM nbM1 _ rfl rfl) $$ [Hc5 HO Ha5]
  · isplitr; · iexact HR
    isplitl [Hc5]; · iexact Hc5
    isplitl [HO]; · iexact HO
    iexact Ha5
  rw [pay_nr1]
  iintro ⟨HO, Ha5, Hn1⟩
  ihave Ha5 := (closed_used K c _) $$ Ha5
  ihave H7 := (nb_join c g0 (K.st (rgt c))) $$ [Hn0 Hn1]
  · isplitl [Hn0]; · iexact Hn0
    iexact Hn1
  ihave H6 := (stage_join' c st) $$ [HRl H6]
  · isplitl [HRl]; · rw [← hst]; iexact HRl
    iexact H6
  ihave H6 := (stage_join c st) $$ [HL H6]
  · isplitl [HL]; · iexact HL
    iexact H6
  rw [wp_ret]; imodintro
  iapply Hk
  isplitl [HO]; · iexact HO
  isplitl [Ha2]; · iexact Ha2
  isplitl [Ha5]; · iexact Ha5
  isplitl [H6]; · iexact H6
  iexists g0; iexists (K.st c)
  rw [show selL K c g0 = g0 from if_pos h0, show selR K c (K.st c) = (K.st (rgt c)) from if_neg h31]
  iexact H7

end Cert.KernelIdealProof

end
-- ==== Proof.KernelIdeal.Zero.lean ====
/-
Device 0's own part of the program: the broadcasts, and the waits for its copies.
-/
module

public import proofs.«01_k».proof.Proof.KernelIdeal.Comm2

@[expose] public section

set_option maxRecDepth 65536

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (K : Cont F) (N : Dev nD × CK → ℕ)

theorem zip4 {n : ℕ} (A B C D : Fin n → sProp 𝕄) :
    iprop(bigSep Finset.univ A ∗ bigSep Finset.univ B ∗ bigSep Finset.univ C ∗ bigSep Finset.univ D)
      ⊢ bigSep (geK n 0) (fun i => iprop(A i ∗ B i ∗ C i ∗ D i)) := by
  rw [geK_zero, bigSep_sep', bigSep_sep', bigSep_sep']
theorem zip3 {n : ℕ} (A B C : Fin n → sProp 𝕄) :
    iprop(bigSep Finset.univ A ∗ bigSep Finset.univ B ∗ bigSep Finset.univ C)
      ⊢ bigSep (geK n 0) (fun i => iprop(A i ∗ B i ∗ C i)) := by
  rw [geK_zero, bigSep_sep', bigSep_sep']

/-- The devices other than 0, counted. -/
def nthEmb : Fin 31 ↪ Dev nD := ⟨nth, fun a b h => by rw [← idx_nth a, h, idx_nth]⟩
theorem geK_one : (geK 32 1 : Finset (Dev nD)) = Finset.univ.map nthEmb := by
  ext d
  simp only [Finset.mem_filter, Finset.mem_univ, true_and, Finset.mem_map]
  constructor
  · intro h
    exact ⟨idx d, nth_idx d (by rintro rfl; exact absurd h (by decide))⟩
  · rintro ⟨k, rfl⟩
    show 1 ≤ k.val + 1
    omega
/-- A family over the devices: device 0's, and the others'. -/
theorem bigSep_dev (Φ : Dev nD → sProp 𝕄) : bigSep Finset.univ Φ = iprop(Φ 0 ∗ bigSep Finset.univ fun k : Fin 31 => Φ (nth k)) := by
  have h := bigSep_geK (n := 32) 0 Φ
  have h0 : (geK 32 ((0 : Fin 32).val) : Finset (Dev nD)) = Finset.univ := geK_zero 32
  have h1 : (geK 32 ((0 : Fin 32).val + 1) : Finset (Dev nD)) = Finset.univ.map nthEmb := geK_one
  rw [h0, h1, bigSep_map] at h
  exact h

/-! ## Broadcasts -/

theorem bkv_writes'' (f : Vec F S2x2x4x32x64 .f32) (st : Vec F S2x2x4x128x64 .f32) (i1 i0) :
    (View.whole cc0_scratch3).writes (Elt F) f
      [⟨Rect.unit (s := S2x2x4x32x64) ![1, 0, 0, 0, 0] ![1, 2, 4, 32, 64] i1, shapeCast S1x2x4x32x64 (shapeCast S2x4x32x64 (ldS32 st 1) shapeCasts_S1x2x4x32x64_S2x4x32x64) shapeCasts_S2x4x32x64_S1x2x4x32x64⟩,
       ⟨Rect.unit (s := S2x2x4x32x64) ![0, 0, 0, 0, 0] ![1, 2, 4, 32, 64] i0, shapeCast S1x2x4x32x64 (shapeCast S2x4x32x64 (ldS32 st 0) shapeCasts_S1x2x4x32x64_S2x4x32x64) shapeCasts_S2x4x32x64_S1x2x4x32x64⟩] = bkvG st :=
  bkv_writes' f st i1 i0

theorem part1_wp (x : Vec F S2x128x512 .f32) (wq : Vec F S512x256 .f32) (f : Vec F S2x4x32x64 .f32) (q0 q1 : PosShare TreeShare) {Q : BitVec 32 → sProp 𝕄} :
    (iprop(pts 0 xM q0 x ∗ pts 0 wqM q1 wq ∗ pts 0 bqM fullShare f) : sProp 𝕄)
      ⊢ iprop((∀ r, (pts 0 xM q0 x ∗ pts 0 wqM q1 wq ∗ pts 0 bqM fullShare (bqG x wq)) -∗ Q r) -∗ wp frame (wpE (defs₀ (F := F)) 𝒱₀ ((0 : Dev nD) : Thread nD τ) none) Set.univ (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 ) Q) := by
  rw [k0_part1_eq_skeleton]; unfold pts; unfold k0_part1_skel
  iintro ⟨H0, H1, H8⟩ Hk
  sl_exec
  simp only [readX32', readWq', pay2_eq]
  rw [bq_writes']
  rw [wp_ret]; imodintro
  iapply Hk
  isplitl [H0]; · iexact H0
  isplitl [H1]; · iexact H1
  iexact H8

theorem Orest_bar0 : Orest (0 : Dev nD) 2 = Orest 0 3 := Orest_skip 0 2 3 (by omega) fun t h1 h2 h3 h4 => by
  cases t <;> simp [valid, ord] at h1 h3 h4 <;> omega
theorem Orest_send0 : Orest (0 : Dev nD) 65 = Orest 0 66 := Orest_skip 0 65 66 (by omega) fun t h1 h2 h3 h4 => by
  cases t <;> simp [valid, ord] at h1 h3 h4 <;> omega
theorem Orest_ps0 : Orest (0 : Dev nD) 67 = Orest 0 68 := Orest_skip 0 67 68 (by omega) fun t h1 h2 h3 h4 => by
  cases t <;> simp [valid, ord, owedK] at h1 h2 h3 h4 <;> omega

/-- What device 0's barrier brings: the right neighbour's row, and the other devices' broadcast buffers. -/
theorem bar_zero : (bigSep ((Rd K).duties (kcell (0, .inl ())) 0) (fun t => pay K t.1 t.2) : sProp 𝕄)
    ⊢ iprop(pay K (rgt 0) .barL ∗ (bigSep Finset.univ fun k : Fin 31 => some_ (nth k) bqM) ∗ bigSep Finset.univ fun k : Fin 31 => some_ (nth k) bkvM) := by
  have e : (bigSep ({(rgt 0, .barL), (lft 0, .barR)} : Finset Tok) (fun t => pay K t.1 t.2) : sProp 𝕄) = iprop(pay K (rgt 0) .barL ∗ pay K (lft 0) .barR) := by
    rw [bigSep_insert (by intro h; have := congrArg Prod.snd (Finset.mem_singleton.mp h); cases this), bigSep_singleton]; rfl
  rw [duties_bar_zero K, bigSep_union bar_disj, bigSep_map, e]
  have e2 : (bigSep Finset.univ (fun k : Fin 31 => pay K (barEmb k).1 (barEmb k).2) : sProp 𝕄)
      = iprop((bigSep Finset.univ fun k : Fin 31 => some_ (nth k) bqM) ∗ bigSep Finset.univ fun k : Fin 31 => some_ (nth k) bkvM) := by
    rw [← bigSep_sep']; rfl
  show (iprop((pay K (rgt 0) .barL ∗ pay K (lft 0) .barR) ∗ bigSep Finset.univ (fun k : Fin 31 => pay K (barEmb k).1 (barEmb k).2)) : sProp 𝕄) ⊢ _
  rw [e2]
  iintro ⟨⟨H1, -⟩, H2⟩
  isplitl [H1]; · iexact H1
  iexact H2

theorem part31_zero (x : Vec F S2x128x512 .f32) (wq : Vec F S512x256 .f32) (k v : Vec F S2x128x4x64 .f32) (f6 : Vec F S2x2x4x128x64 .f32)
    (f8 : Vec F S2x4x32x64 .f32) (f9 : Vec F S2x2x4x32x64 .f32) (hbq : K.bq = bqG x wq) (hbkv : K.bkv = bkvG (stG k v))
    (v13 : BitVec 32) {Q : PUnit → sProp 𝕄} :
    iprop(recs K N ∗ owesJ 0 2 ∗ crd 0 (.inl ()) 33 ∗ pos 0 (.inl ()) 0 ∗ pts 0 xM fullShare x ∗ pts 0 wqM fullShare wq
        ∗ pts 0 kM fullShare k ∗ pts 0 vM fullShare v ∗ pts 0 stM fullShare f6 ∗ pts 0 bqM fullShare f8 ∗ pts 0 bkvM fullShare f9
        ∗ (bigSep Finset.univ fun i : Fin 31 => some_ 0 (pbM (nth i))) ∗ (bigSep Finset.univ fun i : Fin 31 => tok 0 (.bq i))
        ∗ (bigSep Finset.univ fun i : Fin 31 => tok 0 (.brq i)) ∗ (bigSep Finset.univ fun i : Fin 31 => tok 0 (.bkv i))
        ∗ (bigSep Finset.univ fun i : Fin 31 => tok 0 (.brkv i)))
      ⊢ iprop((∀ a, (owesJ 0 66 ∗ pos 0 (.inl ()) 1 ∗ pay K (rgt 0) .barL ∗ pts 0 xM fullShare x ∗ pts 0 wqM fullShare wq
          ∗ pts 0 kM fullShare k ∗ pts 0 vM fullShare v ∗ pts 0 stM fullShare (stG k v)
          ∗ pts 0 bqM (Transfers.shareDrop fullShare 31) K.bq ∗ pts 0 bkvM (Transfers.shareDrop fullShare 31) K.bkv
          ∗ (bigSep Finset.univ fun i : Fin 31 => crd 0 (.inr (.bq i)) bqN) ∗ (bigSep Finset.univ fun i : Fin 31 => crd 0 (.inr (.bkv i)) bkvN)) -∗ Q a)
        -∗ wp frame (wpE (defs₀ (F := F)) 𝒱₀ ((0 : Dev nD) : Thread nD τ) none) Set.univ (k0_part31 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 0 (dw 0) v13 (SemArray.scalar (sig.barrier 0 rfl))) Q) := by
  rw [k0_part31_eq_skeleton]; unfold k0_part31_skel
  have h3 : k0_cond3 0 = 1#1 := (cond3_iff 0).2 rfl
  have h4 : k0_cond4 0 = 1#1 := (cond4_iff 0).2 rfl
  simp only [dif_neg (fun h => (cond1_iff 0).1 h rfl), dif_pos ((br_eq0 0).2 rfl), dif_pos h3, dif_pos h4, dif_neg (fun h => (cond5_iff 0).1 h rfl)]
  simp only [semSignalWord, semWaitWord, Prog.lift, Prog.bind_op, Prog.bind_ret, Prog.pure_eq_ret]
  iintro ⟨#HR, HO, Hc, Ha, H0, H1, H2, H3, H6, H8, H9, Hpb, Tq, Trq, Tkv, Trkv⟩ Hk
  ihave HO := (owesJ_skip 0 2 3 Orest_bar0) $$ HO
  iapply (step_bar K N 0 _ (expect_bar_zero K).symm) $$ [Hc HO Ha]
  · isplitr; · iexact HR
    isplitl [Hc]; · iexact Hc
    isplitl [HO]; · iexact HO
    iexact Ha
  iintro ⟨HO, Ha, HB⟩
  ihave HB := (bar_zero K) $$ HB
  icases HB with ⟨HpL, HB1, HB2⟩
  ihave HT1 := (zip4 (fun i : Fin 31 => some_ (nth i) bqM) (fun i : Fin 31 => some_ 0 (pbM (nth i))) (fun i : Fin 31 => tok 0 (.bq i)) (fun i : Fin 31 => tok 0 (.brq i))) $$ [HB1 Hpb Tq Trq]
  · isplitl [HB1]; · iexact HB1
    isplitl [Hpb]; · iexact Hpb
    isplitl [Tq]; · iexact Tq
    iexact Trq
  ihave HT2 := (zip3 (fun i : Fin 31 => some_ (nth i) bkvM) (fun i : Fin 31 => tok 0 (.bkv i)) (fun i : Fin 31 => tok 0 (.brkv i))) $$ [HB2 Tkv Trkv]
  · isplitl [HB2]; · iexact HB2
    isplitl [Tkv]; · iexact Tkv
    iexact Trkv
  rw [wp_bind]
  iapply (part1_wp x wq f8 fullShare fullShare) $$ [H0 H1 H8]
  · isplitl [H0]; · iexact H0
    isplitl [H1]; · iexact H1
    iexact H8
  iintro %r ⟨H0, H1, H8⟩
  rw [← hbq]
  have hS : iprop(owesJ 0 3 ∗ pts 0 bqM fullShare K.bq ∗ bigSep (geK 31 0) (fun i => iprop(some_ (nth i) bqM ∗ some_ 0 (pbM (nth i)) ∗ tok 0 (.bq i) ∗ tok 0 (.brq i)))) ⊢ SQ K 0 := by
    unfold SQ
    rw [ltK_zero, bigSep_empty]
    iintro ⟨H1, H2, H3⟩
    isplitl [H1]; · iexact H1
    isplitl [H2]; · rw [show Transfers.shareDrop fullShare 0 = fullShare from rfl, own_bq]; iexact H2
    isplitl [H3]; · iexact H3
    iempintro
  ihave H := hS $$ [HO H8 HT1]
  · isplitl [HO]; · iexact HO
    isplitl [H8]; · iexact H8
    iexact HT1
  rw [wp_bind]
  iapply (part2_wp K N h3 r) $$ [H]
  · isplitr; · iexact HR
    iexact H
  iintro %r2 H
  rw [wp_bind]
  iapply (part3_wp K N h3) $$ [H]
  · isplitr; · iexact HR
    iexact H
  iintro %r3 H
  rw [wp_bind]
  iapply (part4_wp K N h3) $$ [H]
  · isplitr; · iexact HR
    iexact H
  iintro %r4 H
  rw [wp_bind]
  iapply (part5_wp K N h3 r4) $$ [H]
  · isplitr; · iexact HR
    iexact H
  iintro %r5 H
  iapply (step_SQ K N 27 _ (Fin.ext k0_dev31_eq) _ rfl _ rfl) $$ [H]
  · isplitr; · iexact HR
    iexact H
  iintro H
  iapply (step_SQ K N 28 _ (Fin.ext k0_dev32_eq) _ rfl _ rfl) $$ [H]
  · isplitr; · iexact HR
    iexact H
  iintro H
  iapply (step_SQ K N 29 _ (Fin.ext k0_dev33_eq) _ rfl _ rfl) $$ [H]
  · isplitr; · iexact HR
    iexact H
  iintro H
  iapply (step_SQ K N 30 _ (Fin.ext k0_dev34_eq) _ rfl _ rfl) $$ [H]
  · isplitr; · iexact HR
    iexact H
  iintro H
  unfold SQ
  icases H with ⟨HO, H8, -, Hcq⟩
  sl_exec
  unfold part31_zero.sl.v613 part31_zero.sl.v618 part31_zero.sl.v610 part31_zero.sl.v615 part31_zero.sl.v609 part31_zero.sl.v614
  try unfold part31_zero.sl.H6_2
  simp only [readK', readV', View.readCov]
  rw [st_writes', st_writes']
  simp only [readS32']
  rw [bkv_writes'', ← hbkv]
  simp only [Prog.lift, Prog.bind_op, Prog.bind_ret, Prog.pure_eq_ret]
  have hS : iprop(owesJ 0 34 ∗ pts 0 bkvM fullShare K.bkv ∗ bigSep (geK 31 0) (fun i => iprop(some_ (nth i) bkvM ∗ tok 0 (.bkv i) ∗ tok 0 (.brkv i)))) ⊢ SKV K 0 := by
    unfold SKV
    rw [ltK_zero, bigSep_empty]
    iintro ⟨H1, H2, H3⟩
    isplitl [H1]; · iexact H1
    isplitl [H2]; · rw [show Transfers.shareDrop fullShare 0 = fullShare from rfl, own_bkv]; iexact H2
    isplitl [H3]; · iexact H3
    iempintro
  ihave H := hS $$ [HO H9 HT2]
  · isplitl [HO]; · iexact HO
    isplitl [H9]; · iexact H9
    iexact HT2
  iapply (step_SKV K N 0 _ (Fin.ext k0_dev35_eq) _ rfl _ rfl) $$ [H]
  · isplitr; · iexact HR
    iexact H
  iintro H
  iapply (step_SKV K N 1 _ (Fin.ext k0_dev36_eq) _ rfl _ rfl) $$ [H]
  · isplitr; · iexact HR
    iexact H
  iintro H
  iapply (step_SKV K N 2 _ (Fin.ext k0_dev37_eq) _ rfl _ rfl) $$ [H]
  · isplitr; · iexact HR
    iexact H
  iintro H
  rw [wp_ret]; imodintro
  rw [wp_bind]
  iapply (part7_wp K N h4) $$ [H]
  · isplitr; · iexact HR
    iexact H
  iintro %r7 H
  rw [wp_bind]
  iapply (part8_wp K N h4) $$ [H]
  · isplitr; · iexact HR
    iexact H
  iintro %r8 H
  rw [wp_bind]
  iapply (part9_wp K N h4 r8) $$ [H]
  · isplitr; · iexact HR
    iexact H
  iintro %r9 H
  rw [wp_bind]
  iapply (part10_wp K N h4) $$ [H]
  · isplitr; · iexact HR
    iexact H
  iintro %r10 H
  iapply (step_SKV K N 29 _ (Fin.ext k0_dev64_eq) _ rfl _ rfl) $$ [H]
  · isplitr; · iexact HR
    iexact H
  iintro H
  iapply (step_SKV K N 30 _ (Fin.ext k0_dev65_eq) _ rfl _ rfl) $$ [H]
  · isplitr; · iexact HR
    iexact H
  iintro H
  unfold SKV
  icases H with ⟨HO, H9, -, Hckv⟩
  rw [wp_ret]; imodintro
  ihave HO := (owesJ_skip 0 65 66 Orest_send0) $$ HO
  ihave H8 := (Entails.of_eq (own_bq 0 _ K.bq)) $$ H8
  ihave H9 := (Entails.of_eq (own_bkv 0 _ K.bkv)) $$ H9
  ihave Hcq := (Entails.of_eq (congrArg (fun s => bigSep s fun i : Fin 31 => (crd 0 (.inr (.bq i)) bqN : sProp 𝕄)) (show (ltK 31 ((30 : Fin 31).val + 1) : Finset (Fin 31)) = Finset.univ from ltK_last 31))) $$ Hcq
  ihave Hckv := (Entails.of_eq (congrArg (fun s => bigSep s fun i : Fin 31 => (crd 0 (.inr (.bkv i)) bkvN : sProp 𝕄)) (show (ltK 31 ((30 : Fin 31).val + 1) : Finset (Fin 31)) = Finset.univ from ltK_last 31))) $$ Hckv
  iapply Hk
  isplitl [HO]; · iexact HO
  isplitl [Ha]; · iexact Ha
  isplitl [HpL]; · iexact HpL
  isplitl [H0]; · iexact H0
  isplitl [H1]; · iexact H1
  isplitl [H2]; · iexact H2
  isplitl [H3]; · iexact H3
  isplitl [H6]; · iexact H6
  isplitl [H8]; · iexact H8
  isplitl [H9]; · iexact H9
  isplitl [Hcq]; · iexact Hcq
  iexact Hckv

/-! ## Waiting for the partial sums -/

/-- Device 0 has the first `k` rows of the gathered partial sums. -/
def WP (k : ℕ) : sProp 𝕄 :=
  iprop(owesJ 0 68 ∗ bigSep (geK 32 k) (fun i : Dev nD => iprop(crd 0 (.inr (.pr i)) psN ∗ pos 0 (.inr (.pr i)) 0))
    ∗ bigSep (ltK 32 k) (fun i : Dev nD => iprop(closed K 0 (.inr (.pr i)) ∗ owns ((0 : Dev nD) : Thread nD τ) (pbM i) fullShare (K.ps i))))

theorem pb_credit (off : Fin 5 → ℕ) (inb : ∀ a, off a + S1x2x4x33x64.size a ≤ S32x2x4x33x64.size a) :
    ((pbW.slice (Rect.unit (s := S32x2x4x33x64) off S1x2x4x33x64.size inb) (fun _ => rfl)).squeeze S2x4x33x64 squeezes_S1x2x4x33x64_S2x4x33x64 : Memref sig .tc .vmem S2x4x33x64 .f32).view.dmaCredit = psN := rfl

theorem step_WP (i : Dev nD) (hi : i ≠ 0) (n m : ℕ) (hn : n = i.val) (hm : m = i.val + 1)
    {s : Shape} (src : Memref sig .tc .vmem s .f32)
    (off : Fin 5 → ℕ) (inb : ∀ a, off a + S1x2x4x33x64.size a ≤ S32x2x4x33x64.size a)
    (off1 : Fin 1 → ℕ) (h1 : off1 = ![i.val]) (inb1 : ∀ a, off1 a + S1.size a ≤ S32.size a)
    {hw1 : src.view.WordExact} {hw2 : ((pbW.slice (Rect.unit (s := S32x2x4x33x64) off S1x2x4x33x64.size inb) (fun _ => rfl)).squeeze S2x4x33x64 squeezes_S1x2x4x33x64_S2x4x33x64).view.WordExact}
    {α : Type} {Q : α → sProp 𝕄} {kk : PUnit → Prog (TpuEff nD τ sig (Elt F) Λ₀ .tc) α} :
    iprop(recs K N ∗ WP K n)
      ⊢ iprop((WP K m
            -∗ wp frame (wpE (defs₀ (F := F)) 𝒱₀ ((0 : Dev nD) : Thread nD τ) none) Set.univ (kk ⟨⟩) Q)
          -∗ wp frame (wpE (defs₀ (F := F)) 𝒱₀ ((0 : Dev nD) : Thread nD τ) none) Set.univ
              (.op (.waitDma2 ((cc0_scratch13.slice (Rect.unit (s := S32) off1 S1.size inb1)).squeeze S_ squeezes_S1_S_).sem src
                ((pbW.slice (Rect.unit (s := S32x2x4x33x64) off S1x2x4x33x64.size inb) (fun _ => rfl)).squeeze S2x4x33x64 squeezes_S1x2x4x33x64_S2x4x33x64) hw1 hw2) kk) Q) := by
  subst hn hm
  unfold WP
  rw [bigSep_geK i, bigSep_ltK i]
  iintro ⟨#HR, HO, HG, HL⟩ Hk
  icases HG with ⟨⟨Hc, Ha⟩, HG⟩
  iapply (step_wait K N 0 (.inr (.pr i)) i .pr (duties_pr K i hi) 68 (mayWait_end 0 _) src _ _ (pr_sem i off1 h1 inb1).symm (pb_credit off inb)) $$ [Hc HO Ha]
  · isplitr; · iexact HR
    isplitl [Hc]; · iexact Hc
    isplitl [HO]; · iexact HO
    iexact Ha
  iintro ⟨HO, Ha, HP⟩
  ihave HP := (Entails.of_eq (show (pay K i .pr : sProp 𝕄) = owns ((0 : Dev nD) : Thread nD τ) (pbM i) fullShare (K.ps i) from rfl)) $$ HP
  iapply Hk
  isplitl [HO]; · iexact HO
  isplitl [HG]; · iexact HG
  isplitl [Ha HP]
  · isplitl [Ha]; · iapply (closed_used K 0 (.inr (.pr i))); iexact Ha
    iexact HP
  iexact HL

theorem part11_wp  {Q : _ → sProp 𝕄} :
    iprop(recs K N ∗ WP K 1) ⊢ iprop((∀ r, WP K 4 -∗ Q r) -∗ wp frame (wpE (defs₀ (F := F)) 𝒱₀ ((0 : Dev nD) : Thread nD τ) none) Set.univ (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 ) Q) := by
  rw [k0_part11_eq_skeleton]; unfold k0_part11_skel
  simp only [Prog.lift, Prog.bind_op, Prog.bind_ret, Prog.pure_eq_ret]
  iintro ⟨#HR, H⟩ Hk
  iapply (step_WP K N 1 (by decide) 1 2 rfl rfl _ _ _ _ rfl _) $$ [H]
  · isplitr; · iexact HR
    iexact H
  iintro H
  iapply (step_WP K N 2 (by decide) 2 3 rfl rfl _ _ _ _ rfl _) $$ [H]
  · isplitr; · iexact HR
    iexact H
  iintro H
  iapply (step_WP K N 3 (by decide) 3 4 rfl rfl _ _ _ _ rfl _) $$ [H]
  · isplitr; · iexact HR
    iexact H
  iintro H
  rw [wp_ret]; imodintro
  iapply Hk; iexact H

theorem part12_wp  {Q : _ → sProp 𝕄} :
    iprop(recs K N ∗ WP K 4) ⊢ iprop((∀ r, WP K 8 -∗ Q r) -∗ wp frame (wpE (defs₀ (F := F)) 𝒱₀ ((0 : Dev nD) : Thread nD τ) none) Set.univ (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 ) Q) := by
  rw [k0_part12_eq_skeleton]; unfold k0_part12_skel
  simp only [Prog.lift, Prog.bind_op, Prog.bind_ret, Prog.pure_eq_ret]
  iintro ⟨#HR, H⟩ Hk
  iapply (step_WP K N 4 (by decide) 4 5 rfl rfl _ _ _ _ rfl _) $$ [H]
  · isplitr; · iexact HR
    iexact H
  iintro H
  iapply (step_WP K N 5 (by decide) 5 6 rfl rfl _ _ _ _ rfl _) $$ [H]
  · isplitr; · iexact HR
    iexact H
  iintro H
  iapply (step_WP K N 6 (by decide) 6 7 rfl rfl _ _ _ _ rfl _) $$ [H]
  · isplitr; · iexact HR
    iexact H
  iintro H
  iapply (step_WP K N 7 (by decide) 7 8 rfl rfl _ _ _ _ rfl _) $$ [H]
  · isplitr; · iexact HR
    iexact H
  iintro H
  rw [wp_ret]; imodintro
  iapply Hk; iexact H

theorem part13_wp  {Q : _ → sProp 𝕄} :
    iprop(recs K N ∗ WP K 8) ⊢ iprop((∀ r, WP K 12 -∗ Q r) -∗ wp frame (wpE (defs₀ (F := F)) 𝒱₀ ((0 : Dev nD) : Thread nD τ) none) Set.univ (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 ) Q) := by
  rw [k0_part13_eq_skeleton]; unfold k0_part13_skel
  simp only [Prog.lift, Prog.bind_op, Prog.bind_ret, Prog.pure_eq_ret]
  iintro ⟨#HR, H⟩ Hk
  iapply (step_WP K N 8 (by decide) 8 9 rfl rfl _ _ _ _ rfl _) $$ [H]
  · isplitr; · iexact HR
    iexact H
  iintro H
  iapply (step_WP K N 9 (by decide) 9 10 rfl rfl _ _ _ _ rfl _) $$ [H]
  · isplitr; · iexact HR
    iexact H
  iintro H
  iapply (step_WP K N 10 (by decide) 10 11 rfl rfl _ _ _ _ rfl _) $$ [H]
  · isplitr; · iexact HR
    iexact H
  iintro H
  iapply (step_WP K N 11 (by decide) 11 12 rfl rfl _ _ _ _ rfl _) $$ [H]
  · isplitr; · iexact HR
    iexact H
  iintro H
  rw [wp_ret]; imodintro
  iapply Hk; iexact H

theorem part14_wp (c0_i32_795 : BitVec 32) (c1_i32_796 : BitVec 32) {Q : _ → sProp 𝕄} :
    iprop(recs K N ∗ WP K 12) ⊢ iprop((∀ r, WP K 16 -∗ Q r) -∗ wp frame (wpE (defs₀ (F := F)) 𝒱₀ ((0 : Dev nD) : Thread nD τ) none) Set.univ (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c0_i32_795 c1_i32_796) Q) := by
  rw [k0_part14_eq_skeleton]; unfold k0_part14_skel
  simp only [Prog.lift, Prog.bind_op, Prog.bind_ret, Prog.pure_eq_ret]
  iintro ⟨#HR, H⟩ Hk
  iapply (step_WP K N 12 (by decide) 12 13 rfl rfl _ _ _ _ rfl _) $$ [H]
  · isplitr; · iexact HR
    iexact H
  iintro H
  iapply (step_WP K N 13 (by decide) 13 14 rfl rfl _ _ _ _ rfl _) $$ [H]
  · isplitr; · iexact HR
    iexact H
  iintro H
  iapply (step_WP K N 14 (by decide) 14 15 rfl rfl _ _ _ _ rfl _) $$ [H]
  · isplitr; · iexact HR
    iexact H
  iintro H
  iapply (step_WP K N 15 (by decide) 15 16 rfl rfl _ _ _ _ rfl _) $$ [H]
  · isplitr; · iexact HR
    iexact H
  iintro H
  rw [wp_ret]; imodintro
  iapply Hk; iexact H

theorem part15_wp  {Q : _ → sProp 𝕄} :
    iprop(recs K N ∗ WP K 16) ⊢ iprop((∀ r, WP K 19 -∗ Q r) -∗ wp frame (wpE (defs₀ (F := F)) 𝒱₀ ((0 : Dev nD) : Thread nD τ) none) Set.univ (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 ) Q) := by
  rw [k0_part15_eq_skeleton]; unfold k0_part15_skel
  simp only [Prog.lift, Prog.bind_op, Prog.bind_ret, Prog.pure_eq_ret]
  iintro ⟨#HR, H⟩ Hk
  iapply (step_WP K N 16 (by decide) 16 17 rfl rfl _ _ _ _ rfl _) $$ [H]
  · isplitr; · iexact HR
    iexact H
  iintro H
  iapply (step_WP K N 17 (by decide) 17 18 rfl rfl _ _ _ _ rfl _) $$ [H]
  · isplitr; · iexact HR
    iexact H
  iintro H
  iapply (step_WP K N 18 (by decide) 18 19 rfl rfl _ _ _ _ rfl _) $$ [H]
  · isplitr; · iexact HR
    iexact H
  iintro H
  rw [wp_ret]; imodintro
  iapply Hk; iexact H

theorem part16_wp  {Q : _ → sProp 𝕄} :
    iprop(recs K N ∗ WP K 19) ⊢ iprop((∀ r, WP K 23 -∗ Q r) -∗ wp frame (wpE (defs₀ (F := F)) 𝒱₀ ((0 : Dev nD) : Thread nD τ) none) Set.univ (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 ) Q) := by
  rw [k0_part16_eq_skeleton]; unfold k0_part16_skel
  simp only [Prog.lift, Prog.bind_op, Prog.bind_ret, Prog.pure_eq_ret]
  iintro ⟨#HR, H⟩ Hk
  iapply (step_WP K N 19 (by decide) 19 20 rfl rfl _ _ _ _ rfl _) $$ [H]
  · isplitr; · iexact HR
    iexact H
  iintro H
  iapply (step_WP K N 20 (by decide) 20 21 rfl rfl _ _ _ _ rfl _) $$ [H]
  · isplitr; · iexact HR
    iexact H
  iintro H
  iapply (step_WP K N 21 (by decide) 21 22 rfl rfl _ _ _ _ rfl _) $$ [H]
  · isplitr; · iexact HR
    iexact H
  iintro H
  iapply (step_WP K N 22 (by decide) 22 23 rfl rfl _ _ _ _ rfl _) $$ [H]
  · isplitr; · iexact HR
    iexact H
  iintro H
  rw [wp_ret]; imodintro
  iapply Hk; iexact H

theorem part17_wp  {Q : _ → sProp 𝕄} :
    iprop(recs K N ∗ WP K 23) ⊢ iprop((∀ r, WP K 27 -∗ Q r) -∗ wp frame (wpE (defs₀ (F := F)) 𝒱₀ ((0 : Dev nD) : Thread nD τ) none) Set.univ (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 ) Q) := by
  rw [k0_part17_eq_skeleton]; unfold k0_part17_skel
  simp only [Prog.lift, Prog.bind_op, Prog.bind_ret, Prog.pure_eq_ret]
  iintro ⟨#HR, H⟩ Hk
  iapply (step_WP K N 23 (by decide) 23 24 rfl rfl _ _ _ _ rfl _) $$ [H]
  · isplitr; · iexact HR
    iexact H
  iintro H
  iapply (step_WP K N 24 (by decide) 24 25 rfl rfl _ _ _ _ rfl _) $$ [H]
  · isplitr; · iexact HR
    iexact H
  iintro H
  iapply (step_WP K N 25 (by decide) 25 26 rfl rfl _ _ _ _ rfl _) $$ [H]
  · isplitr; · iexact HR
    iexact H
  iintro H
  iapply (step_WP K N 26 (by decide) 26 27 rfl rfl _ _ _ _ rfl _) $$ [H]
  · isplitr; · iexact HR
    iexact H
  iintro H
  rw [wp_ret]; imodintro
  iapply Hk; iexact H

theorem part18_wp (c0_i32_915 : BitVec 32) (c1_i32_916 : BitVec 32) {Q : _ → sProp 𝕄} :
    iprop(recs K N ∗ WP K 27) ⊢ iprop((∀ r, WP K 31 -∗ Q r) -∗ wp frame (wpE (defs₀ (F := F)) 𝒱₀ ((0 : Dev nD) : Thread nD τ) none) Set.univ (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c0_i32_915 c1_i32_916) Q) := by
  rw [k0_part18_eq_skeleton]; unfold k0_part18_skel
  simp only [Prog.lift, Prog.bind_op, Prog.bind_ret, Prog.pure_eq_ret]
  iintro ⟨#HR, H⟩ Hk
  iapply (step_WP K N 27 (by decide) 27 28 rfl rfl _ _ _ _ rfl _) $$ [H]
  · isplitr; · iexact HR
    iexact H
  iintro H
  iapply (step_WP K N 28 (by decide) 28 29 rfl rfl _ _ _ _ rfl _) $$ [H]
  · isplitr; · iexact HR
    iexact H
  iintro H
  iapply (step_WP K N 29 (by decide) 29 30 rfl rfl _ _ _ _ rfl _) $$ [H]
  · isplitr; · iexact HR
    iexact H
  iintro H
  iapply (step_WP K N 30 (by decide) 30 31 rfl rfl _ _ _ _ rfl _) $$ [H]
  · isplitr; · iexact HR
    iexact H
  iintro H
  rw [wp_ret]; imodintro
  iapply Hk; iexact H

theorem part19_wp {Q : _ → sProp 𝕄} :
    iprop(recs K N ∗ WP K 31)
      ⊢ iprop((owesJ 0 68 ∗ (bigSep Finset.univ fun i : Dev nD => closed K 0 (.inr (.pr i))) ∗ pts 0 pbW fullShare (pbG K.ps)
          -∗ Q ⟨k0_pay5 (ldU (pbG K.ps) 0 0) (ldML (pbG K.ps) 0 0), k0_pay6 (ldU (pbG K.ps) 0 1)⟩) -∗ wp frame (wpE (defs₀ (F := F)) 𝒱₀ ((0 : Dev nD) : Thread nD τ) none) Set.univ (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 ) Q) := by
  rw [k0_part19_eq_skeleton]; unfold k0_part19_skel
  simp only [Prog.lift, Prog.bind_op, Prog.bind_ret, Prog.pure_eq_ret]
  iintro ⟨#HR, H⟩ Hk
  iapply (step_WP K N 31 (by decide) 31 32 rfl rfl _ _ _ _ rfl _) $$ [H]
  · isplitr; · iexact HR
    iexact H
  iintro H
  have hj : WP K 32 ⊢ iprop(owesJ 0 68 ∗ (bigSep Finset.univ fun i : Dev nD => closed K 0 (.inr (.pr i))) ∗ pts 0 pbW fullShare (pbG K.ps)) := by
    unfold WP
    have e : (bigSep Finset.univ (fun i : Dev nD => iprop(closed K 0 (.inr (.pr i)) ∗ owns ((0 : Dev nD) : Thread nD τ) (pbM i) fullShare (K.ps i))) : sProp 𝕄)
      = iprop((bigSep Finset.univ fun i : Dev nD => closed K 0 (.inr (.pr i))) ∗ (bigSep Finset.univ fun i : Dev nD => owns ((0 : Dev nD) : Thread nD τ) (pbM i) fullShare (K.ps i))) := bigSep_sep' _ _ _
    rw [ltK_last, e]
    iintro ⟨H1, -, H2, H3⟩
    isplitl [H1]; · iexact H1
    isplitl [H2]; · iexact H2
    iapply (pb_join 0 K.ps); iexact H3
  ihave H := hj $$ H
  icases H with ⟨HO, Hcl, H11⟩
  sl_exec
  unfold part19_wp.sl.v795 part19_wp.sl.v797 part19_wp.sl.v815
  simp only [readU', readML']
  rw [wp_ret]; imodintro
  iapply Hk
  isplitl [HO]; · iexact HO
  isplitl [Hcl]; · iexact Hcl
  iexact H11

/-! ## Waiting for the broadcasts to have been sent -/

/-- Device 0 has its shares back from the first `k` broadcasts. -/
def WQ (k : ℕ) : sProp 𝕄 :=
  iprop(owesJ 0 68 ∗ bigSep (geK 31 k) (fun i : Fin 31 => iprop((crd 0 (.inr (.bq i)) bqN ∗ pos 0 (.inr (.bq i)) 0) ∗ (crd 0 (.inr (.bkv i)) bkvN ∗ pos 0 (.inr (.bkv i)) 0)))
    ∗ bigSep (ltK 31 k) (fun i : Fin 31 => iprop((closed K 0 (.inr (.bq i)) ∗ closed K 0 (.inr (.bkv i)))
        ∗ owns ((0 : Dev nD) : Thread nD τ) bqM (Transfers.shareTokN fullShare i.val) K.bq ∗ owns ((0 : Dev nD) : Thread nD τ) bkvM (Transfers.shareTokN fullShare i.val) K.bkv)))

theorem step_WQ (i : Fin 31)
    (sq skv : DmaSem sig) (hsq : csem (.inr (.bq i)) = .dma sq) (hskv : csem (.inr (.bkv i)) = .dma skv)
    {h1 h2 : (bqM).view.WordExact} {h3 h4 : (bkvM).view.WordExact}
    {α : Type} {Q : α → sProp 𝕄} {kk : PUnit → Prog (TpuEff nD τ sig (Elt F) Λ₀ .tc) α} :
    iprop(recs K N ∗ WQ K i.val)
      ⊢ iprop((WQ K (i.val + 1)
            -∗ wp frame (wpE (defs₀ (F := F)) 𝒱₀ ((0 : Dev nD) : Thread nD τ) none) Set.univ (kk ⟨⟩) Q)
          -∗ wp frame (wpE (defs₀ (F := F)) 𝒱₀ ((0 : Dev nD) : Thread nD τ) none) Set.univ
              (.op (.waitDma2 sq bqM bqM h1 h2) fun _ => .op (.waitDma2 skv bkvM bkvM h3 h4) kk) Q) := by
  unfold WQ
  rw [bigSep_geK i, bigSep_ltK i]
  iintro ⟨#HR, HO, HG, HL⟩ Hk
  icases HG with ⟨⟨⟨Hc, Ha⟩, Hc2, Ha2⟩, HG⟩
  iapply (step_wait K N 0 (.inr (.bq i)) 0 (.bq i) (duties_bq K i) 68 (mayWait_end 0 _) bqM bqM sq hsq rfl) $$ [Hc HO Ha]
  · isplitr; · iexact HR
    isplitl [Hc]; · iexact Hc
    isplitl [HO]; · iexact HO
    iexact Ha
  iintro ⟨HO, Ha, HP⟩
  iapply (step_wait K N 0 (.inr (.bkv i)) 0 (.bkv i) (duties_bkv K i) 68 (mayWait_end 0 _) bkvM bkvM skv hskv rfl) $$ [Hc2 HO Ha2]
  · isplitr; · iexact HR
    isplitl [Hc2]; · iexact Hc2
    isplitl [HO]; · iexact HO
    iexact Ha2
  iintro ⟨HO, Ha2, HP2⟩
  ihave HP := (Entails.of_eq (show (pay K 0 (.bq i) : sProp 𝕄) = owns ((0 : Dev nD) : Thread nD τ) bqM (Transfers.shareTokN fullShare i.val) K.bq from rfl)) $$ HP
  ihave HP2 := (Entails.of_eq (show (pay K 0 (.bkv i) : sProp 𝕄) = owns ((0 : Dev nD) : Thread nD τ) bkvM (Transfers.shareTokN fullShare i.val) K.bkv from rfl)) $$ HP2
  iapply Hk
  isplitl [HO]; · iexact HO
  isplitl [HG]; · iexact HG
  isplitl [Ha HP Ha2 HP2]
  · isplitl [Ha Ha2]
    · isplitl [Ha]; · iapply (closed_used K 0 (.inr (.bq i))); iexact Ha
      iapply (closed_used K 0 (.inr (.bkv i))); iexact Ha2
    isplitl [HP]; · iexact HP
    iexact HP2
  iexact HL

theorem part24_wp  {Q : _ → sProp 𝕄} :
    iprop(recs K N ∗ WQ K 0) ⊢ iprop((∀ r, WQ K 5 -∗ Q r) -∗ wp frame (wpE (defs₀ (F := F)) 𝒱₀ ((0 : Dev nD) : Thread nD τ) none) Set.univ (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 ) Q) := by
  rw [k0_part24_eq_skeleton]; unfold k0_part24_skel
  simp only [Prog.lift, Prog.bind_op, Prog.bind_ret, Prog.pure_eq_ret]
  iintro ⟨#HR, H⟩ Hk
  iapply (step_WQ K N 0 _ _ rfl rfl) $$ [H]
  · isplitr; · iexact HR
    iexact H
  iintro H
  iapply (step_WQ K N 1 _ _ rfl rfl) $$ [H]
  · isplitr; · iexact HR
    iexact H
  iintro H
  iapply (step_WQ K N 2 _ _ rfl rfl) $$ [H]
  · isplitr; · iexact HR
    iexact H
  iintro H
  iapply (step_WQ K N 3 _ _ rfl rfl) $$ [H]
  · isplitr; · iexact HR
    iexact H
  iintro H
  iapply (step_WQ K N 4 _ _ rfl rfl) $$ [H]
  · isplitr; · iexact HR
    iexact H
  iintro H
  rw [wp_ret]; imodintro
  iapply Hk; iexact H

theorem part25_wp  {Q : _ → sProp 𝕄} :
    iprop(recs K N ∗ WQ K 5) ⊢ iprop((∀ r, WQ K 10 -∗ Q r) -∗ wp frame (wpE (defs₀ (F := F)) 𝒱₀ ((0 : Dev nD) : Thread nD τ) none) Set.univ (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 ) Q) := by
  rw [k0_part25_eq_skeleton]; unfold k0_part25_skel
  simp only [Prog.lift, Prog.bind_op, Prog.bind_ret, Prog.pure_eq_ret]
  iintro ⟨#HR, H⟩ Hk
  iapply (step_WQ K N 5 _ _ rfl rfl) $$ [H]
  · isplitr; · iexact HR
    iexact H
  iintro H
  iapply (step_WQ K N 6 _ _ rfl rfl) $$ [H]
  · isplitr; · iexact HR
    iexact H
  iintro H
  iapply (step_WQ K N 7 _ _ rfl rfl) $$ [H]
  · isplitr; · iexact HR
    iexact H
  iintro H
  iapply (step_WQ K N 8 _ _ rfl rfl) $$ [H]
  · isplitr; · iexact HR
    iexact H
  iintro H
  iapply (step_WQ K N 9 _ _ rfl rfl) $$ [H]
  · isplitr; · iexact HR
    iexact H
  iintro H
  rw [wp_ret]; imodintro
  iapply Hk; iexact H

theorem part26_wp  {Q : _ → sProp 𝕄} :
    iprop(recs K N ∗ WQ K 10) ⊢ iprop((∀ r, WQ K 15 -∗ Q r) -∗ wp frame (wpE (defs₀ (F := F)) 𝒱₀ ((0 : Dev nD) : Thread nD τ) none) Set.univ (k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 ) Q) := by
  rw [k0_part26_eq_skeleton]; unfold k0_part26_skel
  simp only [Prog.lift, Prog.bind_op, Prog.bind_ret, Prog.pure_eq_ret]
  iintro ⟨#HR, H⟩ Hk
  iapply (step_WQ K N 10 _ _ rfl rfl) $$ [H]
  · isplitr; · iexact HR
    iexact H
  iintro H
  iapply (step_WQ K N 11 _ _ rfl rfl) $$ [H]
  · isplitr; · iexact HR
    iexact H
  iintro H
  iapply (step_WQ K N 12 _ _ rfl rfl) $$ [H]
  · isplitr; · iexact HR
    iexact H
  iintro H
  iapply (step_WQ K N 13 _ _ rfl rfl) $$ [H]
  · isplitr; · iexact HR
    iexact H
  iintro H
  iapply (step_WQ K N 14 _ _ rfl rfl) $$ [H]
  · isplitr; · iexact HR
    iexact H
  iintro H
  rw [wp_ret]; imodintro
  iapply Hk; iexact H

theorem part27_wp  {Q : _ → sProp 𝕄} :
    iprop(recs K N ∗ WQ K 15) ⊢ iprop((∀ r, WQ K 20 -∗ Q r) -∗ wp frame (wpE (defs₀ (F := F)) 𝒱₀ ((0 : Dev nD) : Thread nD τ) none) Set.univ (k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 ) Q) := by
  rw [k0_part27_eq_skeleton]; unfold k0_part27_skel
  simp only [Prog.lift, Prog.bind_op, Prog.bind_ret, Prog.pure_eq_ret]
  iintro ⟨#HR, H⟩ Hk
  iapply (step_WQ K N 15 _ _ rfl rfl) $$ [H]
  · isplitr; · iexact HR
    iexact H
  iintro H
  iapply (step_WQ K N 16 _ _ rfl rfl) $$ [H]
  · isplitr; · iexact HR
    iexact H
  iintro H
  iapply (step_WQ K N 17 _ _ rfl rfl) $$ [H]
  · isplitr; · iexact HR
    iexact H
  iintro H
  iapply (step_WQ K N 18 _ _ rfl rfl) $$ [H]
  · isplitr; · iexact HR
    iexact H
  iintro H
  iapply (step_WQ K N 19 _ _ rfl rfl) $$ [H]
  · isplitr; · iexact HR
    iexact H
  iintro H
  rw [wp_ret]; imodintro
  iapply Hk; iexact H

theorem part28_wp  {Q : _ → sProp 𝕄} :
    iprop(recs K N ∗ WQ K 20) ⊢ iprop((∀ r, WQ K 25 -∗ Q r) -∗ wp frame (wpE (defs₀ (F := F)) 𝒱₀ ((0 : Dev nD) : Thread nD τ) none) Set.univ (k0_part28 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 ) Q) := by
  rw [k0_part28_eq_skeleton]; unfold k0_part28_skel
  simp only [Prog.lift, Prog.bind_op, Prog.bind_ret, Prog.pure_eq_ret]
  iintro ⟨#HR, H⟩ Hk
  iapply (step_WQ K N 20 _ _ rfl rfl) $$ [H]
  · isplitr; · iexact HR
    iexact H
  iintro H
  iapply (step_WQ K N 21 _ _ rfl rfl) $$ [H]
  · isplitr; · iexact HR
    iexact H
  iintro H
  iapply (step_WQ K N 22 _ _ rfl rfl) $$ [H]
  · isplitr; · iexact HR
    iexact H
  iintro H
  iapply (step_WQ K N 23 _ _ rfl rfl) $$ [H]
  · isplitr; · iexact HR
    iexact H
  iintro H
  iapply (step_WQ K N 24 _ _ rfl rfl) $$ [H]
  · isplitr; · iexact HR
    iexact H
  iintro H
  rw [wp_ret]; imodintro
  iapply Hk; iexact H

theorem part29_wp  {Q : _ → sProp 𝕄} :
    iprop(recs K N ∗ WQ K 25) ⊢ iprop((∀ r, WQ K 30 -∗ Q r) -∗ wp frame (wpE (defs₀ (F := F)) 𝒱₀ ((0 : Dev nD) : Thread nD τ) none) Set.univ (k0_part29 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 ) Q) := by
  rw [k0_part29_eq_skeleton]; unfold k0_part29_skel
  simp only [Prog.lift, Prog.bind_op, Prog.bind_ret, Prog.pure_eq_ret]
  iintro ⟨#HR, H⟩ Hk
  iapply (step_WQ K N 25 _ _ rfl rfl) $$ [H]
  · isplitr; · iexact HR
    iexact H
  iintro H
  iapply (step_WQ K N 26 _ _ rfl rfl) $$ [H]
  · isplitr; · iexact HR
    iexact H
  iintro H
  iapply (step_WQ K N 27 _ _ rfl rfl) $$ [H]
  · isplitr; · iexact HR
    iexact H
  iintro H
  iapply (step_WQ K N 28 _ _ rfl rfl) $$ [H]
  · isplitr; · iexact HR
    iexact H
  iintro H
  iapply (step_WQ K N 29 _ _ rfl rfl) $$ [H]
  · isplitr; · iexact HR
    iexact H
  iintro H
  rw [wp_ret]; imodintro
  iapply Hk; iexact H

/-- All shares of a buffer, put together again. -/
theorem wq_done : iprop(WQ K 31 ∗ pts 0 bqM (Transfers.shareDrop fullShare 31) K.bq ∗ pts 0 bkvM (Transfers.shareDrop fullShare 31) K.bkv)
    ⊢ iprop(owesJ 0 68 ∗ (bigSep Finset.univ fun i : Fin 31 => closed K 0 (.inr (.bq i))) ∗ (bigSep Finset.univ fun i : Fin 31 => closed K 0 (.inr (.bkv i)))
        ∗ pts 0 bqM fullShare K.bq ∗ pts 0 bkvM fullShare K.bkv) := by
  unfold WQ
  have e : (bigSep Finset.univ (fun i : Fin 31 => iprop((closed K 0 (.inr (.bq i)) ∗ closed K 0 (.inr (.bkv i)))
        ∗ owns ((0 : Dev nD) : Thread nD τ) bqM (Transfers.shareTokN fullShare i.val) K.bq ∗ owns ((0 : Dev nD) : Thread nD τ) bkvM (Transfers.shareTokN fullShare i.val) K.bkv)) : sProp 𝕄)
      = iprop(((bigSep Finset.univ fun i : Fin 31 => closed K 0 (.inr (.bq i))) ∗ (bigSep Finset.univ fun i : Fin 31 => closed K 0 (.inr (.bkv i))))
        ∗ (bigSep Finset.univ fun i : Fin 31 => pts 0 bqM (Transfers.shareTokN fullShare i.val) K.bq) ∗ (bigSep Finset.univ fun i : Fin 31 => pts 0 bkvM (Transfers.shareTokN fullShare i.val) K.bkv)) := by
    rw [bigSep_sep', bigSep_sep', bigSep_sep']
    simp only [own_bq, own_bkv]
  rw [ltK_last, e]
  iintro ⟨⟨HO, -, ⟨H1, H2⟩, H3, H4⟩, H5, H6⟩
  isplitl [HO]; · iexact HO
  isplitl [H1]; · iexact H1
  isplitl [H2]; · iexact H2
  isplitl [H3 H5]
  · unfold pts
    iapply (Transfers.pointsTo_toks_join fullShare 31)
    isplitl [H5]; · iexact H5
    iexact H3
  unfold pts
  iapply (Transfers.pointsTo_toks_join fullShare 31)
  isplitl [H6]; · iexact H6
  iexact H4

end Cert.KernelIdealProof

end
-- ==== Proof.KernelIdeal.Partials.lean ====
/-
The parts of the program that compute one device's partial sums: what they load and store.
-/
module

public import proofs.«01_k».proof.Proof.KernelIdeal.Stores

@[expose] public section

set_option maxRecDepth 65536

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

theorem part33_wp (c : Dev nD) (v81 : FVec F S33x64 .f32) (ps : Vec F S2x4x33x64 .f32) (bq : Vec F S2x4x32x64 .f32) (st : Vec F S2x2x4x128x64 .f32) (q8 : PosShare TreeShare) (q6 : PosShare TreeShare) {Q : (Σ' (v108 : FVec F S32x64 .f32), Vec F S1x1x1x128x64 .f32) → sProp 𝕄} :
    (iprop(pts c psM fullShare ps ∗ pts c bqM q8 bq ∗ pts c stM q6 st) : sProp 𝕄) ⊢ iprop(((pts c psM fullShare ((psM : Memref sig .tc .vmem S2x4x33x64 .f32).view.writes (Elt F) ps [⟨(Rect.unit (s := S2x4x33x64) ![0, 1, 0, 0] S1x1x33x64.size inb_S2x4x33x64_S1x1x33x64_0_1_0_0), (k0_pay24 (ldQ bq 0 1) (ldS st 0 0 1) (ldS st 1 0 1))⟩, ⟨(Rect.unit (s := S2x4x33x64) ![0, 0, 0, 0] S1x1x33x64.size inb_S2x4x33x64_S1x1x33x64_0_0_0_0), (k0_pay23 v81)⟩]) ∗ pts c bqM q8 bq ∗ pts c stM q6 st) -∗ Q (⟨k0_pay25 (ldQ bq 0 2), (ldS st 0 0 2)⟩)) -∗ wp frame (wpE (defs₀ (F := F)) 𝒱₀ (c : Thread nD τ) none) Set.univ (k0_part33 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 v81) Q) := by
  rw [k0_part33_eq_skeleton]; unfold pts; unfold k0_part33_skel
  iintro ⟨H10, H8, H6⟩ Hk
  sl_exec
  simp only [readS', readN', readG', readQ', readX', readU', readML', readWq', readWo']
  rw [wp_ret]; imodintro
  iapply Hk
  isplitl [H10]; · iexact H10
  isplitl [H8]; · iexact H8
  iexact H6

theorem part34_wp (c : Dev nD) (v108 : FVec F S32x64 .f32) (v109 : Vec F S1x1x1x128x64 .f32) (st : Vec F S2x2x4x128x64 .f32) (ps : Vec F S2x4x33x64 .f32) (bq : Vec F S2x4x32x64 .f32) (q6 : PosShare TreeShare) (q8 : PosShare TreeShare) {Q : (Σ' (v136 : FVec F S32 .f32) (v140 : FVec F S32x128 .f32), FVec F S32 .f32) → sProp 𝕄} :
    (iprop(pts c stM q6 st ∗ pts c psM fullShare ps ∗ pts c bqM q8 bq) : sProp 𝕄) ⊢ iprop(((pts c stM q6 st ∗ pts c psM fullShare ((psM : Memref sig .tc .vmem S2x4x33x64 .f32).view.writes (Elt F) ps [⟨(Rect.unit (s := S2x4x33x64) ![0, 2, 0, 0] S1x1x33x64.size inb_S2x4x33x64_S1x1x33x64_0_2_0_0), (k0_pay26 v108 v109 (ldS st 1 0 2))⟩]) ∗ pts c bqM q8 bq) -∗ Q (⟨k0_pay28 (ldQ bq 0 3) (ldS st 0 0 3), k0_pay29 (ldQ bq 0 3) (ldS st 0 0 3), k0_pay30 (ldQ bq 0 3) (ldS st 0 0 3)⟩)) -∗ wp frame (wpE (defs₀ (F := F)) 𝒱₀ (c : Thread nD τ) none) Set.univ (k0_part34 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 v108 v109) Q) := by
  rw [k0_part34_eq_skeleton]; unfold pts; unfold k0_part34_skel
  iintro ⟨H6, H10, H8⟩ Hk
  sl_exec
  simp only [readS', readN', readG', readQ', readX', readU', readML', readWq', readWo']
  rw [wp_ret]; imodintro
  iapply Hk
  isplitl [H6]; · iexact H6
  isplitl [H10]; · iexact H10
  iexact H8

theorem part35_wp (c : Dev nD) (v136 : FVec F S32 .f32) (v140 : FVec F S32x128 .f32) (v141 : FVec F S32 .f32) (st : Vec F S2x2x4x128x64 .f32) (ps : Vec F S2x4x33x64 .f32) (bq : Vec F S2x4x32x64 .f32) (q6 : PosShare TreeShare) (q8 : PosShare TreeShare) {Q : (FVec F S33x64 .f32) → sProp 𝕄} :
    (iprop(pts c stM q6 st ∗ pts c psM fullShare ps ∗ pts c bqM q8 bq) : sProp 𝕄) ⊢ iprop(((pts c stM q6 st ∗ pts c psM fullShare ((psM : Memref sig .tc .vmem S2x4x33x64 .f32).view.writes (Elt F) ps [⟨(Rect.unit (s := S2x4x33x64) ![0, 3, 0, 0] S1x1x33x64.size inb_S2x4x33x64_S1x1x33x64_0_3_0_0), (k0_pay31 v136 v140 v141 (ldS st 1 0 3))⟩]) ∗ pts c bqM q8 bq) -∗ Q ((k0_pay32 (ldQ bq 1 0) (ldS st 0 1 0) (ldS st 1 1 0)))) -∗ wp frame (wpE (defs₀ (F := F)) 𝒱₀ (c : Thread nD τ) none) Set.univ (k0_part35 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 v136 v140 v141) Q) := by
  rw [k0_part35_eq_skeleton]; unfold pts; unfold k0_part35_skel
  iintro ⟨H6, H10, H8⟩ Hk
  sl_exec
  simp only [readS', readN', readG', readQ', readX', readU', readML', readWq', readWo']
  rw [wp_ret]; imodintro
  iapply Hk
  isplitl [H6]; · iexact H6
  isplitl [H10]; · iexact H10
  iexact H8

theorem part36_wp (c : Dev nD) (v169 : FVec F S33x64 .f32) (ps : Vec F S2x4x33x64 .f32) (bq : Vec F S2x4x32x64 .f32) (st : Vec F S2x2x4x128x64 .f32) (q8 : PosShare TreeShare) (q6 : PosShare TreeShare) {Q : (FVec F S32x64 .f32) → sProp 𝕄} :
    (iprop(pts c psM fullShare ps ∗ pts c bqM q8 bq ∗ pts c stM q6 st) : sProp 𝕄) ⊢ iprop(((pts c psM fullShare ((psM : Memref sig .tc .vmem S2x4x33x64 .f32).view.writes (Elt F) ps [⟨(Rect.unit (s := S2x4x33x64) ![1, 1, 0, 0] S1x1x33x64.size inb_S2x4x33x64_S1x1x33x64_1_1_0_0), (k0_pay34 (ldQ bq 1 1) (ldS st 0 1 1) (ldS st 1 1 1))⟩, ⟨(Rect.unit (s := S2x4x33x64) ![1, 0, 0, 0] S1x1x33x64.size inb_S2x4x33x64_S1x1x33x64_1_0_0_0), (k0_pay33 v169)⟩]) ∗ pts c bqM q8 bq ∗ pts c stM q6 st) -∗ Q ((k0_pay35 (ldQ bq 1 2)))) -∗ wp frame (wpE (defs₀ (F := F)) 𝒱₀ (c : Thread nD τ) none) Set.univ (k0_part36 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 v169) Q) := by
  rw [k0_part36_eq_skeleton]; unfold pts; unfold k0_part36_skel
  iintro ⟨H10, H8, H6⟩ Hk
  sl_exec
  simp only [readS', readN', readG', readQ', readX', readU', readML', readWq', readWo']
  rw [wp_ret]; imodintro
  iapply Hk
  isplitl [H10]; · iexact H10
  isplitl [H8]; · iexact H8
  iexact H6

theorem part37_wp (c : Dev nD) (v196 : FVec F S32x64 .f32) (st : Vec F S2x2x4x128x64 .f32) (ps : Vec F S2x4x33x64 .f32) (bq : Vec F S2x4x32x64 .f32) (q6 : PosShare TreeShare) (q8 : PosShare TreeShare) {Q : (Σ' (v223 : FVec F S32x128 .f32) (v224 : FVec F S32 .f32), FVec F S32x128 .f32) → sProp 𝕄} :
    (iprop(pts c stM q6 st ∗ pts c psM fullShare ps ∗ pts c bqM q8 bq) : sProp 𝕄) ⊢ iprop(((pts c stM q6 st ∗ pts c psM fullShare ((psM : Memref sig .tc .vmem S2x4x33x64 .f32).view.writes (Elt F) ps [⟨(Rect.unit (s := S2x4x33x64) ![1, 2, 0, 0] S1x1x33x64.size inb_S2x4x33x64_S1x1x33x64_1_2_0_0), (k0_pay36 v196 (ldS st 0 1 2) (ldS st 1 1 2))⟩]) ∗ pts c bqM q8 bq) -∗ Q (⟨k0_pay37 (ldQ bq 1 3) (ldS st 0 1 3), k0_pay38 (ldQ bq 1 3) (ldS st 0 1 3), k0_pay39 (ldQ bq 1 3) (ldS st 0 1 3)⟩)) -∗ wp frame (wpE (defs₀ (F := F)) 𝒱₀ (c : Thread nD τ) none) Set.univ (k0_part37 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 v196) Q) := by
  rw [k0_part37_eq_skeleton]; unfold pts; unfold k0_part37_skel
  iintro ⟨H6, H10, H8⟩ Hk
  sl_exec
  simp only [readS', readN', readG', readQ', readX', readU', readML', readWq', readWo']
  rw [wp_ret]; imodintro
  iapply Hk
  isplitl [H6]; · iexact H6
  isplitl [H10]; · iexact H10
  iexact H8

end Cert.KernelIdealProof

end
-- ==== Proof.KernelIdeal.Window.lean ====
/-
The parts of the program that attend in the window: what they load and store.
-/
module

public import proofs.«01_k».proof.Proof.KernelIdeal.Stores

@[expose] public section

set_option maxRecDepth 65536

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

theorem part40_wp (c : Dev nD) (v2 : BitVec 32) (v281 : IVec S128x416 32) (v282 : IVec S128x416 32) (v283 : IVec S128x416 32) (v285 : IVec S128x416 1) (c1_i32_275 : BitVec 32) (nb : Vec F S2x2x2x4x128x64 .f32) (q7 : PosShare TreeShare) {Q : (Σ' (v321 : IVec S128x416 1), FVec F S128x64 .f32) → sProp 𝕄} :
    (iprop(pts c nbW q7 nb) : sProp 𝕄) ⊢ iprop(((pts c nbW q7 nb) -∗ Q (⟨k0_pay57 v2 v281 v282 v283 v285 c1_i32_275, k0_pay58 (ldN nb 0 0 0 0)⟩)) -∗ wp frame (wpE (defs₀ (F := F)) 𝒱₀ (c : Thread nD τ) none) Set.univ (k0_part40 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 v2 v281 v282 v283 v285 c1_i32_275) Q) := by
  rw [k0_part40_eq_skeleton]; unfold pts; unfold k0_part40_skel
  iintro ⟨H7⟩ Hk
  sl_exec
  simp only [readS', readN', readG', readQ', readX', readU', readML', readWq', readWo']
  rw [wp_ret]; imodintro
  iapply Hk
  iexact H7

theorem part41_wp (c : Dev nD) (v250 : FVec F S128x64 .f32) (v321 : IVec S128x416 1) (v323 : FVec F S128x64 .f32) (st : Vec F S2x2x4x128x64 .f32) (nb : Vec F S2x2x2x4x128x64 .f32) (g : Vec F S2x2x4x32x64 .f32) (q6 : PosShare TreeShare) (q7 : PosShare TreeShare) (q9 : PosShare TreeShare) {Q : (Σ' (v339 : FVec F S416x64 .f32) (v344 : FVec F S128x416 .f32), FVec F S128 .f32) → sProp 𝕄} :
    (iprop(pts c stM q6 st ∗ pts c nbW q7 nb ∗ pts c bkvM q9 g) : sProp 𝕄) ⊢ iprop(((pts c stM q6 st ∗ pts c nbW q7 nb ∗ pts c bkvM q9 g) -∗ Q (⟨k0_pay59 (ldN nb 0 1 0 0) (ldS st 1 0 0) (ldN nb 1 1 0 0) (ldG g 1 0 0), k0_pay60 v250 v321 v323 (ldS st 0 0 0) (ldN nb 1 0 0 0) (ldG g 0 0 0), k0_pay61 v250 v321 v323 (ldS st 0 0 0) (ldN nb 1 0 0 0) (ldG g 0 0 0)⟩)) -∗ wp frame (wpE (defs₀ (F := F)) 𝒱₀ (c : Thread nD τ) none) Set.univ (k0_part41 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 v250 v321 v323) Q) := by
  rw [k0_part41_eq_skeleton]; unfold pts; unfold k0_part41_skel
  iintro ⟨H6, H7, H9⟩ Hk
  sl_exec
  simp only [readS', readN', readG', readQ', readX', readU', readML', readWq', readWo']
  rw [wp_ret]; imodintro
  iapply Hk
  isplitl [H6]; · iexact H6
  isplitl [H7]; · iexact H7
  iexact H9

theorem part42_wp (c : Dev nD) (v339 : FVec F S416x64 .f32) (v344 : FVec F S128x416 .f32) (v345 : FVec F S128 .f32) (nb : Vec F S2x2x2x4x128x64 .f32) (st : Vec F S2x2x4x128x64 .f32) (g : Vec F S2x2x4x32x64 .f32) (q7 : PosShare TreeShare) (q6 : PosShare TreeShare) (q9 : PosShare TreeShare) {Q : (Σ' (v354 : FVec F S128x64 .f32) (v363 : FVec F S416x64 .f32) (v365 : FVec F S128x64 .f32), FVec F S128x64 .f32) → sProp 𝕄} :
    (iprop(pts c nbW q7 nb ∗ pts c stM q6 st ∗ pts c bkvM q9 g) : sProp 𝕄) ⊢ iprop(((pts c nbW q7 nb ∗ pts c stM q6 st ∗ pts c bkvM q9 g) -∗ Q (⟨k0_pay62 v339 v344 v345, k0_pay63 (ldN nb 0 0 0 1) (ldS st 0 0 1) (ldN nb 1 0 0 1) (ldG g 0 0 1), k0_pay64 (ldN nb 0 1 0 1), k0_pay65 (ldS st 1 0 1)⟩)) -∗ wp frame (wpE (defs₀ (F := F)) 𝒱₀ (c : Thread nD τ) none) Set.univ (k0_part42 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 v339 v344 v345) Q) := by
  rw [k0_part42_eq_skeleton]; unfold pts; unfold k0_part42_skel
  iintro ⟨H7, H6, H9⟩ Hk
  sl_exec
  simp only [readS', readN', readG', readQ', readX', readU', readML', readWq', readWo']
  rw [wp_ret]; imodintro
  iapply Hk
  isplitl [H7]; · iexact H7
  isplitl [H6]; · iexact H6
  iexact H9

theorem part43_wp (c : Dev nD) (v251 : FVec F S128x64 .f32) (v321 : IVec S128x416 1) (v363 : FVec F S416x64 .f32) (v365 : FVec F S128x64 .f32) (v367 : FVec F S128x64 .f32) (nb : Vec F S2x2x2x4x128x64 .f32) (g : Vec F S2x2x4x32x64 .f32) (st : Vec F S2x2x4x128x64 .f32) (q7 : PosShare TreeShare) (q9 : PosShare TreeShare) (q6 : PosShare TreeShare) {Q : (Σ' (v387 : FVec F S128x64 .f32) (v389 : FVec F S128x64 .f32) (v391 : FVec F S128x64 .f32), FVec F S128x64 .f32) → sProp 𝕄} :
    (iprop(pts c nbW q7 nb ∗ pts c bkvM q9 g ∗ pts c stM q6 st) : sProp 𝕄) ⊢ iprop(((pts c nbW q7 nb ∗ pts c bkvM q9 g ∗ pts c stM q6 st) -∗ Q (⟨k0_pay66 v251 v321 v363 v365 v367 (ldN nb 1 1 0 1) (ldG g 1 0 1), k0_pay67 (ldN nb 0 0 0 2), k0_pay68 (ldS st 0 0 2), k0_pay69 (ldN nb 1 0 0 2)⟩)) -∗ wp frame (wpE (defs₀ (F := F)) 𝒱₀ (c : Thread nD τ) none) Set.univ (k0_part43 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 v251 v321 v363 v365 v367) Q) := by
  rw [k0_part43_eq_skeleton]; unfold pts; unfold k0_part43_skel
  iintro ⟨H7, H9, H6⟩ Hk
  sl_exec
  simp only [readS', readN', readG', readQ', readX', readU', readML', readWq', readWo']
  rw [wp_ret]; imodintro
  iapply Hk
  isplitl [H7]; · iexact H7
  isplitl [H9]; · iexact H9
  iexact H6

theorem part44_wp (c : Dev nD) (v252 : FVec F S128x64 .f32) (v321 : IVec S128x416 1) (v389 : FVec F S128x64 .f32) (v391 : FVec F S128x64 .f32) (v393 : FVec F S128x64 .f32) (g : Vec F S2x2x4x32x64 .f32) (nb : Vec F S2x2x2x4x128x64 .f32) (st : Vec F S2x2x4x128x64 .f32) (q9 : PosShare TreeShare) (q7 : PosShare TreeShare) (q6 : PosShare TreeShare) {Q : (FVec F S128x64 .f32) → sProp 𝕄} :
    (iprop(pts c bkvM q9 g ∗ pts c nbW q7 nb ∗ pts c stM q6 st) : sProp 𝕄) ⊢ iprop(((pts c bkvM q9 g ∗ pts c nbW q7 nb ∗ pts c stM q6 st) -∗ Q ((k0_pay70 v252 v321 v389 v391 v393 (ldG g 0 0 2) (ldN nb 0 1 0 2) (ldS st 1 0 2) (ldN nb 1 1 0 2) (ldG g 1 0 2)))) -∗ wp frame (wpE (defs₀ (F := F)) 𝒱₀ (c : Thread nD τ) none) Set.univ (k0_part44 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 v252 v321 v389 v391 v393) Q) := by
  rw [k0_part44_eq_skeleton]; unfold pts; unfold k0_part44_skel
  iintro ⟨H9, H7, H6⟩ Hk
  sl_exec
  simp only [readS', readN', readG', readQ', readX', readU', readML', readWq', readWo']
  rw [wp_ret]; imodintro
  iapply Hk
  isplitl [H9]; · iexact H9
  isplitl [H7]; · iexact H7
  iexact H6

theorem part45_wp (c : Dev nD)  (nb : Vec F S2x2x2x4x128x64 .f32) (st : Vec F S2x2x4x128x64 .f32) (g : Vec F S2x2x4x32x64 .f32) (q7 : PosShare TreeShare) (q6 : PosShare TreeShare) (q9 : PosShare TreeShare) {Q : (Σ' (v429 : FVec F S416x64 .f32) (v438 : FVec F S416x64 .f32), FVec F S128x416 .f32) → sProp 𝕄} :
    (iprop(pts c nbW q7 nb ∗ pts c stM q6 st ∗ pts c bkvM q9 g) : sProp 𝕄) ⊢ iprop(((pts c nbW q7 nb ∗ pts c stM q6 st ∗ pts c bkvM q9 g) -∗ Q (⟨k0_pay71 (ldN nb 0 0 0 3) (ldS st 0 0 3) (ldN nb 1 0 0 3) (ldG g 0 0 3), k0_pay72 (ldN nb 0 1 0 3) (ldS st 1 0 3) (ldN nb 1 1 0 3) (ldG g 1 0 3), (constant S128x416 .f32 0x00000000#32)⟩)) -∗ wp frame (wpE (defs₀ (F := F)) 𝒱₀ (c : Thread nD τ) none) Set.univ (k0_part45 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 ) Q) := by
  rw [k0_part45_eq_skeleton]; unfold pts; unfold k0_part45_skel
  iintro ⟨H7, H6, H9⟩ Hk
  sl_exec
  simp only [readS', readN', readG', readQ', readX', readU', readML', readWq', readWo']
  rw [wp_ret]; imodintro
  unfold part45_wp.sl.cst_480
  iapply Hk
  isplitl [H7]; · iexact H7
  isplitl [H6]; · iexact H6
  iexact H9

theorem part46_wp (c : Dev nD) (v253 : FVec F S128x64 .f32) (v321 : IVec S128x416 1) (v354 : FVec F S128x64 .f32) (v387 : FVec F S128x64 .f32) (v420 : FVec F S128x64 .f32) (v429 : FVec F S416x64 .f32) (v438 : FVec F S416x64 .f32) (cst_480 : FVec F S128x416 .f32) (wo : Vec F S256x512 .f32) (o : Vec F S2x128x512 .f32) (nb : Vec F S2x2x2x4x128x64 .f32) (st : Vec F S2x2x4x128x64 .f32) (q4 : PosShare TreeShare) (q7 : PosShare TreeShare) (q6 : PosShare TreeShare) {Q : (Σ' (v462 : FVec F S128x64 .f32) (v464 : FVec F S128x64 .f32), FVec F S128x64 .f32) → sProp 𝕄} :
    (iprop(pts c woM q4 wo ∗ pts c outM fullShare o ∗ pts c nbW q7 nb ∗ pts c stM q6 st) : sProp 𝕄) ⊢ iprop(((pts c woM q4 wo ∗ pts c outM fullShare ((outM : Memref sig .tc .vmem S2x128x512 .f32).view.writes (Elt F) o [⟨(Rect.unit (s := S2x128x512) ![0, 0, 0] S1x128x512.size inb_S2x128x512_S1x128x512_0_0_0), (k0_pay73 v253 v321 v354 v387 v420 v429 v438 cst_480 (wo))⟩]) ∗ pts c nbW q7 nb ∗ pts c stM q6 st) -∗ Q (⟨k0_pay74 (ldN nb 0 0 1 0), k0_pay75 (ldS st 0 1 0), k0_pay76 (ldN nb 1 0 1 0)⟩)) -∗ wp frame (wpE (defs₀ (F := F)) 𝒱₀ (c : Thread nD τ) none) Set.univ (k0_part46 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 v253 v321 v354 v387 v420 v429 v438 cst_480) Q) := by
  rw [k0_part46_eq_skeleton]; unfold pts; unfold k0_part46_skel
  iintro ⟨H4, H5, H7, H6⟩ Hk
  sl_exec
  simp only [readS', readN', readG', readQ', readX', readU', readML', readWq', readWo']
  rw [wp_ret]; imodintro
  iapply Hk
  isplitl [H4]; · iexact H4
  isplitl [H5]; · iexact H5
  isplitl [H7]; · iexact H7
  iexact H6

theorem part47_wp (c : Dev nD) (v259 : FVec F S128x64 .f32) (v321 : IVec S128x416 1) (v462 : FVec F S128x64 .f32) (v464 : FVec F S128x64 .f32) (v466 : FVec F S128x64 .f32) (g : Vec F S2x2x4x32x64 .f32) (nb : Vec F S2x2x2x4x128x64 .f32) (st : Vec F S2x2x4x128x64 .f32) (q9 : PosShare TreeShare) (q7 : PosShare TreeShare) (q6 : PosShare TreeShare) {Q : (FVec F S128x64 .f32) → sProp 𝕄} :
    (iprop(pts c bkvM q9 g ∗ pts c nbW q7 nb ∗ pts c stM q6 st) : sProp 𝕄) ⊢ iprop(((pts c bkvM q9 g ∗ pts c nbW q7 nb ∗ pts c stM q6 st) -∗ Q ((k0_pay77 v259 v321 v462 v464 v466 (ldG g 0 1 0) (ldN nb 0 1 1 0) (ldS st 1 1 0) (ldN nb 1 1 1 0) (ldG g 1 1 0)))) -∗ wp frame (wpE (defs₀ (F := F)) 𝒱₀ (c : Thread nD τ) none) Set.univ (k0_part47 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 v259 v321 v462 v464 v466) Q) := by
  rw [k0_part47_eq_skeleton]; unfold pts; unfold k0_part47_skel
  iintro ⟨H9, H7, H6⟩ Hk
  sl_exec
  simp only [readS', readN', readG', readQ', readX', readU', readML', readWq', readWo']
  rw [wp_ret]; imodintro
  iapply Hk
  isplitl [H9]; · iexact H9
  isplitl [H7]; · iexact H7
  iexact H6

theorem part48_wp (c : Dev nD)  (nb : Vec F S2x2x2x4x128x64 .f32) (st : Vec F S2x2x4x128x64 .f32) (g : Vec F S2x2x4x32x64 .f32) (q7 : PosShare TreeShare) (q6 : PosShare TreeShare) (q9 : PosShare TreeShare) {Q : (Σ' (v502 : FVec F S416x64 .f32) (v511 : FVec F S416x64 .f32), FVec F S128x416 .f32) → sProp 𝕄} :
    (iprop(pts c nbW q7 nb ∗ pts c stM q6 st ∗ pts c bkvM q9 g) : sProp 𝕄) ⊢ iprop(((pts c nbW q7 nb ∗ pts c stM q6 st ∗ pts c bkvM q9 g) -∗ Q (⟨k0_pay78 (ldN nb 0 0 1 1) (ldS st 0 1 1) (ldN nb 1 0 1 1) (ldG g 0 1 1), k0_pay79 (ldN nb 0 1 1 1) (ldS st 1 1 1) (ldN nb 1 1 1 1) (ldG g 1 1 1), (constant S128x416 .f32 0x00000000#32)⟩)) -∗ wp frame (wpE (defs₀ (F := F)) 𝒱₀ (c : Thread nD τ) none) Set.univ (k0_part48 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 ) Q) := by
  rw [k0_part48_eq_skeleton]; unfold pts; unfold k0_part48_skel
  iintro ⟨H7, H6, H9⟩ Hk
  sl_exec
  simp only [readS', readN', readG', readQ', readX', readU', readML', readWq', readWo']
  rw [wp_ret]; imodintro
  unfold part48_wp.sl.cst_586
  iapply Hk
  isplitl [H7]; · iexact H7
  isplitl [H6]; · iexact H6
  iexact H9

theorem part49_wp (c : Dev nD) (v260 : FVec F S128x64 .f32) (v321 : IVec S128x416 1) (v502 : FVec F S416x64 .f32) (v511 : FVec F S416x64 .f32) (cst_586 : FVec F S128x416 .f32) (nb : Vec F S2x2x2x4x128x64 .f32) (st : Vec F S2x2x4x128x64 .f32) (g : Vec F S2x2x4x32x64 .f32) (q7 : PosShare TreeShare) (q6 : PosShare TreeShare) (q9 : PosShare TreeShare) {Q : (Σ' (v526 : FVec F S128x64 .f32) (v535 : FVec F S416x64 .f32), FVec F S128x64 .f32) → sProp 𝕄} :
    (iprop(pts c nbW q7 nb ∗ pts c stM q6 st ∗ pts c bkvM q9 g) : sProp 𝕄) ⊢ iprop(((pts c nbW q7 nb ∗ pts c stM q6 st ∗ pts c bkvM q9 g) -∗ Q (⟨k0_pay80 v260 v321 v502 v511 cst_586, k0_pay81 (ldN nb 0 0 1 2) (ldS st 0 1 2) (ldN nb 1 0 1 2) (ldG g 0 1 2), k0_pay82 (ldN nb 0 1 1 2)⟩)) -∗ wp frame (wpE (defs₀ (F := F)) 𝒱₀ (c : Thread nD τ) none) Set.univ (k0_part49 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 v260 v321 v502 v511 cst_586) Q) := by
  rw [k0_part49_eq_skeleton]; unfold pts; unfold k0_part49_skel
  iintro ⟨H7, H6, H9⟩ Hk
  sl_exec
  simp only [readS', readN', readG', readQ', readX', readU', readML', readWq', readWo']
  rw [wp_ret]; imodintro
  iapply Hk
  isplitl [H7]; · iexact H7
  isplitl [H6]; · iexact H6
  iexact H9

theorem part50_wp (c : Dev nD) (v261 : FVec F S128x64 .f32) (v321 : IVec S128x416 1) (v535 : FVec F S416x64 .f32) (v537 : FVec F S128x64 .f32) (st : Vec F S2x2x4x128x64 .f32) (nb : Vec F S2x2x2x4x128x64 .f32) (g : Vec F S2x2x4x32x64 .f32) (q6 : PosShare TreeShare) (q7 : PosShare TreeShare) (q9 : PosShare TreeShare) {Q : (Σ' (v559 : FVec F S128x64 .f32) (v561 : FVec F S128x64 .f32), FVec F S128x64 .f32) → sProp 𝕄} :
    (iprop(pts c stM q6 st ∗ pts c nbW q7 nb ∗ pts c bkvM q9 g) : sProp 𝕄) ⊢ iprop(((pts c stM q6 st ∗ pts c nbW q7 nb ∗ pts c bkvM q9 g) -∗ Q (⟨k0_pay83 v261 v321 v535 v537 (ldS st 1 1 2) (ldN nb 1 1 1 2) (ldG g 1 1 2), k0_pay84 (ldN nb 0 0 1 3), k0_pay85 (ldS st 0 1 3)⟩)) -∗ wp frame (wpE (defs₀ (F := F)) 𝒱₀ (c : Thread nD τ) none) Set.univ (k0_part50 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 v261 v321 v535 v537) Q) := by
  rw [k0_part50_eq_skeleton]; unfold pts; unfold k0_part50_skel
  iintro ⟨H6, H7, H9⟩ Hk
  sl_exec
  simp only [readS', readN', readG', readQ', readX', readU', readML', readWq', readWo']
  rw [wp_ret]; imodintro
  iapply Hk
  isplitl [H6]; · iexact H6
  isplitl [H7]; · iexact H7
  iexact H9

theorem part51_wp (c : Dev nD) (v262 : FVec F S128x64 .f32) (v321 : IVec S128x416 1) (v561 : FVec F S128x64 .f32) (v563 : FVec F S128x64 .f32) (nb : Vec F S2x2x2x4x128x64 .f32) (g : Vec F S2x2x4x32x64 .f32) (st : Vec F S2x2x4x128x64 .f32) (q7 : PosShare TreeShare) (q9 : PosShare TreeShare) (q6 : PosShare TreeShare) {Q : (Σ' (v577 : FVec F S416x64 .f32), FVec F S128x416 .f32) → sProp 𝕄} :
    (iprop(pts c nbW q7 nb ∗ pts c bkvM q9 g ∗ pts c stM q6 st) : sProp 𝕄) ⊢ iprop(((pts c nbW q7 nb ∗ pts c bkvM q9 g ∗ pts c stM q6 st) -∗ Q (⟨k0_pay86 (ldN nb 0 1 1 3) (ldS st 1 1 3) (ldN nb 1 1 1 3) (ldG g 1 1 3), k0_pay87 v262 v321 v561 v563 (ldN nb 1 0 1 3) (ldG g 0 1 3)⟩)) -∗ wp frame (wpE (defs₀ (F := F)) 𝒱₀ (c : Thread nD τ) none) Set.univ (k0_part51 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 v262 v321 v561 v563) Q) := by
  rw [k0_part51_eq_skeleton]; unfold pts; unfold k0_part51_skel
  iintro ⟨H7, H9, H6⟩ Hk
  sl_exec
  simp only [readS', readN', readG', readQ', readX', readU', readML', readWq', readWo']
  rw [wp_ret]; imodintro
  iapply Hk
  isplitl [H7]; · iexact H7
  isplitl [H9]; · iexact H9
  iexact H6

end Cert.KernelIdealProof

end
-- ==== Proof.KernelIdeal.Combine.lean ====
/-
The parts of the program that combine the partial sums on device 0: what they load and store.
-/
module

public import proofs.«01_k».proof.Proof.KernelIdeal.Stores

@[expose] public section

set_option maxRecDepth 65536

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

theorem part20_wp (c : Dev nD) (v816 : FVec F S32x32x64 .f32) (pb : Vec F S32x2x4x33x64 .f32) (q11 : PosShare TreeShare) {Q : (Σ' (v834 : FVec F S32x64 .f32), FVec F S32x64 .f32) → sProp 𝕄} :
    (iprop(pts c pbW q11 pb) : sProp 𝕄) ⊢ iprop(((pts c pbW q11 pb) -∗ Q (⟨k0_pay7 v816 (ldML pb 0 1), k0_pay8 (ldU pb 0 2) (ldML pb 0 2)⟩)) -∗ wp frame (wpE (defs₀ (F := F)) 𝒱₀ (c : Thread nD τ) none) Set.univ (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 v816) Q) := by
  rw [k0_part20_eq_skeleton]; unfold pts; unfold k0_part20_skel
  iintro ⟨H11⟩ Hk
  sl_exec
  simp only [readS', readN', readG', readQ', readX', readU', readML', readWq', readWo']
  rw [wp_ret]; imodintro
  iapply Hk
  iexact H11

theorem part21_wp (c : Dev nD) (v814 : FVec F S32x64 .f32) (v834 : FVec F S32x64 .f32) (v854 : FVec F S32x64 .f32) (pb : Vec F S32x2x4x33x64 .f32) (wo : Vec F S256x512 .f32) (o : Vec F S2x128x512 .f32) (q11 : PosShare TreeShare) (q4 : PosShare TreeShare) {Q : (Σ' (v883 : FVec F S32x32x64 .f32) (v886 : FVec F S32x32 .f32) (v887 : FVec F S32x32 .f32), FVec F S32 .f32) → sProp 𝕄} :
    (iprop(pts c pbW q11 pb ∗ pts c woM q4 wo ∗ pts c outM fullShare o) : sProp 𝕄) ⊢ iprop(((pts c pbW q11 pb ∗ pts c woM q4 wo ∗ pts c outM fullShare ((outM : Memref sig .tc .vmem S2x128x512 .f32).view.writes (Elt F) o [⟨(Rect.unit (s := S2x128x512) ![0, 0, 0] S1x32x512.size inb_S2x128x512_S1x32x512_0_0_0), (k0_pay9 v814 v834 v854 (ldU pb 0 3) (ldML pb 0 3) (wo))⟩])) -∗ Q (⟨k0_pay10 (ldU pb 1 0), k0_pay12 (ldML pb 1 0), k0_pay13 (ldML pb 1 0), k0_pay14 (ldML pb 1 0)⟩)) -∗ wp frame (wpE (defs₀ (F := F)) 𝒱₀ (c : Thread nD τ) none) Set.univ (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 v814 v834 v854) Q) := by
  rw [k0_part21_eq_skeleton]; unfold pts; unfold k0_part21_skel
  iintro ⟨H11, H4, H5⟩ Hk
  sl_exec
  simp only [readS', readN', readG', readQ', readX', readU', readML', readWq', readWo']
  rw [wp_ret]; imodintro
  iapply Hk
  isplitl [H11]; · iexact H11
  isplitl [H4]; · iexact H4
  iexact H5

theorem part22_wp (c : Dev nD) (v883 : FVec F S32x32x64 .f32) (v886 : FVec F S32x32 .f32) (v887 : FVec F S32x32 .f32) (v888 : FVec F S32 .f32) (pb : Vec F S32x2x4x33x64 .f32) (q11 : PosShare TreeShare) {Q : (Σ' (v901 : FVec F S32x64 .f32) (v921 : FVec F S32x64 .f32), FVec F S32x32x64 .f32) → sProp 𝕄} :
    (iprop(pts c pbW q11 pb) : sProp 𝕄) ⊢ iprop(((pts c pbW q11 pb) -∗ Q (⟨k0_pay15 v883 v886 v887 v888, k0_pay16 (ldU pb 1 1) (ldML pb 1 1), k0_pay17 (ldU pb 1 2)⟩)) -∗ wp frame (wpE (defs₀ (F := F)) 𝒱₀ (c : Thread nD τ) none) Set.univ (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 v883 v886 v887 v888) Q) := by
  rw [k0_part22_eq_skeleton]; unfold pts; unfold k0_part22_skel
  iintro ⟨H11⟩ Hk
  sl_exec
  simp only [readS', readN', readG', readQ', readX', readU', readML', readWq', readWo']
  rw [wp_ret]; imodintro
  iapply Hk
  iexact H11

theorem part23_wp (c : Dev nD) (v901 : FVec F S32x64 .f32) (v921 : FVec F S32x64 .f32) (v923 : FVec F S32x32x64 .f32) (pb : Vec F S32x2x4x33x64 .f32) (wo : Vec F S256x512 .f32) (q11 : PosShare TreeShare) (q4 : PosShare TreeShare) {Q : (Σ' (v962 : FVec F S32x256 .f32) (v964 : FVec F S256x512 .f32), FVec F S32x512 .f32) → sProp 𝕄} :
    (iprop(pts c pbW q11 pb ∗ pts c woM q4 wo) : sProp 𝕄) ⊢ iprop(((pts c pbW q11 pb ∗ pts c woM q4 wo) -∗ Q (⟨k0_pay18 v901 v921 v923 (ldML pb 1 2) (ldU pb 1 3) (ldML pb 1 3), k0_pay19 (wo), (constant S32x512 .f32 0x00000000#32)⟩)) -∗ wp frame (wpE (defs₀ (F := F)) 𝒱₀ (c : Thread nD τ) none) Set.univ (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 v901 v921 v923) Q) := by
  rw [k0_part23_eq_skeleton]; unfold pts; unfold k0_part23_skel
  iintro ⟨H11, H4⟩ Hk
  sl_exec
  simp only [readS', readN', readG', readQ', readX', readU', readML', readWq', readWo']
  rw [wp_ret]; imodintro
  unfold part23_wp.sl.cst_1066
  iapply Hk
  isplitl [H11]; · iexact H11
  iexact H4

end Cert.KernelIdealProof

end
-- ==== Proof.KernelIdeal.Values.lean ====
/-
The values the parts of the program hand on, put together.
-/
module

public import proofs.«01_k».proof.Proof.KernelIdeal.Stores

@[expose] public section

set_option maxRecDepth 65536

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

section Partial
variable (bq : Vec F S2x4x32x64 .f32) (st : Vec F S2x2x4x128x64 .f32)

theorem psH00 : k0_pay23 (k0_pay22 (ldQ bq 0 0) (ldS st 0 0 0) (ldS st 1 0 0)) = psH bq st 0 0 := rfl
theorem psH02 : k0_pay26 (k0_pay25 (ldQ bq 0 2)) (ldS st 0 0 2) (ldS st 1 0 2) = psH bq st 0 2 := rfl
theorem psH03 : k0_pay31 (k0_pay28 (ldQ bq 0 3) (ldS st 0 0 3)) (k0_pay29 (ldQ bq 0 3) (ldS st 0 0 3)) (k0_pay30 (ldQ bq 0 3) (ldS st 0 0 3)) (ldS st 1 0 3) = psH bq st 0 3 := rfl
theorem psH10 : k0_pay33 (k0_pay32 (ldQ bq 1 0) (ldS st 0 1 0) (ldS st 1 1 0)) = psH bq st 1 0 := rfl
theorem psH11 : k0_pay34 (ldQ bq 1 1) (ldS st 0 1 1) (ldS st 1 1 1) = psH bq st 1 1 := rfl
theorem psH12 : k0_pay36 (k0_pay35 (ldQ bq 1 2)) (ldS st 0 1 2) (ldS st 1 1 2) = psH bq st 1 2 := rfl
theorem psH13 : k0_pay40 (k0_pay37 (ldQ bq 1 3) (ldS st 0 1 3)) (k0_pay38 (ldQ bq 1 3) (ldS st 0 1 3)) (k0_pay39 (ldQ bq 1 3) (ldS st 0 1 3)) (ldS st 1 1 3) = psH bq st 1 3 := rfl

/-- The eight stores of the partial sums, as the program's parts make them. -/
theorem ps_eq (f : Vec F S2x4x33x64 .f32) (i00 i01 i02 i03 i10 i11 i12 i13) :
    (View.whole cc0_scratch4).writes (Elt F)
      ((psM : Memref sig .tc .vmem S2x4x33x64 .f32).view.writes (Elt F)
        ((psM : Memref sig .tc .vmem S2x4x33x64 .f32).view.writes (Elt F)
          ((psM : Memref sig .tc .vmem S2x4x33x64 .f32).view.writes (Elt F)
            ((psM : Memref sig .tc .vmem S2x4x33x64 .f32).view.writes (Elt F)
              ((psM : Memref sig .tc .vmem S2x4x33x64 .f32).view.writes (Elt F) f
                [⟨psR 0 1 i01, k0_pay24 (ldQ bq 0 1) (ldS st 0 0 1) (ldS st 1 0 1)⟩, ⟨psR 0 0 i00, k0_pay23 (k0_pay22 (ldQ bq 0 0) (ldS st 0 0 0) (ldS st 1 0 0))⟩])
              [⟨psR 0 2 i02, k0_pay26 (k0_pay25 (ldQ bq 0 2)) (ldS st 0 0 2) (ldS st 1 0 2)⟩])
            [⟨psR 0 3 i03, k0_pay31 (k0_pay28 (ldQ bq 0 3) (ldS st 0 0 3)) (k0_pay29 (ldQ bq 0 3) (ldS st 0 0 3)) (k0_pay30 (ldQ bq 0 3) (ldS st 0 0 3)) (ldS st 1 0 3)⟩])
          [⟨psR 1 1 i11, k0_pay34 (ldQ bq 1 1) (ldS st 0 1 1) (ldS st 1 1 1)⟩, ⟨psR 1 0 i10, k0_pay33 (k0_pay32 (ldQ bq 1 0) (ldS st 0 1 0) (ldS st 1 1 0))⟩])
        [⟨psR 1 2 i12, k0_pay36 (k0_pay35 (ldQ bq 1 2)) (ldS st 0 1 2) (ldS st 1 1 2)⟩])
      [⟨psR 1 3 i13, k0_pay40 (k0_pay37 (ldQ bq 1 3) (ldS st 0 1 3)) (k0_pay38 (ldQ bq 1 3) (ldS st 0 1 3)) (k0_pay39 (ldQ bq 1 3) (ldS st 0 1 3)) (ldS st 1 1 3)⟩]
      = psG bq st := by
  rw [psH00, psH02, psH03, psH10, psH11, psH12, psH13]
  have h := ps_writes bq st f i00 i01 i02 i03 i10 i11 i12 i13
  rw [← h]
  have c1 := fun (L M : List (View.Piece (Elt F) S2x4x33x64 .f32)) => (View.writes_append (View.whole cc0_scratch4) (Val := Elt F) f M L).symm
  refine Eq.trans ?_ (c1 _ [_])
  refine congrArg (fun X => (View.whole cc0_scratch4).writes (Elt F) X _) ?_
  refine Eq.trans ?_ (c1 _ [_])
  refine congrArg (fun X => (View.whole cc0_scratch4).writes (Elt F) X _) ?_
  refine Eq.trans ?_ (c1 _ [_, _])
  refine congrArg (fun X => (View.whole cc0_scratch4).writes (Elt F) X _) ?_
  refine Eq.trans ?_ (c1 _ [_])
  refine congrArg (fun X => (View.whole cc0_scratch4).writes (Elt F) X _) ?_
  exact c1 [_, _] [_]
end Partial

section Out
variable (w : BitVec 32) (x : Vec F S2x128x512 .f32) (wq : Vec F S512x256 .f32) (wo : Vec F S256x512 .f32)
  (nb : Vec F S2x2x2x4x128x64 .f32) (st : Vec F S2x2x4x128x64 .f32) (g : Vec F S2x2x4x32x64 .f32)
  (q : FVec F S128x64 .f32) (mk : IVec S128x416 1)

theorem head01 : k0_pay66 q mk (k0_pay63 (ldN nb 0 0 0 1) (ldS st 0 0 1) (ldN nb 1 0 0 1) (ldG g 0 0 1)) (k0_pay64 (ldN nb 0 1 0 1)) (k0_pay65 (ldS st 1 0 1)) (ldN nb 1 1 0 1) (ldG g 1 0 1)
    = headW q mk nb st g 0 1 := rfl
theorem head02 : k0_pay70 q mk (k0_pay67 (ldN nb 0 0 0 2)) (k0_pay68 (ldS st 0 0 2)) (k0_pay69 (ldN nb 1 0 0 2)) (ldG g 0 0 2) (ldN nb 0 1 0 2) (ldS st 1 0 2) (ldN nb 1 1 0 2) (ldG g 1 0 2)
    = headW q mk nb st g 0 2 := rfl
theorem head10 : k0_pay77 q mk (k0_pay74 (ldN nb 0 0 1 0)) (k0_pay75 (ldS st 0 1 0)) (k0_pay76 (ldN nb 1 0 1 0)) (ldG g 0 1 0) (ldN nb 0 1 1 0) (ldS st 1 1 0) (ldN nb 1 1 1 0) (ldG g 1 1 0)
    = headW q mk nb st g 1 0 := rfl
theorem head11 : k0_pay80 q mk (k0_pay78 (ldN nb 0 0 1 1) (ldS st 0 1 1) (ldN nb 1 0 1 1) (ldG g 0 1 1)) (k0_pay79 (ldN nb 0 1 1 1) (ldS st 1 1 1) (ldN nb 1 1 1 1) (ldG g 1 1 1)) (constant S128x416 .f32 0x00000000#32)
    = headW q mk nb st g 1 1 := rfl
theorem head12 : k0_pay83 q mk (k0_pay81 (ldN nb 0 0 1 2) (ldS st 0 1 2) (ldN nb 1 0 1 2) (ldG g 0 1 2)) (k0_pay82 (ldN nb 0 1 1 2)) (ldS st 1 1 2) (ldN nb 1 1 1 2) (ldG g 1 1 2)
    = headW q mk nb st g 1 2 := rfl
theorem batch0 (h0 h1 h2 : FVec F S128x64 .f32) : k0_pay73 q mk h0 h1 h2 (k0_pay71 (ldN nb 0 0 0 3) (ldS st 0 0 3) (ldN nb 1 0 0 3) (ldG g 0 0 3)) (k0_pay72 (ldN nb 0 1 0 3) (ldS st 1 0 3) (ldN nb 1 1 0 3) (ldG g 1 0 3)) (constant S128x416 .f32 0x00000000#32) wo
    = projW h0 h1 h2 (headW q mk nb st g 0 3) wo := rfl
theorem batch1 (h0 h1 h2 : FVec F S128x64 .f32) : k0_pay88 h0 h1 h2 (k0_pay86 (ldN nb 0 1 1 3) (ldS st 1 1 3) (ldN nb 1 1 1 3) (ldG g 1 1 3)) (k0_pay87 q mk (k0_pay84 (ldN nb 0 0 1 3)) (k0_pay85 (ldS st 0 1 3)) (ldN nb 1 0 1 3) (ldG g 0 1 3)) wo
    = projW h0 h1 h2 (headW q mk nb st g 1 3) wo := rfl
theorem q50 : k0_pay50 (k0_pay47 (ldX x 1)) (k0_pay48 wq) = k0_pay43 (ldX x 1) wq := rfl
theorem q51 : k0_pay51 (k0_pay47 (ldX x 1)) (k0_pay48 wq) = k0_pay44 (ldX x 1) wq := rfl
theorem q52 : k0_pay52 (k0_pay47 (ldX x 1)) (k0_pay48 wq) = k0_pay45 (ldX x 1) wq := rfl
theorem q53 : k0_pay53 (k0_pay47 (ldX x 1)) (k0_pay48 wq) = k0_pay46 (ldX x 1) wq := rfl

/-- The two stores of the output, as the program's parts make them. -/
theorem out_eq (o : Vec F S2x128x512 .f32) (i1 i0) :
    (View.whole cc0_stg5_0).writes (Elt F)
      ((View.whole cc0_stg5_0).writes (Elt F) o
        [⟨Rect.unit (s := S2x128x512) ![0, 0, 0] S1x128x512.size i0, k0_pay73 (k0_pay46 (ldX x 0) wq) (maskW w)
          (k0_pay62 (k0_pay59 (ldN nb 0 1 0 0) (ldS st 1 0 0) (ldN nb 1 1 0 0) (ldG g 1 0 0))
            (k0_pay60 (k0_pay43 (ldX x 0) wq) (maskW w) (k0_pay58 (ldN nb 0 0 0 0)) (ldS st 0 0 0) (ldN nb 1 0 0 0) (ldG g 0 0 0))
            (k0_pay61 (k0_pay43 (ldX x 0) wq) (maskW w) (k0_pay58 (ldN nb 0 0 0 0)) (ldS st 0 0 0) (ldN nb 1 0 0 0) (ldG g 0 0 0)))
          (k0_pay66 (k0_pay44 (ldX x 0) wq) (maskW w) (k0_pay63 (ldN nb 0 0 0 1) (ldS st 0 0 1) (ldN nb 1 0 0 1) (ldG g 0 0 1)) (k0_pay64 (ldN nb 0 1 0 1)) (k0_pay65 (ldS st 1 0 1)) (ldN nb 1 1 0 1) (ldG g 1 0 1))
          (k0_pay70 (k0_pay45 (ldX x 0) wq) (maskW w) (k0_pay67 (ldN nb 0 0 0 2)) (k0_pay68 (ldS st 0 0 2)) (k0_pay69 (ldN nb 1 0 0 2)) (ldG g 0 0 2) (ldN nb 0 1 0 2) (ldS st 1 0 2) (ldN nb 1 1 0 2) (ldG g 1 0 2))
          (k0_pay71 (ldN nb 0 0 0 3) (ldS st 0 0 3) (ldN nb 1 0 0 3) (ldG g 0 0 3)) (k0_pay72 (ldN nb 0 1 0 3) (ldS st 1 0 3) (ldN nb 1 1 0 3) (ldG g 1 0 3)) (constant S128x416 .f32 0x00000000#32) wo⟩])
      [⟨Rect.unit (s := S2x128x512) ![1, 0, 0] ![1, 128, 512] i1, k0_pay88
          (k0_pay77 (k0_pay50 (k0_pay47 (ldX x 1)) (k0_pay48 wq)) (maskW w) (k0_pay74 (ldN nb 0 0 1 0)) (k0_pay75 (ldS st 0 1 0)) (k0_pay76 (ldN nb 1 0 1 0)) (ldG g 0 1 0) (ldN nb 0 1 1 0) (ldS st 1 1 0) (ldN nb 1 1 1 0) (ldG g 1 1 0))
          (k0_pay80 (k0_pay51 (k0_pay47 (ldX x 1)) (k0_pay48 wq)) (maskW w) (k0_pay78 (ldN nb 0 0 1 1) (ldS st 0 1 1) (ldN nb 1 0 1 1) (ldG g 0 1 1)) (k0_pay79 (ldN nb 0 1 1 1) (ldS st 1 1 1) (ldN nb 1 1 1 1) (ldG g 1 1 1)) (constant S128x416 .f32 0x00000000#32))
          (k0_pay83 (k0_pay52 (k0_pay47 (ldX x 1)) (k0_pay48 wq)) (maskW w) (k0_pay81 (ldN nb 0 0 1 2) (ldS st 0 1 2) (ldN nb 1 0 1 2) (ldG g 0 1 2)) (k0_pay82 (ldN nb 0 1 1 2)) (ldS st 1 1 2) (ldN nb 1 1 1 2) (ldG g 1 1 2))
          (k0_pay86 (ldN nb 0 1 1 3) (ldS st 1 1 3) (ldN nb 1 1 1 3) (ldG g 1 1 3))
          (k0_pay87 (k0_pay53 (k0_pay47 (ldX x 1)) (k0_pay48 wq)) (maskW w) (k0_pay84 (ldN nb 0 0 1 3)) (k0_pay85 (ldS st 0 1 3)) (ldN nb 1 0 1 3) (ldG g 0 1 3)) wo⟩]
      = outW w x wq wo nb st g := by
  rw [q50, q51, q52, q53, head01, head02, head10, head11, head12, batch0, batch1]
  have h := out_writes w x wq wo nb st g o i1 i0
  unfold outB at h
  rw [← h]
  exact (View.writes_append (View.whole cc0_stg5_0) (Val := Elt F) o [_] [_]).symm
end Out

section Comb
variable (pb : Vec F S32x2x4x33x64 .f32) (wo : Vec F S256x512 .f32)
theorem comb00 : k0_pay5 (ldU pb 0 0) (ldML pb 0 0) = k0_pay8 (ldU pb 0 0) (ldML pb 0 0) := rfl
theorem comb01 : k0_pay7 (k0_pay6 (ldU pb 0 1)) (ldML pb 0 1) = k0_pay8 (ldU pb 0 1) (ldML pb 0 1) := rfl
theorem comb10 : k0_pay15 (k0_pay10 (ldU pb 1 0)) (k0_pay12 (ldML pb 1 0)) (k0_pay13 (ldML pb 1 0)) (k0_pay14 (ldML pb 1 0)) = k0_pay8 (ldU pb 1 0) (ldML pb 1 0) := rfl
theorem comb11 : k0_pay16 (ldU pb 1 1) (ldML pb 1 1) = k0_pay8 (ldU pb 1 1) (ldML pb 1 1) := rfl
theorem comb1 (h0 h1 : FVec F S32x64 .f32) : k0_pay89 (k0_pay18 h0 h1 (k0_pay17 (ldU pb 1 2)) (ldML pb 1 2) (ldU pb 1 3) (ldML pb 1 3)) (k0_pay19 wo) (constant S32x512 .f32 0x00000000#32)
    = k0_pay9 h0 h1 (k0_pay8 (ldU pb 1 2) (ldML pb 1 2)) (ldU pb 1 3) (ldML pb 1 3) wo := rfl

/-- The two stores of the global rows, as the program's parts make them. -/
theorem outZ_eq (o : Vec F S2x128x512 .f32) (i1 i0) :
    (View.whole cc0_stg5_0).writes (Elt F)
      ((View.whole cc0_stg5_0).writes (Elt F) o
        [⟨Rect.unit (s := S2x128x512) ![0, 0, 0] S1x32x512.size i0, k0_pay9 (k0_pay5 (ldU pb 0 0) (ldML pb 0 0)) (k0_pay7 (k0_pay6 (ldU pb 0 1)) (ldML pb 0 1)) (k0_pay8 (ldU pb 0 2) (ldML pb 0 2)) (ldU pb 0 3) (ldML pb 0 3) wo⟩])
      [⟨Rect.unit (s := S2x128x512) ![1, 0, 0] ![1, 32, 512] i1,
        k0_pay89 (k0_pay18 (k0_pay15 (k0_pay10 (ldU pb 1 0)) (k0_pay12 (ldML pb 1 0)) (k0_pay13 (ldML pb 1 0)) (k0_pay14 (ldML pb 1 0))) (k0_pay16 (ldU pb 1 1) (ldML pb 1 1)) (k0_pay17 (ldU pb 1 2)) (ldML pb 1 2) (ldU pb 1 3) (ldML pb 1 3)) (k0_pay19 wo) (constant S32x512 .f32 0x00000000#32)⟩]
      = outZ o pb wo := by
  rw [comb00, comb01, comb10, comb11, comb1]
  have h := outZ_writes o pb wo i1 i0
  unfold combB at h
  rw [← h]
  exact (View.writes_append (View.whole cc0_stg5_0) (Val := Elt F) o [_] [_]).symm
end Comb

end Cert.KernelIdealProof

end
-- ==== Proof.KernelIdeal.Body.lean ====
/-
The whole program of one device, from what it starts with to what it leaves.
-/
module

public import proofs.«01_k».proof.Proof.KernelIdeal.Zero
public import proofs.«01_k».proof.Proof.KernelIdeal.Partials
public import proofs.«01_k».proof.Proof.KernelIdeal.Window
public import proofs.«01_k».proof.Proof.KernelIdeal.Combine
public import proofs.«01_k».proof.Proof.KernelIdeal.Values

@[expose] public section

set_option maxRecDepth 65536

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (K : Cont F) (N : Dev nD × CK → ℕ)

/-! ## Families over the semaphores and over the duties -/

def okEquiv : ((Fin 2 ⊕ Fin 2) ⊕ (Fin 31 ⊕ Fin 31)) ⊕ ((Unit ⊕ Unit) ⊕ (Unit ⊕ Fin 32)) ≃ OK where
  toFun
    | .inl (.inl (.inl i)) => .nsend i
    | .inl (.inl (.inr i)) => .nrecv i
    | .inl (.inr (.inl i)) => .bq i
    | .inl (.inr (.inr i)) => .bkv i
    | .inr (.inl (.inl _)) => .brq
    | .inr (.inl (.inr _)) => .brkv
    | .inr (.inr (.inl _)) => .ps
    | .inr (.inr (.inr i)) => .pr i
  invFun
    | .nsend i => .inl (.inl (.inl i))
    | .nrecv i => .inl (.inl (.inr i))
    | .bq i => .inl (.inr (.inl i))
    | .bkv i => .inl (.inr (.inr i))
    | .brq => .inr (.inl (.inl ()))
    | .brkv => .inr (.inl (.inr ()))
    | .ps => .inr (.inr (.inl ()))
    | .pr i => .inr (.inr (.inr i))
  left_inv := by rintro (((_ | _) | (_ | _)) | ((_ | _) | (_ | _))) <;> rfl
  right_inv := by rintro (_ | _ | _ | _ | _ | _ | _ | _) <;> rfl

theorem unit_sep (Φ : Unit → sProp 𝕄) : bigSep Finset.univ Φ = Φ () := BI.bigSep_univ_of_subsingleton ()

theorem ck_split (Φ : CK → sProp 𝕄) :
    bigSep Finset.univ Φ = iprop(Φ (.inl ()) ∗ (((Φ (.inr (.nsend 0)) ∗ Φ (.inr (.nsend 1))) ∗ (Φ (.inr (.nrecv 0)) ∗ Φ (.inr (.nrecv 1))))
        ∗ ((bigSep Finset.univ fun i => Φ (.inr (.bq i))) ∗ (bigSep Finset.univ fun i => Φ (.inr (.bkv i)))))
      ∗ ((Φ (.inr .brq) ∗ Φ (.inr .brkv)) ∗ (Φ (.inr .ps) ∗ (bigSep Finset.univ fun i : Dev nD => Φ (.inr (.pr i)))))) := by
  rw [BI.bigSep_univ_sum, unit_sep, BI.bigSep_univ_equiv okEquiv, BI.bigSep_univ_sum, BI.bigSep_univ_sum, BI.bigSep_univ_sum, BI.bigSep_univ_sum, BI.bigSep_univ_sum,
    BI.bigSep_univ_sum, BI.bigSep_univ_sum, unit_sep, unit_sep, unit_sep, BI.bigSep_fin_two, BI.bigSep_fin_two]
  rfl

def tokEquiv : (Fin 9 ⊕ (Fin 31 ⊕ Fin 31)) ⊕ (Fin 31 ⊕ Fin 31) ≃ TokK where
  toFun
    | .inl (.inl 0) => .barL
    | .inl (.inl 1) => .barR
    | .inl (.inl 2) => .bar0
    | .inl (.inl 3) => .ns0
    | .inl (.inl 4) => .nr1
    | .inl (.inl 5) => .ns1
    | .inl (.inl 6) => .nr0
    | .inl (.inl 7) => .ps
    | .inl (.inl 8) => .pr
    | .inl (.inr (.inl i)) => .bq i
    | .inl (.inr (.inr i)) => .brq i
    | .inr (.inl i) => .bkv i
    | .inr (.inr i) => .brkv i
  invFun
    | .barL => .inl (.inl 0)
    | .barR => .inl (.inl 1)
    | .bar0 => .inl (.inl 2)
    | .ns0 => .inl (.inl 3)
    | .nr1 => .inl (.inl 4)
    | .ns1 => .inl (.inl 5)
    | .nr0 => .inl (.inl 6)
    | .ps => .inl (.inl 7)
    | .pr => .inl (.inl 8)
    | .bq i => .inl (.inr (.inl i))
    | .brq i => .inl (.inr (.inr i))
    | .bkv i => .inr (.inl i)
    | .brkv i => .inr (.inr i)
  left_inv := by
    rintro ((i | (_ | _)) | (_ | _))
    · fin_cases i <;> rfl
    all_goals rfl
  right_inv := by rintro (_ | _ | _ | _ | _ | _ | _ | _ | _ | _ | _ | _ | _) <;> rfl

theorem fin9_sep (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) := by
  rw [bigSep_univ_eq_bigSepL [0, 1, 2, 3, 4, 5, 6, 7, 8] (by decide) (by decide)]
  rfl

theorem tok_split (Φ : TokK → sProp 𝕄) :
    bigSep Finset.univ Φ = iprop(((Φ .barL ∗ Φ .barR ∗ Φ .bar0 ∗ Φ .ns0 ∗ Φ .nr1 ∗ Φ .ns1 ∗ Φ .nr0 ∗ Φ .ps ∗ Φ .pr)
        ∗ ((bigSep Finset.univ fun i => Φ (.bq i)) ∗ (bigSep Finset.univ fun i => Φ (.brq i))))
      ∗ ((bigSep Finset.univ fun i => Φ (.bkv i)) ∗ (bigSep Finset.univ fun i => Φ (.brkv i)))) := by
  rw [BI.bigSep_univ_equiv tokEquiv, BI.bigSep_univ_sum, BI.bigSep_univ_sum, BI.bigSep_univ_sum, BI.bigSep_univ_sum, fin9_sep]
  rfl

/-! ## What a device has before and after -/

/-- All the buffers of a device, with what the arguments hold. -/
def bufs (c : Dev nD) (x : Vec F S2x128x512 .f32) (wq : Vec F S512x256 .f32) (k v : Vec F S2x128x4x64 .f32) (wo : Vec F S256x512 .f32) : sProp 𝕄 :=
  iprop(pts c xM fullShare x ∗ pts c wqM fullShare wq ∗ pts c kM fullShare k ∗ pts c vM fullShare v ∗ pts c woM fullShare wo)
def scr (c : Dev nD) : sProp 𝕄 :=
  iprop((∃ f, pts c stM fullShare f) ∗ (∃ f, pts c nbW fullShare f) ∗ (∃ f, pts c bqM fullShare f) ∗ (∃ f, pts c bkvM fullShare f)
    ∗ (∃ f, pts c psM fullShare f) ∗ (∃ f, pts c pbW fullShare f))

/-! ## The last operations -/

theorem out_store (c : Dev nD) (a1 a2 a3 : FVec F S128x64 .f32) (a4 : FVec F S416x64 .f32) (a5 : FVec F S128x416 .f32) (wo : Vec F S256x512 .f32) (o : Vec F S2x128x512 .f32)
    {α : Type} {Q : α → sProp 𝕄} {kk : PUnit → Prog (TpuEff nD τ sig (Elt F) Λ₀ .tc) α} :
    (iprop(pts c woM fullShare wo ∗ pts c outM fullShare o) : sProp 𝕄)
      ⊢ iprop(((pts c woM fullShare wo ∗ pts c outM fullShare ((View.whole cc0_stg5_0).writes (Elt F) o
            [⟨Rect.unit (s := S2x128x512) ![1, 0, 0] S1x128x512.size inb_S2x128x512_S1x128x512_1_0_0, k0_pay88 a1 a2 a3 a4 a5 wo⟩])) -∗ wp frame (wpE (defs₀ (F := F)) 𝒱₀ (c : Thread nD τ) none) Set.univ (kk ⟨⟩) Q)
        -∗ wp frame (wpE (defs₀ (F := F)) 𝒱₀ (c : Thread nD τ) none) Set.univ (do
          let v594 : Vec F S256x512 .f32 ← Prog.lift (.load (Memref.whole cc0_stg4_0) (Rect.unit (s := S256x512) ![0, 0] S256x512.size inb_S256x512_S256x512_0_0).toLoadRect (View.loadsAt_vmem h_S256x512))
          let v597 : Vec F S1x128x512 .f32 ← Prog.lift (.load (Memref.whole cc0_stg5_0) (Rect.unit (s := S2x128x512) ![1, 0, 0] S1x128x512.size inb_S2x128x512_S1x128x512_1_0_0).toLoadRect (View.loadsAt_vmem h_S1x128x512))
          Prog.lift (.store (Memref.whole cc0_stg5_0) (Rect.unit (s := S2x128x512) ![1, 0, 0] S1x128x512.size inb_S2x128x512_S1x128x512_1_0_0) (k0_pay88 a1 a2 a3 a4 a5 v594) Finset.univ (View.stores_vmem_bits_univ h_S1x128x512 rfl) (.inl rfl)) >>= kk) Q) := by
  simp only [Prog.lift, Prog.bind_op, Prog.bind_ret]
  unfold pts
  iintro ⟨H4, H5⟩ Hk
  sl_exec
  simp only [readWo']
  iapply Hk
  isplitl [H4]; · iexact H4
  iexact H5

theorem outz_store (a1 : FVec F S32x256 .f32) (a2 : FVec F S256x512 .f32) (a3 : FVec F S32x512 .f32) (o : Vec F S2x128x512 .f32)
    {α : Type} {Q : α → sProp 𝕄} {kk : PUnit → Prog (TpuEff nD τ sig (Elt F) Λ₀ .tc) α} :
    (iprop(pts 0 outM fullShare o) : sProp 𝕄)
      ⊢ iprop(((pts 0 outM fullShare ((View.whole cc0_stg5_0).writes (Elt F) o
            [⟨Rect.unit (s := S2x128x512) ![1, 0, 0] S1x32x512.size inb_S2x128x512_S1x32x512_1_0_0, k0_pay89 a1 a2 a3⟩])) -∗ wp frame (wpE (defs₀ (F := F)) 𝒱₀ ((0 : Dev nD) : Thread nD τ) none) Set.univ (kk ⟨⟩) Q)
        -∗ wp frame (wpE (defs₀ (F := F)) 𝒱₀ ((0 : Dev nD) : Thread nD τ) none) Set.univ (do
          let v966 : Vec F S1x32x512 .f32 ← Prog.lift (.load (Memref.whole cc0_stg5_0) (Rect.unit (s := S2x128x512) ![1, 0, 0] S1x32x512.size inb_S2x128x512_S1x32x512_1_0_0).toLoadRect (View.loadsAt_vmem h_S1x32x512))
          Prog.lift (.store (Memref.whole cc0_stg5_0) (Rect.unit (s := S2x128x512) ![1, 0, 0] S1x32x512.size inb_S2x128x512_S1x32x512_1_0_0) (k0_pay89 a1 a2 a3) Finset.univ (View.stores_vmem_bits_univ h_S1x32x512 rfl) (.inl rfl)) >>= kk) Q) := by
  simp only [Prog.lift, Prog.bind_op, Prog.bind_ret]
  unfold pts
  iintro H5 Hk
  sl_exec
  iapply Hk
  iexact H5

/-! ## What is left at the end -/

theorem end_pos (c : Dev nD) (h0 : c ≠ 0) :
    (iprop((closed K c (.inl ()) ∗ closed K c (.inr (.nsend 0)) ∗ closed K c (.inr (.nsend 1)) ∗ closed K c (.inr (.nrecv 0)) ∗ closed K c (.inr (.nrecv 1))
        ∗ closed K c (.inr .brq) ∗ closed K c (.inr .brkv) ∗ closed K c (.inr .ps))
      ∗ (bigSep Finset.univ fun i : Fin 31 => pos c (.inr (.bq i)) 0) ∗ (bigSep Finset.univ fun i : Fin 31 => pos c (.inr (.bkv i)) 0)
      ∗ (bigSep Finset.univ fun i : Dev nD => pos c (.inr (.pr i)) 0)) : sProp 𝕄)
      ⊢ bigSep Finset.univ fun k => closed K c k := by
  have e1 : (bigSep Finset.univ fun i : Fin 31 => (pos c (.inr (.bq i)) 0 : sProp 𝕄)) ⊢ bigSep Finset.univ fun i : Fin 31 => closed K c (.inr (.bq i)) :=
    bigSep_mono fun i _ => closed_unused K c _ (none_bq K c h0 i)
  have e2 : (bigSep Finset.univ fun i : Fin 31 => (pos c (.inr (.bkv i)) 0 : sProp 𝕄)) ⊢ bigSep Finset.univ fun i : Fin 31 => closed K c (.inr (.bkv i)) :=
    bigSep_mono fun i _ => closed_unused K c _ (none_bkv K c h0 i)
  have e3 : (bigSep Finset.univ fun i : Dev nD => (pos c (.inr (.pr i)) 0 : sProp 𝕄)) ⊢ bigSep Finset.univ fun i : Dev nD => closed K c (.inr (.pr i)) :=
    bigSep_mono fun i _ => closed_unused K c _ (none_pr K c i (.inl h0))
  rw [ck_split]
  iintro ⟨⟨A1, A2, A3, A4, A5, A6, A7, A8⟩, B1, B2, B3⟩
  ihave B1 := e1 $$ B1
  ihave B2 := e2 $$ B2
  ihave B3 := e3 $$ B3
  isplitl [A1]; · iexact A1
  isplitl [A2 A3 A4 A5 B1 B2]
  · isplitl [A2 A3 A4 A5]
    · isplitl [A2 A3]
      · isplitl [A2]; · iexact A2
        iexact A3
      isplitl [A4]; · iexact A4
      iexact A5
    isplitl [B1]; · iexact B1
    iexact B2
  isplitl [A6 A7]
  · isplitl [A6]; · iexact A6
    iexact A7
  isplitl [A8]; · iexact A8
  iexact B3

theorem end_zero :
    (iprop((closed K 0 (.inl ()) ∗ pos 0 (.inr (.nsend 0)) 0 ∗ closed K 0 (.inr (.nsend 1)) ∗ pos 0 (.inr (.nrecv 0)) 0 ∗ closed K 0 (.inr (.nrecv 1))
        ∗ pos 0 (.inr .brq) 0 ∗ pos 0 (.inr .brkv) 0 ∗ pos 0 (.inr .ps) 0)
      ∗ (bigSep Finset.univ fun i : Fin 31 => closed K 0 (.inr (.bq i))) ∗ (bigSep Finset.univ fun i : Fin 31 => closed K 0 (.inr (.bkv i)))
      ∗ (bigSep Finset.univ fun i : Dev nD => closed K 0 (.inr (.pr i)))) : sProp 𝕄)
      ⊢ bigSep Finset.univ fun k => closed K 0 k := by
  rw [ck_split]
  iintro ⟨⟨A1, A2, A3, A4, A5, A6, A7, A8⟩, B1, B2, B3⟩
  ihave A2 := (closed_unused K 0 _ (none_nsend0 K)) $$ A2
  ihave A4 := (closed_unused K 0 _ (none_nrecv0 K)) $$ A4
  ihave A6 := (closed_unused K 0 _ (none_brq K)) $$ A6
  ihave A7 := (closed_unused K 0 _ (none_brkv K)) $$ A7
  ihave A8 := (closed_unused K 0 _ (none_ps K)) $$ A8
  isplitl [A1]; · iexact A1
  isplitl [A2 A3 A4 A5 B1 B2]
  · isplitl [A2 A3 A4 A5]
    · isplitl [A2 A3]
      · isplitl [A2]; · iexact A2
        iexact A3
      isplitl [A4]; · iexact A4
      iexact A5
    isplitl [B1]; · iexact B1
    iexact B2
  isplitl [A6 A7]
  · isplitl [A6]; · iexact A6
    iexact A7
  isplitl [A8]; · iexact A8
  iexact B3

/-- Device 0's waits for the partial sums, at the start. -/
theorem wp_start (ps : Vec F S2x4x33x64 .f32) (hps : K.ps 0 = ps) :
    iprop(owesJ 0 68 ∗ owns ((0 : Dev nD) : Thread nD τ) (pbM 0) fullShare ps ∗ (bigSep Finset.univ fun i : Dev nD => pos 0 (.inr (.pr i)) 0)
        ∗ (bigSep Finset.univ fun i : Fin 31 => crd 0 (.inr (.pr (nth i))) psN)) ⊢ WP K 1 := by
  have hl : (ltK 32 1 : Finset (Dev nD)) = {0} := by decide
  unfold WP
  rw [hl, bigSep_singleton, geK_one, bigSep_map, bigSep_dev, bigSep_sep', hps]
  iintro ⟨HO, Hp, ⟨Hz, Ha⟩, Hc⟩
  ihave Hz := (closed_unused K 0 _ (none_pr K 0 0 (.inr rfl))) $$ Hz
  isplitl [HO]; · iexact HO
  isplitl [Ha Hc]
  · isplitl [Hc]; · iexact Hc
    iexact Ha
  isplitl [Hz]; · iexact Hz
  iexact Hp

/-- Its waits for its own broadcasts, at the start. -/
theorem wq_start :
    iprop(owesJ 0 68 ∗ (bigSep Finset.univ fun i : Fin 31 => crd 0 (.inr (.bq i)) bqN) ∗ (bigSep Finset.univ fun i : Fin 31 => pos 0 (.inr (.bq i)) 0)
        ∗ (bigSep Finset.univ fun i : Fin 31 => crd 0 (.inr (.bkv i)) bkvN) ∗ (bigSep Finset.univ fun i : Fin 31 => pos 0 (.inr (.bkv i)) 0)) ⊢ WQ K 0 := by
  unfold WQ
  rw [geK_zero, ltK_zero, bigSep_empty, bigSep_sep', bigSep_sep', bigSep_sep']
  iintro ⟨HO, H1, H2, H3, H4⟩
  isplitl [HO]; · iexact HO
  isplitl [H1 H2 H3 H4]
  · isplitl [H1 H2]
    · isplitl [H1]; · iexact H1
      iexact H2
    isplitl [H3]; · iexact H3
    iexact H4
  iempintro

set_option maxHeartbeats 8000000 in
theorem body_pos (c : Dev nD) (h0 : c ≠ 0) (x : Vec F S2x128x512 .f32) (wq : Vec F S512x256 .f32) (k v : Vec F S2x128x4x64 .f32) (wo : Vec F S256x512 .f32)
    (hst : K.st c = stG k v) (hps : K.ps c = psG K.bq (stG k v)) (n5 : ℕ) (hn5 : c ≠ 31 → n5 = stN)
    (o : Vec F S2x128x512 .f32) {Q : PUnit → sProp 𝕄} :
    iprop(recs K N ∗ owesJ c 0 ∗ (bigSep Finset.univ fun t => tok c t) ∗ (bigSep Finset.univ fun k => pos c k 0)
        ∗ (crd c (.inl ()) 2 ∗ crd c (.inr (.nrecv 0)) stN ∗ crd c (.inr (.nrecv 1)) n5 ∗ crd c (.inr .brq) bqN ∗ crd c (.inr .brkv) bkvN)
        ∗ bufs c x wq k v wo ∗ pts c outM fullShare o ∗ scr c)
      ⊢ iprop(((owesJ c 68 ∗ (bigSep Finset.univ fun k => closed K c k) ∗ bufs c x wq k v wo
          ∗ (∃ g0 g1, pts c outM fullShare (outW (dw c) x wq wo (nbG (selL K c g0) (selR K c g1)) (stG k v) K.bkv)) ∗ scr c) -∗ Q ⟨⟩)
        -∗ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13) Q) := by
  rw [cc0_body_eq_skeleton]; unfold cc0_body_skel
  rw [wp_bind, k0_part52_eq_skeleton]; unfold k0_part52_skel
  unfold bufs scr
  rw [tok_split, ck_split (F := F) (fun k => pos c k 0)]
  iintro ⟨#HR, HO, ⟨⟨⟨TbL, TbR, Tb0, Tns0, Tnr1, Tns1, Tnr0, Tps, Tpr⟩, Tbq, Tbrq⟩, Tbkv, Tbrkv⟩, ⟨Pbar, ⟨⟨⟨Pns0, Pns1⟩, Pnr0, Pnr1⟩, Pbq, Pbkv⟩, ⟨Pbrq, Pbrkv⟩, Pps, Ppr⟩, HC, ⟨H0, H1, H2, H3, H4⟩, H5, ⟨%f6, H6⟩, ⟨%f7, H7⟩, ⟨%f8, H8⟩, ⟨%f9, H9⟩, ⟨%f10, H10⟩, ⟨%f11, H11⟩⟩ Hk
  icases HC with ⟨Cbar, Cnr0, Cnr1, Cbrq, Cbrkv⟩
  ihave Hnb := (nb_deal K c f7) $$ H7
  icases Hnb with ⟨HpL, HkL, HpR, HkR⟩
  rw [wp_bind]
  iapply (part30_wp K N c) $$ [HO TbL TbR HpL HpR]
  · isplitr; · iexact HR
    isplitl [HO]; · iexact HO
    isplitl [TbL]; · iexact TbL
    isplitl [TbR]; · iexact TbR
    isplitl [HpL]; · iexact HpL
    iexact HpR
  iintro %v13 %v24 HO
  try dsimp only
  simp only [dif_neg (fun h => h0 ((br_eq0 c).1 h)), dif_pos ((cond16_iff c).2 h0), Prog.pure_eq_ret, Prog.bind_ret]
  ihave Hb0 := (show iprop(pts c bqM fullShare f8 ∗ pts c bkvM fullShare f9) ⊢ (pay K c .bar0 : sProp 𝕄) from (by
    show iprop(pts c bqM fullShare f8 ∗ pts c bkvM fullShare f9) ⊢ iprop((some_ c bqM : sProp 𝕄) ∗ some_ c bkvM)
    rw [← own_bq, ← own_bkv]
    iintro ⟨Ha, Hb⟩
    isplitl [Ha]; · iexists f8; iexact Ha
    iexists f9; iexact Hb)) $$ [H8 H9]
  · isplitl [H8]; · iexact H8
    iexact H9
  rw [wp_bind]
  iapply (part31_pos K N c h0 k v f6 hst v13) $$ [HO Tb0 Hb0 Cbar Pbar H2 H3 H6 Tns0 Tnr1]
  · isplitr; · iexact HR
    isplitl [HO]; · iexact HO
    isplitl [Tb0]; · iexact Tb0
    isplitl [Hb0]; · iexact Hb0
    isplitl [Cbar]; · iexact Cbar
    isplitl [Pbar]; · iexact Pbar
    isplitl [H2]; · iexact H2
    isplitl [H3]; · iexact H3
    isplitl [H6]; · iexact H6
    isplitl [Tns0]; · iexact Tns0
    iexact Tnr1
  iintro %a ⟨HO, Pbar, HpL, Cns0, H2, H3, H6⟩
  try dsimp only
  rw [wp_bind]
  iapply (part32_pos K N c h0 (stG k v) hst _ v24) $$ [HO HpL Tns1 Tnr0 H6 Cbrq Pbrq H10]
  · isplitr; · iexact HR
    isplitl [HO]; · iexact HO
    isplitl [HpL]; · iexact HpL
    isplitl [Tns1]; · iexact Tns1
    isplitl [Tnr0]; · iexact Tnr0
    isplitl [H6]; · iexact H6
    isplitl [Cbrq]; · iexact Cbrq
    isplitl [Pbrq]; · iexact Pbrq
    iexact H10
  iintro ⟨HO, Hcr, H6, Pbrq, H8, Hpb0, H10⟩
  try dsimp only
  rw [wp_bind]
  iapply (part33_wp c _ _ _ _ _ _) $$ [H10 H8 H6]
  · isplitl [H10]; · iexact H10
    isplitl [H8]; · iexact H8
    iexact H6
  iintro ⟨H10, H8, H6⟩
  try dsimp only
  rw [wp_bind]
  iapply (part34_wp c _ _ _ _ _ _ _) $$ [H6 H10 H8]
  · isplitl [H6]; · iexact H6
    isplitl [H10]; · iexact H10
    iexact H8
  iintro ⟨H6, H10, H8⟩
  try dsimp only
  rw [wp_bind]
  iapply (part35_wp c _ _ _ _ _ _ _ _) $$ [H6 H10 H8]
  · isplitl [H6]; · iexact H6
    isplitl [H10]; · iexact H10
    iexact H8
  iintro ⟨H6, H10, H8⟩
  try dsimp only
  rw [wp_bind]
  iapply (part36_wp c _ _ _ _ _ _) $$ [H10 H8 H6]
  · isplitl [H10]; · iexact H10
    isplitl [H8]; · iexact H8
    iexact H6
  iintro ⟨H10, H8, H6⟩
  try dsimp only
  rw [wp_bind]
  iapply (part37_wp c _ _ _ _ _ _) $$ [H6 H10 H8]
  · isplitl [H6]; · iexact H6
    isplitl [H10]; · iexact H10
    iexact H8
  iintro ⟨H6, H10, H8⟩
  try dsimp only
  rw [wp_bind]
  iapply (part38_pos K N c h0 _ _ _ _ _ _ _ _ _ _ _ (fun i => ps_eq _ _ _ _ _ _ _ _ _ _ i) hps) $$ [HO Hpb0 Tps Tpr H6 H10 H0 H1]
  · isplitr; · iexact HR
    isplitl [HO]; · iexact HO
    isplitl [Hpb0]; · iexact Hpb0
    isplitl [Tps]; · iexact Tps
    isplitl [Tpr]; · iexact Tpr
    isplitl [H6]; · iexact H6
    isplitl [H10]; · iexact H10
    isplitl [H0]; · iexact H0
    iexact H1
  iintro ⟨HO, Cps, H6, H0, H1⟩
  try dsimp only
  rw [wp_bind]
  iapply (part39_pos K N c h0 (stG k v) hst n5 hn5 v13 v24 _ _) $$ [HO Cns0 Pns0 Hcr Pns1 Cbrkv Pbrkv Cnr0 Pnr0 HkR Cnr1 Pnr1 H6]
  · isplitr; · iexact HR
    isplitl [HO]; · iexact HO
    isplitl [Cns0]; · iexact Cns0
    isplitl [Pns0]; · iexact Pns0
    isplitl [Hcr]; · iexact Hcr
    isplitl [Pns1]; · iexact Pns1
    isplitl [Cbrkv]; · iexact Cbrkv
    isplitl [Pbrkv]; · iexact Pbrkv
    isplitl [Cnr0]; · iexact Cnr0
    isplitl [Pnr0]; · iexact Pnr0
    isplitl [HkR]; · iexact HkR
    isplitl [Cnr1]; · iexact Cnr1
    isplitl [Pnr1]; · iexact Pnr1
    iexact H6
  iintro ⟨HO, Pns0, Pns1, Pbrkv, Pnr0, Pnr1, H6, H9, ⟨%g0, %g1, H7⟩⟩
  try dsimp only
  have hm : k0_pay57 (dw c) (k0_pay54 (dw c)) (iota .tc S128x416 32 [1] iota_S128x416_d1_w32) (k0_pay55 (dw c)) k0_pay56 1#32 = maskW (dw c) := rfl
  rw [wp_bind]
  iapply (part40_wp c _ _ _ _ _ _ _ _) $$ [H7]
  · iexact H7
  iintro H7
  try dsimp only
  simp only [hm]
  rw [wp_bind]
  iapply (part41_wp c _ _ _ _ _ _ _ _ _) $$ [H6 H7 H9]
  · isplitl [H6]; · iexact H6
    isplitl [H7]; · iexact H7
    iexact H9
  iintro ⟨H6, H7, H9⟩
  try dsimp only
  rw [wp_bind]
  iapply (part42_wp c _ _ _ _ _ _ _ _ _) $$ [H7 H6 H9]
  · isplitl [H7]; · iexact H7
    isplitl [H6]; · iexact H6
    iexact H9
  iintro ⟨H7, H6, H9⟩
  try dsimp only
  rw [wp_bind]
  iapply (part43_wp c _ _ _ _ _ _ _ _ _ _ _) $$ [H7 H9 H6]
  · isplitl [H7]; · iexact H7
    isplitl [H9]; · iexact H9
    iexact H6
  iintro ⟨H7, H9, H6⟩
  try dsimp only
  rw [wp_bind]
  iapply (part44_wp c _ _ _ _ _ _ _ _ _ _ _) $$ [H9 H7 H6]
  · isplitl [H9]; · iexact H9
    isplitl [H7]; · iexact H7
    iexact H6
  iintro ⟨H9, H7, H6⟩
  try dsimp only
  rw [wp_bind]
  iapply (part45_wp c _ _ _ _ _ _) $$ [H7 H6 H9]
  · isplitl [H7]; · iexact H7
    isplitl [H6]; · iexact H6
    iexact H9
  iintro ⟨H7, H6, H9⟩
  try dsimp only
  rw [wp_bind]
  iapply (part46_wp c _ _ _ _ _ _ _ _ _ _ _ _ _ _ _) $$ [H4 H5 H7 H6]
  · isplitl [H4]; · iexact H4
    isplitl [H5]; · iexact H5
    isplitl [H7]; · iexact H7
    iexact H6
  iintro ⟨H4, H5, H7, H6⟩
  try dsimp only
  rw [wp_bind]
  iapply (part47_wp c _ _ _ _ _ _ _ _ _ _ _) $$ [H9 H7 H6]
  · isplitl [H9]; · iexact H9
    isplitl [H7]; · iexact H7
    iexact H6
  iintro ⟨H9, H7, H6⟩
  try dsimp only
  rw [wp_bind]
  iapply (part48_wp c _ _ _ _ _ _) $$ [H7 H6 H9]
  · isplitl [H7]; · iexact H7
    isplitl [H6]; · iexact H6
    iexact H9
  iintro ⟨H7, H6, H9⟩
  try dsimp only
  rw [wp_bind]
  iapply (part49_wp c _ _ _ _ _ _ _ _ _ _ _) $$ [H7 H6 H9]
  · isplitl [H7]; · iexact H7
    isplitl [H6]; · iexact H6
    iexact H9
  iintro ⟨H7, H6, H9⟩
  try dsimp only
  rw [wp_bind]
  iapply (part50_wp c _ _ _ _ _ _ _ _ _ _) $$ [H6 H7 H9]
  · isplitl [H6]; · iexact H6
    isplitl [H7]; · iexact H7
    iexact H9
  iintro ⟨H6, H7, H9⟩
  try dsimp only
  rw [wp_bind]
  iapply (part51_wp c _ _ _ _ _ _ _ _ _ _) $$ [H7 H9 H6]
  · isplitl [H7]; · iexact H7
    isplitl [H9]; · iexact H9
    iexact H6
  iintro ⟨H7, H9, H6⟩
  try dsimp only
  iapply (out_store c _ _ _ _ _ wo _) $$ [H4 H5]
  · isplitl [H4]; · iexact H4
    iexact H5
  iintro ⟨H4, H5⟩
  ihave H5 := (Entails.of_eq (congrArg (pts c outM fullShare) (out_eq (dw c) x wq wo (nbG (selL K c g0) (selR K c g1)) (stG k v) K.bkv o _ _))) $$ H5
  simp only [Prog.lift, Prog.bind_op, Prog.bind_ret]
  iapply (step_wait K N c (.inr .ps) c .ps (duties_ps K c h0) 68 (mayWait_end c _) _ psM _ rfl rfl) $$ [Cps HO Pps]
  · isplitr; · iexact HR
    isplitl [Cps]; · iexact Cps
    isplitl [HO]; · iexact HO
    iexact Pps
  iintro ⟨HO, Pps, H10⟩
  ihave H10 := (Entails.of_eq (show (pay K c .ps : sProp 𝕄) = owns (c : Thread nD τ) psM fullShare (K.ps c) from rfl)) $$ H10
  ihave H10 := (Entails.of_eq (own_ps c fullShare (K.ps c))) $$ H10
  ihave Pps := (closed_used K c _) $$ Pps
  ihave Pbrq := (closed_used K c _) $$ Pbrq
  ihave Pbar := (closed_used K c _) $$ Pbar
  ihave HCl := (end_pos K c h0) $$ [Pbar Pns0 Pns1 Pnr0 Pnr1 Pbrq Pbrkv Pps Pbq Pbkv Ppr]
  · isplitl [Pbar Pns0 Pns1 Pnr0 Pnr1 Pbrq Pbrkv Pps]
    · isplitl [Pbar]; · iexact Pbar
      isplitl [Pns0]; · iexact Pns0
      isplitl [Pns1]; · iexact Pns1
      isplitl [Pnr0]; · iexact Pnr0
      isplitl [Pnr1]; · iexact Pnr1
      isplitl [Pbrq]; · iexact Pbrq
      isplitl [Pbrkv]; · iexact Pbrkv
      iexact Pps
    isplitl [Pbq]; · iexact Pbq
    isplitl [Pbkv]; · iexact Pbkv
    iexact Ppr
  rw [wp_ret]; imodintro
  rw [wp_ret]; imodintro
  iapply Hk
  isplitl [HO]; · iexact HO
  isplitl [HCl]; · iexact HCl
  isplitl [H0 H1 H2 H3 H4]
  · isplitl [H0]; · iexact H0
    isplitl [H1]; · iexact H1
    isplitl [H2]; · iexact H2
    isplitl [H3]; · iexact H3
    iexact H4
  isplitl [H5]; · iexists g0; iexists g1; iexact H5
  isplitl [H6]; · iexists _; iexact H6
  isplitl [H7]; · iexists _; iexact H7
  isplitl [H8]; · iexists _; iexact H8
  isplitl [H9]; · iexists _; iexact H9
  isplitl [H10]; · iexists _; iexact H10
  iexists _; iexact H11

end Cert.KernelIdealProof
end
-- ==== Proof.KernelIdeal.BodyZero.lean ====
/-
The whole program of device 0, from what it starts with to what it leaves.
-/
module

public import proofs.«01_k».proof.Proof.KernelIdeal.Body

@[expose] public section

set_option maxRecDepth 65536

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (K : Cont F) (N : Dev nD × CK → ℕ)

set_option maxHeartbeats 8000000 in
theorem body_zero (x : Vec F S2x128x512 .f32) (wq : Vec F S512x256 .f32) (k v : Vec F S2x128x4x64 .f32) (wo : Vec F S256x512 .f32)
    (hst : K.st 0 = stG k v) (hps : K.ps 0 = psG K.bq (stG k v)) (n5 : ℕ) (hn5 : (0 : Dev nD) ≠ 31 → n5 = stN)
    (hbq : K.bq = bqG x wq) (hbkv : K.bkv = bkvG (stG k v)) (o : Vec F S2x128x512 .f32) {Q : PUnit → sProp 𝕄} :
    iprop(recs K N ∗ owesJ 0 0 ∗ (bigSep Finset.univ fun t => tok 0 t) ∗ (bigSep Finset.univ fun k => pos 0 k 0)
        ∗ (crd 0 (.inl ()) 33 ∗ crd 0 (.inr (.nrecv 1)) n5 ∗ bigSep Finset.univ fun i : Fin 31 => crd 0 (.inr (.pr (nth i))) psN)
        ∗ bufs 0 x wq k v wo ∗ pts 0 outM fullShare o ∗ scr 0)
      ⊢ iprop(((owesJ 0 68 ∗ (bigSep Finset.univ fun k => closed K 0 k) ∗ bufs 0 x wq k v wo
          ∗ (∃ g0 g1, pts 0 outM fullShare (outZ (outW (dw 0) x wq wo (nbG (selL K 0 g0) (selR K 0 g1)) (stG k v) K.bkv) (pbG K.ps) wo)) ∗ scr 0) -∗ Q ⟨⟩)
        -∗ wp frame (wpE (defs₀ (F := F)) 𝒱₀ ((0 : Dev nD) : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13) Q) := by
  rw [cc0_body_eq_skeleton]; unfold cc0_body_skel
  rw [wp_bind, k0_part52_eq_skeleton]; unfold k0_part52_skel
  unfold bufs scr
  rw [tok_split, ck_split (F := F) (fun k => pos 0 k 0)]
  iintro ⟨#HR, HO, ⟨⟨⟨TbL, TbR, Tb0, Tns0, Tnr1, Tns1, Tnr0, Tps, Tpr⟩, Tbq, Tbrq⟩, Tbkv, Tbrkv⟩, ⟨Pbar, ⟨⟨⟨Pns0, Pns1⟩, Pnr0, Pnr1⟩, Pbq, Pbkv⟩, ⟨Pbrq, Pbrkv⟩, Pps, Ppr⟩, HC, ⟨H0, H1, H2, H3, H4⟩, H5, ⟨%f6, H6⟩, ⟨%f7, H7⟩, ⟨%f8, H8⟩, ⟨%f9, H9⟩, ⟨%f10, H10⟩, ⟨%f11, H11⟩⟩ Hk
  icases HC with ⟨Cbar, Cnr1, Cpr⟩
  ihave Hnb := (nb_deal K 0 f7) $$ H7
  icases Hnb with ⟨HpL, HkL, HpR, HkR⟩
  rw [wp_bind]
  iapply (part30_wp K N 0) $$ [HO TbL TbR HpL HpR]
  · isplitr; · iexact HR
    isplitl [HO]; · iexact HO
    isplitl [TbL]; · iexact TbL
    isplitl [TbR]; · iexact TbR
    isplitl [HpL]; · iexact HpL
    iexact HpR
  iintro %v13 %v24 HO
  try dsimp only
  simp only [dif_pos ((br_eq0 0).2 rfl), dif_neg (fun h => (cond16_iff 0).1 h rfl), Prog.pure_eq_ret, Prog.bind_ret]
  ihave Hpb := (pb_split 0 f11) $$ H11
  ihave Hpb := (Entails.of_eq (bigSep_dev (F := F) fun d => some_ 0 (pbM d))) $$ Hpb
  icases Hpb with ⟨Hpb0, Hpbr⟩
  rw [wp_bind]
  iapply (part31_zero K N x wq k v f6 f8 f9 hbq hbkv v13) $$ [HO Cbar Pbar H0 H1 H2 H3 H6 H8 H9 Hpbr Tbq Tbrq Tbkv Tbrkv]
  · isplitr; · iexact HR
    isplitl [HO]; · iexact HO
    isplitl [Cbar]; · iexact Cbar
    isplitl [Pbar]; · iexact Pbar
    isplitl [H0]; · iexact H0
    isplitl [H1]; · iexact H1
    isplitl [H2]; · iexact H2
    isplitl [H3]; · iexact H3
    isplitl [H6]; · iexact H6
    isplitl [H8]; · iexact H8
    isplitl [H9]; · iexact H9
    isplitl [Hpbr]; · iexact Hpbr
    isplitl [Tbq]; · iexact Tbq
    isplitl [Tbrq]; · iexact Tbrq
    isplitl [Tbkv]; · iexact Tbkv
    iexact Tbrkv
  iintro %a ⟨HO, Pbar, HpL, H0, H1, H2, H3, H6, H8, H9, Cbq, Cbkv⟩
  try dsimp only
  ihave H6 := (stage_split 0 (stG k v)) $$ H6
  icases H6 with ⟨HsL, H6⟩
  rw [wp_bind]
  iapply (part32_zero K N (stG k v) hst _ _ _ v24) $$ [HO HpL Tns1 Tnr0 H6 H8 H10]
  · isplitr; · iexact HR
    isplitl [HO]; · iexact HO
    isplitl [HpL]; · iexact HpL
    isplitl [Tns1]; · iexact Tns1
    isplitl [Tnr0]; · iexact Tnr0
    isplitl [H6]; · iexact H6
    isplitl [H8]; · iexact H8
    iexact H10
  iintro ⟨HO, Hcr, H6, H8, H10⟩
  try dsimp only
  rw [wp_bind]
  iapply (part33_wp 0 _ _ _ _ _ _) $$ [H10 H8 H6]
  · isplitl [H10]; · iexact H10
    isplitl [H8]; · iexact H8
    iexact H6
  iintro ⟨H10, H8, H6⟩
  try dsimp only
  rw [wp_bind]
  iapply (part34_wp 0 _ _ _ _ _ _ _) $$ [H6 H10 H8]
  · isplitl [H6]; · iexact H6
    isplitl [H10]; · iexact H10
    iexact H8
  iintro ⟨H6, H10, H8⟩
  try dsimp only
  rw [wp_bind]
  iapply (part35_wp 0 _ _ _ _ _ _ _ _) $$ [H6 H10 H8]
  · isplitl [H6]; · iexact H6
    isplitl [H10]; · iexact H10
    iexact H8
  iintro ⟨H6, H10, H8⟩
  try dsimp only
  rw [wp_bind]
  iapply (part36_wp 0 _ _ _ _ _ _) $$ [H10 H8 H6]
  · isplitl [H10]; · iexact H10
    isplitl [H8]; · iexact H8
    iexact H6
  iintro ⟨H10, H8, H6⟩
  try dsimp only
  rw [wp_bind]
  iapply (part37_wp 0 _ _ _ _ _ _) $$ [H6 H10 H8]
  · isplitl [H6]; · iexact H6
    isplitl [H10]; · iexact H10
    iexact H8
  iintro ⟨H6, H10, H8⟩
  try dsimp only
  rw [wp_bind]
  iapply (part38_zero _ _ _ _ _ _ _ _ _ _ _ (fun i => ps_eq _ _ _ _ _ _ _ _ _ _ i)) $$ [Hpb0 H6 H10 H0 H1]
  · isplitl [Hpb0]; · iexact Hpb0
    isplitl [H6]; · iexact H6
    isplitl [H10]; · iexact H10
    isplitl [H0]; · iexact H0
    iexact H1
  iintro ⟨Hpb0, H6, H10, H0, H1⟩
  try dsimp only
  ihave HO := (owesJ_skip 0 67 68 Orest_ps0) $$ HO
  rw [wp_bind]
  iapply (part39_zero K N 0 rfl (stG k v) hst n5 hn5 v13 v24 _ _) $$ [HO HsL Hcr Pns1 HkL Cnr1 Pnr1 H6]
  · isplitr; · iexact HR
    isplitl [HO]; · iexact HO
    isplitl [HsL]; · iexact HsL
    isplitl [Hcr]; · iexact Hcr
    isplitl [Pns1]; · iexact Pns1
    isplitl [HkL]; · iexact HkL
    isplitl [Cnr1]; · iexact Cnr1
    isplitl [Pnr1]; · iexact Pnr1
    iexact H6
  iintro ⟨HO, Pns1, Pnr1, H6, ⟨%g0, %g1, H7⟩⟩
  try dsimp only
  have hm : k0_pay57 (dw 0) (k0_pay54 (dw 0)) (iota .tc S128x416 32 [1] iota_S128x416_d1_w32) (k0_pay55 (dw 0)) k0_pay56 1#32 = maskW (dw 0) := rfl
  rw [wp_bind]
  iapply (part40_wp 0 _ _ _ _ _ _ _ _) $$ [H7]
  · iexact H7
  iintro H7
  try dsimp only
  simp only [hm]
  rw [wp_bind]
  iapply (part41_wp 0 _ _ _ _ _ _ _ _ _) $$ [H6 H7 H9]
  · isplitl [H6]; · iexact H6
    isplitl [H7]; · iexact H7
    iexact H9
  iintro ⟨H6, H7, H9⟩
  try dsimp only
  rw [wp_bind]
  iapply (part42_wp 0 _ _ _ _ _ _ _ _ _) $$ [H7 H6 H9]
  · isplitl [H7]; · iexact H7
    isplitl [H6]; · iexact H6
    iexact H9
  iintro ⟨H7, H6, H9⟩
  try dsimp only
  rw [wp_bind]
  iapply (part43_wp 0 _ _ _ _ _ _ _ _ _ _ _) $$ [H7 H9 H6]
  · isplitl [H7]; · iexact H7
    isplitl [H9]; · iexact H9
    iexact H6
  iintro ⟨H7, H9, H6⟩
  try dsimp only
  rw [wp_bind]
  iapply (part44_wp 0 _ _ _ _ _ _ _ _ _ _ _) $$ [H9 H7 H6]
  · isplitl [H9]; · iexact H9
    isplitl [H7]; · iexact H7
    iexact H6
  iintro ⟨H9, H7, H6⟩
  try dsimp only
  rw [wp_bind]
  iapply (part45_wp 0 _ _ _ _ _ _) $$ [H7 H6 H9]
  · isplitl [H7]; · iexact H7
    isplitl [H6]; · iexact H6
    iexact H9
  iintro ⟨H7, H6, H9⟩
  try dsimp only
  rw [wp_bind]
  iapply (part46_wp 0 _ _ _ _ _ _ _ _ _ _ _ _ _ _ _) $$ [H4 H5 H7 H6]
  · isplitl [H4]; · iexact H4
    isplitl [H5]; · iexact H5
    isplitl [H7]; · iexact H7
    iexact H6
  iintro ⟨H4, H5, H7, H6⟩
  try dsimp only
  rw [wp_bind]
  iapply (part47_wp 0 _ _ _ _ _ _ _ _ _ _ _) $$ [H9 H7 H6]
  · isplitl [H9]; · iexact H9
    isplitl [H7]; · iexact H7
    iexact H6
  iintro ⟨H9, H7, H6⟩
  try dsimp only
  rw [wp_bind]
  iapply (part48_wp 0 _ _ _ _ _ _) $$ [H7 H6 H9]
  · isplitl [H7]; · iexact H7
    isplitl [H6]; · iexact H6
    iexact H9
  iintro ⟨H7, H6, H9⟩
  try dsimp only
  rw [wp_bind]
  iapply (part49_wp 0 _ _ _ _ _ _ _ _ _ _ _) $$ [H7 H6 H9]
  · isplitl [H7]; · iexact H7
    isplitl [H6]; · iexact H6
    iexact H9
  iintro ⟨H7, H6, H9⟩
  try dsimp only
  rw [wp_bind]
  iapply (part50_wp 0 _ _ _ _ _ _ _ _ _ _) $$ [H6 H7 H9]
  · isplitl [H6]; · iexact H6
    isplitl [H7]; · iexact H7
    iexact H9
  iintro ⟨H6, H7, H9⟩
  try dsimp only
  rw [wp_bind]
  iapply (part51_wp 0 _ _ _ _ _ _ _ _ _ _) $$ [H7 H9 H6]
  · isplitl [H7]; · iexact H7
    isplitl [H9]; · iexact H9
    iexact H6
  iintro ⟨H7, H9, H6⟩
  try dsimp only
  iapply (out_store 0 _ _ _ _ _ wo _) $$ [H4 H5]
  · isplitl [H4]; · iexact H4
    iexact H5
  iintro ⟨H4, H5⟩
  ihave H5 := (Entails.of_eq (congrArg (pts 0 outM fullShare) (out_eq (dw 0) x wq wo (nbG (selL K 0 g0) (selR K 0 g1)) (stG k v) K.bkv o _ _))) $$ H5
  ihave HW := (wp_start K _ hps) $$ [HO Hpb0 Ppr Cpr]
  · isplitl [HO]; · iexact HO
    isplitl [Hpb0]; · iexact Hpb0
    isplitl [Ppr]; · iexact Ppr
    iexact Cpr
  rw [wp_bind]
  iapply (part11_wp K N ) $$ [HW]
  · isplitr; · iexact HR
    iexact HW
  iintro %r HW
  try dsimp only
  rw [wp_bind]
  iapply (part12_wp K N ) $$ [HW]
  · isplitr; · iexact HR
    iexact HW
  iintro %r HW
  try dsimp only
  rw [wp_bind]
  iapply (part13_wp K N ) $$ [HW]
  · isplitr; · iexact HR
    iexact HW
  iintro %r HW
  try dsimp only
  rw [wp_bind]
  iapply (part14_wp K N  _ _) $$ [HW]
  · isplitr; · iexact HR
    iexact HW
  iintro %r HW
  try dsimp only
  rw [wp_bind]
  iapply (part15_wp K N ) $$ [HW]
  · isplitr; · iexact HR
    iexact HW
  iintro %r HW
  try dsimp only
  rw [wp_bind]
  iapply (part16_wp K N ) $$ [HW]
  · isplitr; · iexact HR
    iexact HW
  iintro %r HW
  try dsimp only
  rw [wp_bind]
  iapply (part17_wp K N ) $$ [HW]
  · isplitr; · iexact HR
    iexact HW
  iintro %r HW
  try dsimp only
  rw [wp_bind]
  iapply (part18_wp K N  _ _) $$ [HW]
  · isplitr; · iexact HR
    iexact HW
  iintro %r HW
  try dsimp only
  rw [wp_bind]
  iapply (part19_wp K N ) $$ [HW]
  · isplitr; · iexact HR
    iexact HW
  iintro ⟨HO, Ppr, H11⟩
  try dsimp only
  rw [wp_bind]
  iapply (part20_wp 0 _ _ _) $$ [H11]
  · iexact H11
  iintro H11
  try dsimp only
  rw [wp_bind]
  iapply (part21_wp 0 _ _ _ _ _ _ _ _) $$ [H11 H4 H5]
  · isplitl [H11]; · iexact H11
    isplitl [H4]; · iexact H4
    iexact H5
  iintro ⟨H11, H4, H5⟩
  try dsimp only
  rw [wp_bind]
  iapply (part22_wp 0 _ _ _ _ _ _) $$ [H11]
  · iexact H11
  iintro H11
  try dsimp only
  rw [wp_bind]
  iapply (part23_wp 0 _ _ _ _ _ _ _) $$ [H11 H4]
  · isplitl [H11]; · iexact H11
    iexact H4
  iintro ⟨H11, H4⟩
  try dsimp only
  iapply (outz_store _ _ _ _) $$ [H5]
  · iexact H5
  iintro H5
  ihave H5 := (Entails.of_eq (congrArg (pts 0 outM fullShare) (outZ_eq (pbG K.ps) wo _ _ _))) $$ H5
  ihave HW := (wq_start K) $$ [HO Cbq Pbq Cbkv Pbkv]
  · isplitl [HO]; · iexact HO
    isplitl [Cbq]; · iexact Cbq
    isplitl [Pbq]; · iexact Pbq
    isplitl [Cbkv]; · iexact Cbkv
    iexact Pbkv
  rw [wp_bind]
  iapply (part24_wp K N ) $$ [HW]
  · isplitr; · iexact HR
    iexact HW
  iintro %r HW
  try dsimp only
  rw [wp_bind]
  iapply (part25_wp K N ) $$ [HW]
  · isplitr; · iexact HR
    iexact HW
  iintro %r HW
  try dsimp only
  rw [wp_bind]
  iapply (part26_wp K N ) $$ [HW]
  · isplitr; · iexact HR
    iexact HW
  iintro %r HW
  try dsimp only
  rw [wp_bind]
  iapply (part27_wp K N ) $$ [HW]
  · isplitr; · iexact HR
    iexact HW
  iintro %r HW
  try dsimp only
  rw [wp_bind]
  iapply (part28_wp K N ) $$ [HW]
  · isplitr; · iexact HR
    iexact HW
  iintro %r HW
  try dsimp only
  rw [wp_bind]
  iapply (part29_wp K N ) $$ [HW]
  · isplitr; · iexact HR
    iexact HW
  iintro %r HW
  try dsimp only
  simp only [Prog.lift, Prog.bind_op, Prog.bind_ret]
  iapply (step_WQ K N 30 _ _ rfl rfl) $$ [HW]
  · isplitr; · iexact HR
    iexact HW
  iintro HW
  ihave HW := (wq_done K) $$ [HW H8 H9]
  · isplitl [HW]; · iexact HW
    isplitl [H8]; · iexact H8
    iexact H9
  icases HW with ⟨HO, Pbq, Pbkv, H8, H9⟩
  ihave Pbar := (closed_used K 0 _) $$ Pbar
  ihave HCl := (end_zero K) $$ [Pbar Pns0 Pns1 Pnr0 Pnr1 Pbrq Pbrkv Pps Pbq Pbkv Ppr]
  · isplitl [Pbar Pns0 Pns1 Pnr0 Pnr1 Pbrq Pbrkv Pps]
    · isplitl [Pbar]; · iexact Pbar
      isplitl [Pns0]; · iexact Pns0
      isplitl [Pns1]; · iexact Pns1
      isplitl [Pnr0]; · iexact Pnr0
      isplitl [Pnr1]; · iexact Pnr1
      isplitl [Pbrq]; · iexact Pbrq
      isplitl [Pbrkv]; · iexact Pbrkv
      iexact Pps
    isplitl [Pbq]; · iexact Pbq
    isplitl [Pbkv]; · iexact Pbkv
    iexact Ppr
  rw [wp_ret]; imodintro
  rw [wp_ret]; imodintro
  iapply Hk
  isplitl [HO]; · iexact HO
  isplitl [HCl]; · iexact HCl
  isplitl [H0 H1 H2 H3 H4]
  · isplitl [H0]; · iexact H0
    isplitl [H1]; · iexact H1
    isplitl [H2]; · iexact H2
    isplitl [H3]; · iexact H3
    iexact H4
  isplitl [H5]; · iexists g0; iexists g1; iexact H5
  isplitl [H6]; · iexists _; iexact H6
  isplitl [H7]; · iexists _; iexact H7
  isplitl [H8]; · iexists _; iexact H8
  isplitl [H9]; · iexists _; iexact H9
  isplitl [H10]; · iexists _; iexact H10
  iexists _; iexact H11

end Cert.KernelIdealProof
end
-- ==== Proof.KernelIdeal.Ghost.lean ====
/-
What the launch deals: the rounds of all semaphores, the tokens of the duties to their payers, and the credits.
-/
module

public import proofs.«01_k».proof.Proof.KernelIdeal.BodyZero

@[expose] public section

set_option maxRecDepth 65536

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The launch element -/

def ringCells : Finset (GSem nD τ sig) := Finset.univ.map ⟨kcell, kcell_injective⟩

abbrev tokOf (t : Tok) : GSem nD τ sig × ℕ × Tok := (kcell (tgt t.1 t.2), 0, t)
theorem tokOf_injective : Function.Injective tokOf := fun _ _ h => congrArg (fun x => x.2.2) h
def ringToks : Finset (GSem nD τ sig × ℕ × Tok) := Finset.univ.map ⟨tokOf, tokOf_injective⟩

def u₀ : UU :=
  (initOf (Pipeline.cells cfgs cellOf_inj) (Pipeline.launchToks cfgs cellOf_inj), initOf ringCells ringToks)

variable (K : Cont F) (N : Dev nD × CK → ℕ)

/-- What the launch element gives device `c`. -/
def G (c : Dev nD) : sProp 𝕄 :=
  iprop((bigSep Finset.univ fun k : CK => roundState ER (Rd K) (kcell (c, k)) 0)
    ∗ (bigSep Finset.univ fun k : CK => pos c k 0) ∗ (bigSep Finset.univ fun k : CK => reached ER (kcell (c, k)) 0)
    ∗ bigSep Finset.univ fun t : TokK => tok c t)

/-- What device `c` starts its program with, apart from the records. -/
def linear (c : Dev nD) : sProp 𝕄 :=
  iprop((bigSep Finset.univ fun t : TokK => tok c t) ∗ bigSep Finset.univ fun k : CK => pos c k 0)

def recs₀ : sProp 𝕄 :=
  iprop((bigSep Finset.univ fun x : Dev nD × CK => cellInv ER (Rd K) (N x) (kcell x))
    ∗ (bigSep Finset.univ fun x : Dev nD × CK => reached ER (kcell x) 0))
instance recs₀_persistent : BI.Persistent (recs₀ K N) := by unfold recs₀; infer_instance

def G' (c : Dev nD) : sProp 𝕄 := iprop(∃ N, recs₀ K N ∗ linear c)

theorem fund_ring : BI.own (ER (initOf ringCells ringToks)) ⊢ (|==> bigSep Finset.univ (G K) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => bigSep Finset.univ fun t : TokK => tok c t := by
    unfold ringToks; rw [bigSep_map, bigSep_univ_prod]; rfl
  iintro HX
  imod (Rounds.fund ER (Rd K) ringCells ringToks) $$ HX with ⟨Hst, Hr, Hat, Htok⟩
  imodintro
  ihave Hst' := (Entails.of_eq (hX fun g => roundState ER (Rd K) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The semaphores -/

theorem unscopedSems0_eq (c : Dev nD) : (unscopedSems0 c : sProp 𝕄) = semVal (kcell (c, .inl ())) 0 := by
  unfold unscopedSems0; rw [bigSep_eq_bigSepL_of_eq [SemLoc.reg barS] (by decide) (by decide)]; rfl

theorem sems_eq (c : Dev nD) :
    (bigSep Finset.univ fun k : CK => semVal (kcell (c, k)) 0 : sProp 𝕄)
      = iprop(unscopedSems0 c ∗ Pipeline.ownSems0 (Ix := Unit) (Name := ℕ) (U := UU) (Lvl := ℕ) (Val := Elt F) (τ := τ) osem c) := by
  rw [BI.bigSep_univ_sum, unit_sep, unscopedSems0_eq]; rfl

theorem core_alloc (c : Dev nD) :
    iprop(Pipeline.ownSems0 (Ix := Unit) (Name := ℕ) (U := UU) (Lvl := ℕ) (Val := Elt F) (τ := τ) osem c ∗ unscopedSems0 c ∗ G K c)
      ⊢ |={Set.univ}=> iprop((bigSep Finset.univ fun k : CK => iprop(∃ κ : ℕ, cellInv ER (Rd K) κ (kcell (c, k))))
          ∗ (bigSep Finset.univ fun k : CK => reached ER (kcell (c, k)) 0) ∗ linear c) := by
  have hi : iprop((bigSep Finset.univ fun k : CK => semVal (kcell (c, k)) 0) ∗ bigSep Finset.univ fun k : CK => roundState ER (Rd K) (kcell (c, k)) 0)
      ⊢ (|={Set.univ}=> bigSep Finset.univ fun k : CK => iprop(∃ κ : ℕ, cellInv ER (Rd K) κ (kcell (c, k))) : sProp 𝕄) := by
    rw [← bigSep_sep']
    exact (bigSep_mono fun k _ => (Rounds.body_intro ER (Rd K) (kcell (c, k))).trans inv_alloc).trans (bigSep_fupd _ _)
  unfold G linear
  iintro ⟨Hos, Hus, Hst, Hat, Hr, Htok⟩
  ihave Hv := (Entails.of_eq (sems_eq (F := F) c).symm) $$ [Hos Hus]
  · isplitl [Hus] <;> iassumption
  imod hi $$ [Hv Hst] with Hinv
  · isplitl [Hv] <;> iassumption
  imodintro
  isplitl [Hinv]; · iexact Hinv
  isplitl [Hr]; · iexact Hr
  isplitl [Htok]; · iexact Htok
  iexact Hat

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (Rd K) κ (kcell (c, k))))
          ∗ (bigSep Finset.univ fun k : CK => reached ER (kcell (c, k)) 0) ∗ linear c) : sProp 𝕄)
      ⊢ bigSep Finset.univ (G' K) := by
  rw [bigSep_sep', bigSep_sep', ← bigSep_univ_prod (fun x : Dev nD × CK => iprop(∃ κ : ℕ, cellInv ER (Rd K) κ (kcell x))),
    ← bigSep_univ_prod (fun x : Dev nD × CK => (reached ER (kcell x) 0 : sProp 𝕄))]
  iintro ⟨HI, #HR, Hl⟩
  ihave HK := (BI.bigSep_exists_pi Finset.univ (fun (x : Dev nD × CK) (κ : ℕ) => (cellInv ER (Rd K) κ (kcell x) : sProp 𝕄))) $$ HI
  icases HK with ⟨%N, #HI⟩
  iapply (bigSep_with_persistent (R := recs₀ K N) (Φ := fun c => linear c) fun c _ => by
    unfold G'; iintro ⟨H1, H2⟩; iexists N; isplitl [H1] <;> iassumption)
  isplitr
  · unfold recs₀; isplitl; · iexact HI
    iexact HR
  · iexact Hl

/-- The invariants are allotted, the tokens and positions dealt. -/
theorem glob : (bigSep Finset.univ fun c => iprop(Pipeline.ownSems0 (Ix := Unit) (Name := ℕ) (U := UU) (Lvl := ℕ) (Val := Elt F) (τ := τ) osem c ∗ unscopedSems0 c ∗ G K c) : sProp 𝕄)
    ⊢ |={Set.univ}=> bigSep Finset.univ (G' K) :=
  ((bigSep_mono fun c _ => core_alloc K c).trans (bigSep_fupd _ _)).trans (BI.fupd_mono (regroup K))

/-! ## The credits -/

/-- The units all devices owe a semaphore. -/
def cnt (x : Dev nD × CK) : ℕ := ∑ d : Dev nD, Orest d 0 (kcell x) ()

theorem cnt_eq (x : Dev nD × CK) (h : ∀ t ∈ (Rd K).duties (kcell x) 0, owedK t.2 = true) : cnt x = (Rd K).expect (kcell x) 0 := by
  classical
  have h1 : ∀ d, Orest d 0 (kcell x) () = ∑ t : TokK, if (valid d t = true ∧ owedK t = true) ∧ tgt d t = x then amt t else 0 := by
    intro d; unfold Orest
    rw [Finset.sum_apply, Finsupp.finset_sum_apply, Finset.sum_filter]
    refine Finset.sum_congr rfl fun t _ => ?_
    rw [tallyAt_apply]
    by_cases hv : valid d t = true ∧ owedK t = true
    · rw [if_pos ⟨hv.1, hv.2, Nat.zero_le _⟩]
      by_cases ht : tgt d t = x
      · rw [if_pos ⟨by rw [ht], rfl⟩, if_pos ⟨hv, ht⟩]
      · rw [if_neg (fun hh => ht (kcell_injective hh.1).symm), if_neg (fun hh => ht hh.2)]
    · rw [if_neg (fun hh => hv ⟨hh.1, hh.2.1⟩), if_neg (fun hh => hv hh.1)]
  have hm : ∀ t : Tok, t ∈ (Rd K).duties (kcell x) 0 ↔ valid t.1 t.2 = true ∧ tgt t.1 t.2 = x := by
    intro t; dsimp only [Rd]; rw [if_pos rfl, Finset.mem_filter]
    exact ⟨fun hh => ⟨hh.2.1, kcell_injective hh.2.2⟩, fun hh => ⟨Finset.mem_univ _, hh.1, congrArg kcell hh.2⟩⟩
  unfold cnt Schedule.expect Schedule.amountOf
  rw [Finset.sum_congr rfl fun d _ => h1 d,
    ← Fintype.sum_prod_type' (fun d t => if (valid d t = true ∧ owedK t = true) ∧ tgt d t = x then amt t else 0), ← Finset.sum_filter]
  refine Finset.sum_congr ?_ fun _ _ => rfl
  ext t
  rw [Finset.mem_filter, hm]
  exact ⟨fun hh => ⟨hh.2.1.1, hh.2.2⟩, fun hh => ⟨Finset.mem_univ _, ⟨hh.1, h t ((hm t).mpr hh)⟩, hh.2⟩⟩

/-- The rights to wait that device `c` starts with. -/
def crds (c : Dev nD) : sProp 𝕄 := bigSep Finset.univ fun k : CK => crd c k (cnt (c, k))

theorem launch_crds (c : Dev nD) : (Pipeline.launchCred (fun d => Orest d 0) c : sProp 𝕄) ⊢ crds c := by
  have h : ∀ k : CK, tallyOn (kcell (c, k)) (launchCredit (Pipeline.owing fun d => Orest d 0) 0 (kcell (c, k)))
      = (tallyAt (kcell (c, k)) () (cnt (c, k)) : CellTallies nD τ sig Unit) := fun k => by
    unfold tallyAt; refine congrArg _ (Finsupp.ext fun u => ?_); cases u
    rw [Pipeline.launchCredit_owing, Finsupp.single_eq_same]; rfl
  unfold Pipeline.launchCred crds crd
  refine (BI.bigSep_subset (Finset.subset_univ ((Finset.univ : Finset CK).map ⟨csem, csem_injective⟩))).trans ?_
  rw [bigSep_map]
  exact bigSep_mono fun k _ => Entails.of_eq (congrArg cred (h k))

include K in
theorem crds_pos (c : Dev nD) (h0 : c ≠ 0) :
    (crds c : sProp 𝕄) ⊢ iprop(crd c (.inl ()) 2 ∗ crd c (.inr (.nrecv 0)) stN ∗ crd c (.inr (.nrecv 1)) (cnt (c, .inr (.nrecv 1)))
      ∗ crd c (.inr .brq) bqN ∗ crd c (.inr .brkv) bkvN) := by
  have e1 : cnt (c, .inl ()) = 2 := by
    rw [cnt_eq K _ (by rw [duties_bar K c h0]; simp [owedK]), expect_bar K c h0]
  have e2 : cnt (c, .inr (.nrecv 0)) = stN := by
    rw [cnt_eq K _ (by rw [duties_nrecv0 K c h0]; simp [owedK]), expect_one K _ _ _ (duties_nrecv0 K c h0)]; rfl
  have e3 : cnt (c, .inr .brq) = bqN := by
    rw [cnt_eq K _ (by rw [duties_brq K c h0]; simp [owedK]), expect_one K _ _ _ (duties_brq K c h0)]; rfl
  have e4 : cnt (c, .inr .brkv) = bkvN := by
    rw [cnt_eq K _ (by rw [duties_brkv K c h0]; simp [owedK]), expect_one K _ _ _ (duties_brkv K c h0)]; rfl
  unfold crds
  rw [ck_split, e1, e2, e3, e4]
  iintro ⟨H1, ⟨⟨-, H2, H3⟩, -⟩, ⟨H4, H5⟩, -⟩
  isplitl [H1]; · iexact H1
  isplitl [H2]; · iexact H2
  isplitl [H3]; · iexact H3
  isplitl [H4] <;> iassumption

include K in
theorem cnt_nrecv1 (c : Dev nD) (h : c ≠ 31) : cnt (c, .inr (.nrecv 1)) = stN := by
  rw [cnt_eq K _ (by rw [duties_nrecv1 K c h]; simp [owedK]), expect_one K _ _ _ (duties_nrecv1 K c h)]; rfl

include K in
theorem crds_zero :
    (crds 0 : sProp 𝕄) ⊢ iprop(crd 0 (.inl ()) 33 ∗ crd 0 (.inr (.nrecv 1)) (cnt (0, .inr (.nrecv 1)))
      ∗ bigSep Finset.univ fun i : Fin 31 => crd 0 (.inr (.pr (nth i))) psN) := by
  have e1 : cnt (0, .inl ()) = 33 := by
    rw [cnt_eq K _ (by rw [duties_bar_zero K]; rintro ⟨d, t⟩ h; simp [barEmb_apply] at h; rcases h with ⟨_, rfl⟩ | ⟨_, rfl⟩ | ⟨_, rfl⟩ <;> rfl), expect_bar_zero K]
  have e2 : ∀ i : Fin 31, cnt (0, .inr (.pr (nth i))) = psN := fun i => by
    rw [cnt_eq K _ (by rw [duties_pr K _ (nth_ne i)]; simp [owedK]), expect_one K _ _ _ (duties_pr K _ (nth_ne i))]; rfl
  have hn : Function.Injective nth := fun a b h => by rw [← idx_nth a, h, idx_nth]
  have e3 : (bigSep Finset.univ fun d : Dev nD => (crd 0 (.inr (.pr d)) (cnt (0, .inr (.pr d))) : sProp 𝕄))
      ⊢ bigSep Finset.univ fun i : Fin 31 => crd 0 (.inr (.pr (nth i))) psN := by
    refine (BI.bigSep_subset (Finset.subset_univ ((Finset.univ : Finset (Fin 31)).map ⟨nth, hn⟩))).trans ?_
    rw [bigSep_map]
    exact bigSep_mono fun i _ => Entails.of_eq (by show (crd 0 (.inr (.pr (nth i))) (cnt (0, .inr (.pr (nth i)))) : sProp 𝕄) = _; rw [e2])
  unfold crds
  rw [ck_split, e1]
  iintro ⟨H1, ⟨⟨-, -, H3⟩, -⟩, -, -, H5⟩
  isplitl [H1]; · iexact H1
  isplitl [H3]; · iexact H3
  iapply e3; iexact H5

end Cert.KernelIdealProof

end
-- ==== Proof.KernelIdeal.Run.lean ====
/-
The run of the kernel on all devices, from any memory.
-/
module

public import proofs.«01_k».proof.Proof.KernelIdeal.Ghost
public import Idealize.ShloMosaic.Lib.Pipeline.ArrRel
public import Idealize.ShloMosaic.Lib.Pipeline.CollectiveSegs
public import Idealize.ShloMosaic.Lib.Pipeline.FrameBody

@[expose] public section

set_option maxRecDepth 65536

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-! ## What the memory holds at the launch -/

def xA (c : Dev nD) : Vec F S2x128x512 .f32 := m ((c : Thread nD τ).loc main_arg0)
def wqA (c : Dev nD) : Vec F S512x256 .f32 := m ((c : Thread nD τ).loc main_arg1)
def kA (c : Dev nD) : Vec F S2x128x4x64 .f32 := m ((c : Thread nD τ).loc main_arg2)
def vA (c : Dev nD) : Vec F S2x128x4x64 .f32 := m ((c : Thread nD τ).loc main_arg3)
def woA (c : Dev nD) : Vec F S256x512 .f32 := m ((c : Thread nD τ).loc main_arg4)

/-- What the copies carry. -/
def KM : Cont F where
  st d := stG (kA m d) (vA m d)
  bq := bqG (xA m 0) (wqA m 0)
  bkv := bkvG (stG (kA m 0) (vA m 0))
  ps d := psG (bqG (xA m 0) (wqA m 0)) (stG (kA m d) (vA m d))

/-- The window's output block of device `c`; the neighbours' blocks that don't exist hold `g0`, `g1`. -/
def winA (c : Dev nD) (g0 g1 : S2x2x4x128x64.Idx → Elt F .f32) : Vec F S2x128x512 .f32 :=
  outW (dw c) (xA m c) (wqA m c) (woA m c) (nbG (selL (KM m) c g0) (selR (KM m) c g1)) (stG (kA m c) (vA m c)) (KM m).bkv

/-- What device `c` leaves in its output block. -/
def OutRel (c : Dev nD) (X : Vec F S2x128x512 .f32) : Prop :=
  ∃ g0 g1, X = if c = 0 then outZ (winA m c g0 g1) (pbG (KM m).ps) (woA m c) else winA m c g0 g1

/-! ## The proof data -/

def Φ₀ (c : Dev nD) : sProp 𝕄 :=
  iprop((∃ N, recs (KM m) N ∗ linear c) ∗ crds c ∗ scr c)
def Φ₁ (c : Dev nD) : sProp 𝕄 :=
  iprop((bigSep Finset.univ fun k : CK => semVal (kcell (c, k)) 0) ∗ scr c)

/-- What the body may leave in each window. -/
def aft (c : Dev nD) (t : Fin cfg0.N) : (w : Fin cfg0.W) → (Y X : (cfg0.win w).block.Idx → Elt F (cfg0.win w).elt) → Prop
  | ⟨0, _⟩ | ⟨1, _⟩ | ⟨2, _⟩ | ⟨3, _⟩ | ⟨4, _⟩ => fun _ _ => True
  | ⟨5, _⟩ => fun _ X => OutRel m c X
  | ⟨_ + 6, h⟩ => absurd h (Nat.not_lt.2 (Nat.le_add_left _ _))

def rdat (c : Dev nD) : Pipeline.RDat τ (Elt F) Unit ℕ UU ℕ cfg0 c where
  A w := m ((cfg0.win w).arr.view.loc (c : Thread nD τ))
  after w t := aft m c t w
  Φ t := if t.val = 0 then Φ₀ m c else Φ₁ c
  q _ := fullShare
  owed t := Orest c (68 * t.val)

def rdats : (p : Fin 1) → (c : Dev nD) → Pipeline.RDat τ (Elt F) Unit ℕ UU ℕ (cfgs p) c
  | ⟨0, _⟩ => rdat m
  | ⟨_ + 1, h⟩ => absurd h (Nat.not_lt.2 (Nat.le_add_left _ _))

theorem finds_0 (c : Dev nD) (Y) (h : (rdat m c).Finds (0 : Fin 6) t0_0 Y) : Y = xA m c := by
  obtain ⟨d, h⟩ := ((rdat m c).finds_of_fetch (fetch0_0 t0_0) Y).1 h
  rw [h]
  refine (show _ = ((cfg0.win 0).blk t0_0).view.read (Elt F) (m ((c : Thread nD τ).loc main_arg0)) from rfl).trans ?_
  funext i
  exact congrArg (m ((c : Thread nD τ).loc main_arg0)) (funext fun a => Fin.ext (by show 0 * _ + _ = _; rw [Nat.zero_mul, Nat.zero_add]; exact Nat.one_mul _))
theorem finds_1 (c : Dev nD) (Y) (h : (rdat m c).Finds (1 : Fin 6) t0_0 Y) : Y = wqA m c := by
  obtain ⟨d, h⟩ := ((rdat m c).finds_of_fetch (fetch0_1 t0_0) Y).1 h
  rw [h]
  refine (show _ = ((cfg0.win 1).blk t0_0).view.read (Elt F) (m ((c : Thread nD τ).loc main_arg1)) from rfl).trans ?_
  funext i
  exact congrArg (m ((c : Thread nD τ).loc main_arg1)) (funext fun a => Fin.ext (by show 0 * _ + _ = _; rw [Nat.zero_mul, Nat.zero_add]; exact Nat.one_mul _))
theorem finds_2 (c : Dev nD) (Y) (h : (rdat m c).Finds (2 : Fin 6) t0_0 Y) : Y = kA m c := by
  obtain ⟨d, h⟩ := ((rdat m c).finds_of_fetch (fetch0_2 t0_0) Y).1 h
  rw [h]
  refine (show _ = ((cfg0.win 2).blk t0_0).view.read (Elt F) (m ((c : Thread nD τ).loc main_arg2)) from rfl).trans ?_
  funext i
  exact congrArg (m ((c : Thread nD τ).loc main_arg2)) (funext fun a => Fin.ext (by show 0 * _ + _ = _; rw [Nat.zero_mul, Nat.zero_add]; exact Nat.one_mul _))
theorem finds_3 (c : Dev nD) (Y) (h : (rdat m c).Finds (3 : Fin 6) t0_0 Y) : Y = vA m c := by
  obtain ⟨d, h⟩ := ((rdat m c).finds_of_fetch (fetch0_3 t0_0) Y).1 h
  rw [h]
  refine (show _ = ((cfg0.win 3).blk t0_0).view.read (Elt F) (m ((c : Thread nD τ).loc main_arg3)) from rfl).trans ?_
  funext i
  exact congrArg (m ((c : Thread nD τ).loc main_arg3)) (funext fun a => Fin.ext (by show 0 * _ + _ = _; rw [Nat.zero_mul, Nat.zero_add]; exact Nat.one_mul _))
theorem finds_4 (c : Dev nD) (Y) (h : (rdat m c).Finds (4 : Fin 6) t0_0 Y) : Y = woA m c := by
  obtain ⟨d, h⟩ := ((rdat m c).finds_of_fetch (fetch0_4 t0_0) Y).1 h
  rw [h]
  refine (show _ = ((cfg0.win 4).blk t0_0).view.read (Elt F) (m ((c : Thread nD τ).loc main_arg4)) from rfl).trans ?_
  funext i
  exact congrArg (m ((c : Thread nD τ).loc main_arg4)) (funext fun a => Fin.ext (by show 0 * _ + _ = _; rw [Nat.zero_mul, Nat.zero_add]; exact Nat.one_mul _))

/-! ## The program of a device, with the launch's data -/

theorem close_all (K : Cont F) (N : Dev nD × CK → ℕ) (c : Dev nD) :
    iprop(recs K N ∗ bigSep Finset.univ fun k : CK => closed K c k) ⊢ |={Set.univ}=> (bigSep Finset.univ fun k : CK => semVal (kcell (c, k)) 0 : sProp 𝕄) :=
  (bigSep_with_persistent fun k _ => closed_zero K N c k).trans (bigSep_fupd _ _)

theorem body_run (c : Dev nD) (o : Vec F S2x128x512 .f32) :
    iprop(Φ₀ m c ∗ owesJ c 0 ∗ bufs c (xA m c) (wqA m c) (kA m c) (vA m c) (woA m c) ∗ pts c outM fullShare o)
      ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13)
          (fun _ => iprop(Φ₁ c ∗ owesJ c 68 ∗ bufs c (xA m c) (wqA m c) (kA m c) (vA m c) (woA m c)
            ∗ ∃ X, ⌜OutRel m c X⌝ ∗ pts c outM fullShare X)) := by
  unfold Φ₀ linear
  iintro ⟨⟨⟨%N, #HR, Ht, Hp⟩, Hc, Hs⟩, Ho, Hb, Hout⟩
  iapply (wp_fupd frame _ Set.univ)
  by_cases h0 : c = 0
  · subst h0
    ihave Hc := (crds_zero (KM m)) $$ Hc
    iapply (body_zero (KM m) N (xA m 0) (wqA m 0) (kA m 0) (vA m 0) (woA m 0) rfl rfl (cnt (0, .inr (.nrecv 1)))
      (fun h => cnt_nrecv1 (KM m) 0 h) rfl rfl o) $$ [Ht Hp Hc Hs Ho Hb Hout]
    · isplitr; · iexact HR
      isplitl [Ho]; · iexact Ho
      isplitl [Ht]; · iexact Ht
      isplitl [Hp]; · iexact Hp
      isplitl [Hc]; · iexact Hc
      isplitl [Hb]; · iexact Hb
      isplitl [Hout] <;> iassumption
    iintro ⟨Ho, Hcl, Hb, ⟨%g0, %g1, Hout⟩, Hs⟩
    imod (close_all (KM m) N 0) $$ [Hcl] with Hz
    · isplitr; · iexact HR
      iexact Hcl
    imodintro
    unfold Φ₁
    isplitl [Hz Hs]; · isplitl [Hz] <;> iassumption
    isplitl [Ho]; · iexact Ho
    isplitl [Hb]; · iexact Hb
    iexists _
    isplitr; · ipureintro; exact ⟨g0, g1, (if_pos rfl).symm⟩
    iexact Hout
  · ihave Hc := (crds_pos (KM m) c h0) $$ Hc
    iapply (body_pos (KM m) N c h0 (xA m c) (wqA m c) (kA m c) (vA m c) (woA m c) rfl rfl (cnt (c, .inr (.nrecv 1)))
      (fun h => cnt_nrecv1 (KM m) c h) o) $$ [Ht Hp Hc Hs Ho Hb Hout]
    · isplitr; · iexact HR
      isplitl [Ho]; · iexact Ho
      isplitl [Ht]; · iexact Ht
      isplitl [Hp]; · iexact Hp
      isplitl [Hc]; · iexact Hc
      isplitl [Hb]; · iexact Hb
      isplitl [Hout] <;> iassumption
    iintro ⟨Ho, Hcl, Hb, ⟨%g0, %g1, Hout⟩, Hs⟩
    imod (close_all (KM m) N c) $$ [Hcl] with Hz
    · isplitr; · iexact HR
      iexact Hcl
    imodintro
    unfold Φ₁
    isplitl [Hz Hs]; · isplitl [Hz] <;> iassumption
    isplitl [Ho]; · iexact Ho
    isplitl [Hb]; · iexact Hb
    iexists _
    isplitr; · ipureintro; exact ⟨g0, g1, (if_neg h0).symm⟩
    iexact Hout

abbrev stg (c : Dev nD) (r : Ref sig .tc) (X : Buf (Elt F) ((c : Thread nD τ).loc r)) : sProp 𝕄 :=
  iprop(∃ f, ⌜f = X⌝ ∗ ((c : Thread nD τ).loc r) ↦{fullShare} f)
theorem stg_elim (c : Dev nD) (r : Ref sig .tc) (X : Buf (Elt F) ((c : Thread nD τ).loc r)) : (stg c r X : sProp 𝕄) ⊢ ((c : Thread nD τ).loc r) ↦{fullShare} X := by
  iintro ⟨%f, %hf, H⟩; rw [hf]; iexact H
theorem stg_intro (c : Dev nD) (r : Ref sig .tc) (X : Buf (Elt F) ((c : Thread nD τ).loc r)) : (((c : Thread nD τ).loc r) ↦{fullShare} X) ⊢ (stg c r X : sProp 𝕄) := by
  iintro H; iexists X; isplitr; · ipureintro; rfl
  iexact H

set_option maxHeartbeats 1000000 in
theorem body_obligation (c : Dev nD) : (rdat m c).BodyObligation (defs₀ (F := F)) 𝒱₀ () Set.univ := fun t => by
  rw [fin_N0 t]
  intro Y hY
  have e0 := finds_0 m c _ (hY 0)
  have e1 := finds_1 m c _ (hY 1)
  have e2 := finds_2 m c _ (hY 2)
  have e3 := finds_3 m c _ (hY 3)
  have e4 := finds_4 m c _ (hY 4)
  rw [bigSep_W0, bigSep_W0]
  rw [e0, e1, e2, e3, e4]
  simp only [owns_whole_eq]
  show iprop(Φ₀ m c ∗ (rdat m c).owesAt () t0_0.castSucc
      ∗ (stg c cc0_stg0_0 (xA m c) ∗ stg c cc0_stg1_0 (wqA m c) ∗ stg c cc0_stg2_0 (kA m c) ∗ stg c cc0_stg3_0 (vA m c) ∗ stg c cc0_stg4_0 (woA m c) ∗ stg c cc0_stg5_0 (Y 5)))
    ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13)
      (fun _ => iprop(Φ₁ c ∗ (rdat m c).owesAt () t0_0.succ
        ∗ ((∃ X, ⌜True⌝ ∗ stg c cc0_stg0_0 X) ∗ (∃ X, ⌜True⌝ ∗ stg c cc0_stg1_0 X) ∗ (∃ X, ⌜True⌝ ∗ stg c cc0_stg2_0 X)
          ∗ (∃ X, ⌜True⌝ ∗ stg c cc0_stg3_0 X) ∗ (∃ X, ⌜True⌝ ∗ stg c cc0_stg4_0 X) ∗ (∃ X, ⌜OutRel m c X⌝ ∗ stg c cc0_stg5_0 X))))
  iintro ⟨HΦ, Ho, H0, H1, H2, H3, H4, H5⟩
  unfold Pipeline.RDat.owesAt Pipeline.owesWithin
  icases Ho with ⟨%W, %hW, Ho⟩
  iapply (wp_wand frame (wpE (defs₀ (F := F)) 𝒱₀ (c : Thread nD τ) none) Set.univ (Q := fun _ => iprop(Φ₁ c ∗ owesJ c 68 ∗ bufs c (xA m c) (wqA m c) (kA m c) (vA m c) (woA m c)
            ∗ ∃ X, ⌜OutRel m c X⌝ ∗ pts c outM fullShare X))) $$ [HΦ Ho H0 H1 H2 H3 H4 H5]
  · iapply (body_run m c (Y 5))
    isplitl [HΦ]; · iexact HΦ
    isplitl [Ho]; · unfold owesJ; iexists W; iexact Ho
    isplitl [H0 H1 H2 H3 H4]
    · unfold bufs
      isplitl [H0]; · iapply (stg_elim c _ _); iexact H0
      isplitl [H1]; · iapply (stg_elim c _ _); iexact H1
      isplitl [H2]; · iapply (stg_elim c _ _); iexact H2
      isplitl [H3]; · iapply (stg_elim c _ _); iexact H3
      iapply (stg_elim c _ _); iexact H4
    iapply (stg_elim c _ _); iexact H5
  · iintro %_
    unfold owesJ bufs
    iintro ⟨HΦ, ⟨%W', Ho⟩, ⟨H0, H1, H2, H3, H4⟩, ⟨%X, %hX, H5⟩⟩
    isplitl [HΦ]; · iexact HΦ
    isplitl [Ho]
    · iexists W'
      isplitr; · ipureintro; exact fun _ _ => Or.inl trivial
      iexact Ho
    isplitl [H0]; · iexists _; isplitr; · ipureintro; trivial
                    iapply (stg_intro c _ _); iexact H0
    isplitl [H1]; · iexists _; isplitr; · ipureintro; trivial
                    iapply (stg_intro c _ _); iexact H1
    isplitl [H2]; · iexists _; isplitr; · ipureintro; trivial
                    iapply (stg_intro c _ _); iexact H2
    isplitl [H3]; · iexists _; isplitr; · ipureintro; trivial
                    iapply (stg_intro c _ _); iexact H3
    isplitl [H4]; · iexists _; isplitr; · ipureintro; trivial
                    iapply (stg_intro c _ _); iexact H4
    iexists X
    isplitr; · ipureintro; exact hX
    iapply (stg_intro c _ _); iexact H5

/-! ## The launch's side conditions -/

def start (c : Dev nD) : sProp 𝕄 := iprop((∃ N, recs (KM m) N ∗ linear c) ∗ crds c)

theorem start_intro (c : Dev nD) :
    iprop(Pipeline.unscopedRestP Pipeline.Prefetch.none cfg0.spec c (fun b => m ((c : Thread nD τ).loc b)) ∗ levAts L lv
        ∗ Pipeline.launchCred (fun d => Orest d 0) c ∗ prngReg c (ρ c) ∗ G' (KM m) c)
      ⊢ |={Set.univ}=> iprop(start m c ∗ emp) := by
  unfold start G'
  iintro ⟨-, Hlev, Hcr, -, ⟨%N, HR, HG⟩⟩
  ihave Hc := (launch_crds (F := F) c) $$ Hcr
  imodintro
  isplitl
  · isplitl [HG HR Hlev]
    · iexists N; unfold recs recs₀
      icases HR with ⟨H1, H2⟩
      isplitl [H1 H2 Hlev]
      · isplitl [H1]; · iexact H1
        isplitl [H2] <;> iassumption
      iexact HG
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (rdat m c).Φ 0 := by
  rw [show (rdat m c).Φ 0 = Φ₀ m c from rfl, scopedRest0_eq]
  unfold Φ₀ start
  iintro ⟨⟨H1, H2⟩, -, Hr⟩
  isplitl [H1]; · iexact H1
  isplitl [H2]; · iexact H2
  unfold scr; iexact Hr

theorem phi1_exit (c : Dev nD) :
    (rdat m c).Φ (Fin.last cfg0.N) ⊢ iprop(unscopedSems0 c ∗ Pipeline.ownSems0 osem c ∗ Pipeline.scopedRest cfg0.spec c) := by
  rw [show (rdat m c).Φ (Fin.last cfg0.N) = Φ₁ c from rfl, scopedRest0_eq]
  unfold Φ₁ scr
  rw [sems_eq]
  iintro ⟨⟨H1, H2⟩, Hr⟩
  isplitl [H1]; · iexact H1
  isplitl [H2]; · iexact H2
  iexact Hr

theorem stage_ne (w : Fin cfg0.W) (s : Fin (cfg0.win w).nbuf) (k : CK) : csem k ≠ .dma ((cfg0.win w).sem s) := by
  rcases k with k | k
  · intro h; cases h
  · exact ownSemFacts.disj k w s

theorem waits (c : Dev nD) : (levAts L lv : sProp 𝕄) ⊢ Pipeline.RDat.cellsWaits cfgs (rdats m) () 0 c :=
  Pipeline.RDat.cellsWaits_intro cfgs (rdats m) () 0 c fun w s t =>
    mayWait_stage c _ (stage_ne w s) _

/-! ## The run -/

/-- At the end: the arguments as they were, the results as computed. -/
def QC : PUnit × MemSt nD τ sig (Elt F) → Prop := fun r => ∀ c : Dev nD,
  r.2.mem ((c : Thread nD τ).loc main_arg0) = m ((c : Thread nD τ).loc main_arg0)
  ∧ r.2.mem ((c : Thread nD τ).loc main_arg1) = m ((c : Thread nD τ).loc main_arg1)
  ∧ r.2.mem ((c : Thread nD τ).loc main_arg2) = m ((c : Thread nD τ).loc main_arg2)
  ∧ r.2.mem ((c : Thread nD τ).loc main_arg3) = m ((c : Thread nD τ).loc main_arg3)
  ∧ r.2.mem ((c : Thread nD τ).loc main_arg4) = m ((c : Thread nD τ).loc main_arg4)
  ∧ OutRel m c (r.2.mem ((c : Thread nD τ).loc main_v1))

theorem arr_in (c : Dev nD) (w : Fin 6) (hw : (cfg0.win w).isOut = false) (Gw) (h : (rdat m c).ArrAt w cfg0.N Gw) :
    Gw = m (((cfg0.win w).arr).view.loc (c : Thread nD τ)) := by
  rw [(rdat m c).ArrAt_in w hw] at h; exact h

theorem arr_out (c : Dev nD) (Gw) (h : (rdat m c).ArrAt (5 : Fin 6) cfg0.N Gw) : OutRel m c Gw := by
  obtain ⟨X, ⟨Y, -, hX⟩, hG⟩ := Pipeline.RDat.ArrAt.emb_eq_of_wholeAt h (t₀ := t0_0) (by decide +kernel)
  have e : Gw = X := funext fun j => hG j
  rw [e]; exact hX

set_option maxHeartbeats 2000000 in
theorem run_main : θ_run defs (onTc (τ := τ) (main (F := F))) ⟨m, fun _ => 0, ρ⟩ (fun r => QC m r ∧ r.2.sem = fun _ => 0) :=
  Pipeline.RDat.θ_run_region_owing_glob_pf (fun p => (cfgs p).toPCfg) (fun p => (cfgs p).toPCfg_adm) (rdats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0)
    (hshare := fun c w => by unfold Pipeline.RDat.share; split <;> rfl)
    (hdistinct := winFacts0.arr_inj)
    (O₀ := fun d => Orest d 0) (howed₀ := fun _ => rfl) (howedN := fun c => Orest_end c)
    (L := L) (lv := lv) (hL := L_of_ne) (hwaits := waits m)
    (G := G (KM m)) (G' := G' (KM m)) (u₀ := u₀)
    (hu₀ := by
      unfold u₀
      iintro Hu
      ihave H := (ownU_pair _ _) $$ Hu
      icases H with ⟨HP, HX⟩
      imod (fund_ring (KM m)) $$ HX with HG
      imodintro
      isplitl [HP] <;> iassumption)
    (hglob := glob (KM m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c => ⟨arr_in m c 0 rfl _ ((h c).1 0), arr_in m c 1 rfl _ ((h c).1 1), arr_in m c 2 rfl _ ((h c).1 2),
      arr_in m c 3 rfl _ ((h c).1 3), arr_in m c 4 rfl _ ((h c).1 4), arr_out m c _ ((h c).1 5)⟩, sem_eq_zero hs fun c => (h c).2.2⟩)

end Cert.KernelIdealProof

end
-- ==== Proof.Frame.lean ====
/-
The kernel as printed: its run is the run of the kernel over any floats, read at bit patterns.
-/
module

public import proofs.«01_k».proof.Defs
public import proofs.«01_k».proof.Proof.Gen.Kernel
public import proofs.«01_k».proof.Proof.KernelIdeal.Run

@[expose] public section

noncomputable section

namespace Cert.KernelFrame

open Idealize.ShloMosaic Idealize.SL.Sem

/-- At bit patterns a named constant is the constant as printed. -/
@[reducible] def namedBits : Named Bits where
  named _ _ {φ} b := Scalar.ofBits φ b

attribute [local instance] namedBits

/-- The two body tables are one table. -/
theorem defs₀_eq : Cert.Kernel.defs₀ (F := Bits) = Cert.KernelIdeal.defs₀ (F := Bits) := by
  refine congrArg (Defs.onTc (nD := Cert.KernelIdeal.nD) (τ := Cert.KernelIdeal.τ) (sig := Cert.KernelIdeal.sig)
    (Val := Elt Bits) (Λ := Cert.KernelIdeal.Λ₀)) ?_
  funext ℓ a
  match ℓ, a with
  | 0, (t, s) => rfl

/-- With the pipelines added they are still one. -/
theorem defs_eq : Cert.Kernel.defs (F := Bits) = Cert.KernelIdeal.defs (F := Bits) :=
  congrArg (Pipeline.defs (Cert.KernelIdeal.pcfgs (F := Bits))) defs₀_eq

/-- The kernel as printed: it runs, and its arguments and its semaphores end as they were. -/
theorem quiescent_Kernel : Cert.quiescent_Kernel := by
  intro m g _
  rw [defs_eq]
  refine (θ_run _ _ _).mono ?_ (@Cert.KernelIdealProof.run_main Bits _ namedBits m g)
  exact fun r h => ⟨fun c => ⟨(h.1 c).1, (h.1 c).2.1, (h.1 c).2.2.1, (h.1 c).2.2.2.1, (h.1 c).2.2.2.2.1⟩, h.2⟩

end Cert.KernelFrame

end
-- ==== Proof.Math.Pre.lean ====
/-
What the precondition says: the tokens, the query weights and the keys are real numbers.
-/
module

public import proofs.«01_k».proof.Pre_finite_KernelIdeal
public import proofs.«01_k».proof.Pre_finite_ReferenceIdeal
public import Idealize.ShloMosaic.Lib.Pointwise
public import Idealize.ShloMosaic.Lib.ReduceAll
public import Idealize.ShloMosaic.Lib.WordArith

@[expose] public section

set_option maxRecDepth 8192

noncomputable section

namespace Cert.PreMath

open Idealize.ShloMosaic

theorem factsK : Cert.Pre_finite_KernelIdeal.Facts := ⟨by decide, by decide, by decide, by decide, by decide, by decide, by decide⟩
theorem factsR : Cert.Pre_finite_ReferenceIdeal.Facts := ⟨by decide, by decide, by decide, by decide, by decide, by decide, by decide⟩

theorem andi_left {a b : BitVec 1} (h : IntOp.andi a b = 1#1) : a = 1#1 := by revert a b; decide
theorem andi_right {a b : BitVec 1} (h : IntOp.andi a b = 1#1) : b = 1#1 := by revert a b; decide

/-- A number whose absolute value is below infinity is real. -/
theorem real_of_olt (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  have h' : max x (-x) < ⊤ := by
    by_contra hn
    have e : decide (max x (-x) < ⊤) = false := decide_eq_false hn
    rw [Ideal.cmp] at h
    simp only [e] at h
    exact absurd h (by decide)
  rw [max_lt_iff] at h'
  refine ⟨x.toReal, (EReal.coe_toReal h'.1.ne ?_).symm⟩
  rintro rfl
  exact absurd h'.2 (by simp)

variable [Cert.Pre_finite_KernelIdeal.Facts]

theorem real_args (x wq k v wo) (h : Cert.Pre_finite_KernelIdeal.fn (F := Ideal) x wq k v wo = fun _ => 1#1) :
    (∀ i, ∃ r : ℝ, x i = (r : EReal)) ∧ (∀ i, ∃ r : ℝ, wq i = (r : EReal)) ∧ (∀ i, ∃ r : ℝ, k i = (r : EReal)) := by
  have h0 := congrFun h ix0
  dsimp only [Cert.Pre_finite_KernelIdeal.fn] at h0
  have : Subsingleton (Cert.Pre_finite_KernelIdeal.S_).Idx := ⟨fun a b => funext fun d => d.elim0⟩
  have hk := Host.reduce_andi_all _ _ _ _ _ (andi_right h0)
  have hx := Host.reduce_andi_all _ _ _ _ _ (andi_left (andi_left h0))
  have hw := Host.reduce_andi_all _ _ _ _ _ (andi_right (andi_left h0))
  exact ⟨fun i => real_of_olt _ (hx i), fun i => real_of_olt _ (hw i), fun i => real_of_olt _ (hk i)⟩

end Cert.PreMath

end
-- ==== Proof.Math.Soft.lean ====
/-
The softmax over the extended reals: it may be taken over any list of columns that holds the unmasked ones once each,
and it may be put together from the partial sums of blocks.
-/
module

public import Idealize.ShloMosaic.Lib.Pointwise

@[expose] public section

noncomputable section

namespace Cert.Soft

open Idealize.ShloMosaic Finset

variable {α β γ : Type} [Fintype α] [Fintype β] [Fintype γ]

/-- The largest score. -/
def top (s : α → EReal) : EReal := univ.fold max ⊥ s
/-- The sum of the exponentials. -/
def tot (s : α → EReal) : EReal := ∑ j, Ideal.exp (s j - top s)
/-- The values `v`, weighted by the softmax of the scores `s`. -/
def soft (s v : α → EReal) : EReal := ∑ j, Ideal.div (Ideal.exp (s j - top s)) (tot s) * v j

theorem top_le {s : α → EReal} {c : EReal} : top s ≤ c ↔ ∀ j, s j ≤ c := by
  simp [top, fold_max_le]

theorem le_top' (s : α → EReal) (j : α) : s j ≤ top s := top_le.mp le_rfl j

theorem exp_nonneg (x : EReal) : 0 ≤ Ideal.exp x := by
  induction x with
  | bot => simp
  | top => exact le_top
  | coe r => simpa using (Real.exp_pos r).le

/-- The largest of scores none of which is infinite upwards and one of which is real, is real. -/
theorem top_real (s : α → EReal) (h : ∀ j, s j ≠ ⊤) (j : α) (hj : s j ≠ ⊥) : ∃ r : ℝ, top s = r := by
  have h1 : top s ≠ ⊤ := by
    refine ne_of_lt ?_
    rw [top, fold_max_lt]
    exact ⟨bot_lt_top, fun x _ => lt_top_iff_ne_top.mpr (h x)⟩
  have h2 : top s ≠ ⊥ := ne_of_gt (lt_of_lt_of_le (bot_lt_iff_ne_bot.mpr hj) (le_top' s j))
  exact ⟨(top s).toReal, (EReal.coe_toReal h1 h2).symm⟩

theorem tot_pos (s : α → EReal) (h : ∀ j, s j ≠ ⊤) (j : α) (hj : s j ≠ ⊥) : 0 < tot s := by
  obtain ⟨r, hr⟩ := top_real s h j hj
  have e : s j = ((s j).toReal : EReal) := (EReal.coe_toReal (h j) hj).symm
  refine lt_of_lt_of_le ?_ (single_le_sum (f := fun j => Ideal.exp (s j - top s)) (fun i _ => exp_nonneg _) (mem_univ j))
  show 0 < Ideal.exp (s j - top s)
  rw [hr, e, ← EReal.coe_sub, Ideal.exp_coe]
  exact_mod_cast Real.exp_pos _

theorem sum_transport (P : α → Prop) (Q : β → Prop) (p : α → β)
    (hinj : ∀ a a', P a → P a' → p a = p a' → a = a') (hP : ∀ a, P a → Q (p a)) (hsurj : ∀ b, Q b → ∃ a, P a ∧ p a = b)
    (f : α → EReal) (g : β → EReal) (he : ∀ a, P a → f a = g (p a)) (hf : ∀ a, ¬ P a → f a = 0) (hg : ∀ b, ¬ Q b → g b = 0) :
    ∑ a, f a = ∑ b, g b := by
  classical
  rw [← sum_filter_of_ne (s := univ) (p := P) (f := f) (fun a _ h => by by_contra h'; exact h (hf a h')),
    ← sum_filter_of_ne (s := univ) (p := Q) (f := g) (fun a _ h => by by_contra h'; exact h (hg a h'))]
  refine sum_bij (fun a _ => p a) ?_ ?_ ?_ ?_
  · intro a ha
    simp only [mem_filter, mem_univ, true_and] at ha ⊢
    exact hP a ha
  · intro a ha a' ha' h
    simp only [mem_filter, mem_univ, true_and] at ha ha'
    exact hinj a a' ha ha' h
  · intro b hb
    simp only [mem_filter, mem_univ, true_and] at hb
    obtain ⟨a, ha, hab⟩ := hsurj b hb
    exact ⟨a, by simpa using ha, hab⟩
  · intro a ha
    simp only [mem_filter, mem_univ, true_and] at ha
    exact he a ha

theorem div_zero_left {y : EReal} (h : 0 < y) : Ideal.div 0 y = 0 := by
  unfold Ideal.div
  rw [if_neg h.ne']
  exact zero_mul _

/-- The softmax over the columns of a window is that over all keys. -/
theorem soft_transport (P : α → Prop) (Q : β → Prop) (p : α → β)
    (hinj : ∀ a a', P a → P a' → p a = p a' → a = a') (hP : ∀ a, P a → Q (p a)) (hsurj : ∀ b, Q b → ∃ a, P a ∧ p a = b)
    (s v : α → EReal) (t w : β → EReal) (hs : ∀ a, P a → s a = t (p a)) (hv : ∀ a, P a → v a = w (p a))
    (hs0 : ∀ a, ¬ P a → s a = ⊥) (ht0 : ∀ b, ¬ Q b → t b = ⊥) (hr : ∀ b, Q b → ∃ r : ℝ, t b = r) (b₀ : β) (hb₀ : Q b₀) :
    soft s v = soft t w := by
  classical
  have et : top s = top t := by
    refine le_antisymm (top_le.mpr fun a => ?_) (top_le.mpr fun b => ?_)
    · by_cases h : P a
      · rw [hs a h]; exact le_top' t _
      · rw [hs0 a h]; exact bot_le
    · by_cases h : Q b
      · obtain ⟨a, ha, rfl⟩ := hsurj b h
        rw [← hs a ha]; exact le_top' s _
      · rw [ht0 b h]; exact bot_le
  have eb : ∀ x : EReal, Ideal.exp (⊥ - x) = 0 := fun x => by rw [EReal.bot_sub]; rfl
  have etot : tot s = tot t := by
    unfold tot
    refine sum_transport P Q p hinj hP hsurj _ _ ?_ ?_ ?_
    · intro a ha; rw [hs a ha, et]
    · intro a ha; rw [hs0 a ha, eb]
    · intro b hb; rw [ht0 b hb, eb]
  have hpos : 0 < tot t := by
    refine tot_pos t (fun b => ?_) b₀ ?_
    · by_cases h : Q b
      · obtain ⟨r, h⟩ := hr b h
        rw [h]; exact EReal.coe_ne_top r
      · rw [ht0 b h]; exact bot_ne_top
    · obtain ⟨r, h⟩ := hr b₀ hb₀
      rw [h]; exact EReal.coe_ne_bot r
  unfold soft
  refine sum_transport P Q p hinj hP hsurj _ _ ?_ ?_ ?_
  · intro a ha; rw [hs a ha, et, etot, hv a ha]
  · intro a ha; rw [hs0 a ha, eb, etot, div_zero_left hpos, zero_mul]
  · intro b hb; rw [ht0 b hb, eb, div_zero_left hpos, zero_mul]

theorem coe_sum (f : α → ℝ) : ((∑ a, f a : ℝ) : EReal) = ∑ a, (f a : EReal) := by
  classical
  refine Finset.induction_on (univ : Finset α) (by simp) ?_
  intro a s ha h
  rw [sum_insert ha, sum_insert ha, EReal.coe_add, h]

/-- A nonnegative real factor goes into a sum. -/
theorem sum_mul_coe (f : α → EReal) {c : ℝ} (hc : 0 ≤ c) : (∑ a, f a) * (c : EReal) = ∑ a, f a * (c : EReal) := by
  classical
  refine Finset.induction_on (univ : Finset α) (by simp) ?_
  intro a s ha h
  rw [sum_insert ha, sum_insert ha, ← h]
  exact EReal.right_distrib_of_nonneg_of_ne_top (by exact_mod_cast hc) (EReal.coe_ne_top c) _ _

/-- The softmax put together from the blocks' maxima, sums and numerators. -/
theorem flash [Nonempty α] [Nonempty β] (e : α × β ≃ γ) (s : γ → EReal) (hs : ∀ j, ∃ r : ℝ, s j = r) (v : γ → EReal)
    (m l : α → EReal) (u : α → EReal) (hm : ∀ a, m a = top fun k => s (e (a, k)))
    (hl : ∀ a, l a = tot fun k => s (e (a, k)))
    (hu : ∀ a, u a = ∑ k, Ideal.exp (s (e (a, k)) - m a) * v (e (a, k))) :
    Ideal.div (∑ a, u a * Ideal.exp (m a - top m)) (∑ a, l a * Ideal.exp (m a - top m)) = soft s v := by
  classical
  choose r hr using hs
  have hst : ∀ j, s j ≠ ⊤ := fun j => by rw [hr]; exact EReal.coe_ne_top _
  have hsb : ∀ j, s j ≠ ⊥ := fun j => by rw [hr]; exact EReal.coe_ne_bot _
  have hmr : ∀ a, ∃ y : ℝ, m a = y := fun a => by
    rw [hm]; exact top_real _ (fun _ => hst _) (Classical.arbitrary β) (hsb _)
  choose n hn using hmr
  have et : top m = top s := by
    refine le_antisymm (top_le.mpr fun a => ?_) (top_le.mpr fun j => ?_)
    · rw [hm]; exact top_le.mpr fun k => le_top' s _
    · obtain ⟨⟨a, k⟩, rfl⟩ := e.surjective j
      refine le_trans ?_ (le_top' m a)
      rw [hm]
      exact le_top' (fun k => s (e (a, k))) k
  let j₀ : γ := e (Classical.arbitrary α, Classical.arbitrary β)
  obtain ⟨N, hN⟩ := top_real s hst j₀ (hsb _)
  have ex : ∀ j, Ideal.exp (s j - top s) = (Real.exp (r j - N) : EReal) := fun j => by
    rw [hN, hr, ← EReal.coe_sub, Ideal.exp_coe]
  have hL : tot s = ((∑ j, Real.exp (r j - N) : ℝ) : EReal) := by
    rw [coe_sum]; exact sum_congr rfl fun j _ => ex j
  have hp : (0 : ℝ) < ∑ j, Real.exp (r j - N) := by
    have := tot_pos s hst j₀ (hsb _)
    rw [hL] at this
    exact_mod_cast this
  have key : ∀ a k, (Real.exp (r (e (a, k)) - n a) : EReal) * (Real.exp (n a - N) : EReal) = (Real.exp (r (e (a, k)) - N) : EReal) := by
    intro a k
    rw [← EReal.coe_mul, ← Real.exp_add, sub_add_sub_cancel]
  have em : ∀ a, Ideal.exp (m a - top m) = (Real.exp (n a - N) : EReal) := fun a => by
    rw [et, hN, hn, ← EReal.coe_sub, Ideal.exp_coe]
  have hnum : ∑ a, u a * Ideal.exp (m a - top m) = ∑ j, (Real.exp (r j - N) : EReal) * v j := by
    rw [← e.sum_comp, Fintype.sum_prod_type]
    refine sum_congr rfl fun a _ => ?_
    rw [hu, em, sum_mul_coe _ (Real.exp_pos _).le]
    refine sum_congr rfl fun k _ => ?_
    rw [hn, hr, ← EReal.coe_sub, Ideal.exp_coe, mul_right_comm, key]
  have hden : ∑ a, l a * Ideal.exp (m a - top m) = ((∑ j, Real.exp (r j - N) : ℝ) : EReal) := by
    rw [coe_sum, ← e.sum_comp, Fintype.sum_prod_type]
    refine sum_congr rfl fun a _ => ?_
    rw [hl, em, tot, sum_mul_coe _ (Real.exp_pos _).le]
    refine sum_congr rfl fun k _ => ?_
    rw [← hm, hn, hr, ← EReal.coe_sub, Ideal.exp_coe, key]
  rw [hnum, hden, Ideal.div_coe hp.ne', sum_mul_coe _ (one_div_pos.mpr hp).le]
  unfold soft
  refine sum_congr rfl fun j _ => ?_
  rw [ex, hL, Ideal.div_coe hp.ne', mul_right_comm]

end Cert.Soft

end
-- ==== Proof.Math.Spec.lean ====
/-
The attention, index by index: what both the reference and the kernel are shown to compute.
-/
module

public import proofs.«01_k».proof.Proof.Math.Soft

@[expose] public section

noncomputable section

namespace Cert.Spec

open Idealize.ShloMosaic Cert.Soft

/-- Row `i` looks at key `j`: within 128 of it, or one of the first 32 tokens is at either end. -/
def near (i j : ℕ) : Prop := (-128 ≤ (i : ℤ) - j ∧ (i : ℤ) - j ≤ 128) ∨ j < 32 ∨ i < 32

instance (i j : ℕ) : Decidable (near i j) := by unfold near; infer_instance

/-- The factor of the scores. -/
def c8 : EReal := Ideal.ofBits .f32 0x3E000000#32

variable (X : Fin 2 → Fin 4096 → Fin 512 → EReal) (Wq : Fin 512 → Fin 256 → EReal)
  (K V : Fin 2 → Fin 4096 → Fin 4 → Fin 64 → EReal) (Wo : Fin 256 → Fin 512 → EReal)

/-- A query. -/
def qry (b : Fin 2) (i : Fin 4096) (h : Fin 4) (d : Fin 64) : EReal := ∑ k, X b i k * Wq k ⟨h * 64 + d, by omega⟩
/-- A score. -/
def scr (b : Fin 2) (h : Fin 4) (i j : Fin 4096) : EReal := (∑ d, qry X Wq b i h d * K b j h d) * c8
/-- A row's scores, masked. -/
def row (b : Fin 2) (h : Fin 4) (i j : Fin 4096) : EReal := if near i j then scr X Wq K b h i j else ⊥
/-- One head's output. -/
def att (b : Fin 2) (i : Fin 4096) (h : Fin 4) (d : Fin 64) : EReal := soft (row X Wq K b h i) fun j => V b j h d
/-- The output. -/
def spec (b : Fin 2) (i : Fin 4096) (n : Fin 512) : EReal :=
  ∑ m : Fin 256, att X Wq K V b i ⟨m / 64, by omega⟩ ⟨m % 64, by omega⟩ * Wo m n

theorem near_self (i : ℕ) : near i i := Or.inl (by omega)

theorem c8_real : ∃ r : ℝ, c8 = r := by
  refine ⟨1 / 8, ?_⟩
  rw [c8]
  simp [Ideal.ofBits, Ideal.ieee, -EReal.coe_mul]; norm_num

theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem real_sum {α : Type} [Fintype α] {f : α → EReal} (h : ∀ a, ∃ r : ℝ, f a = r) : ∃ r : ℝ, ∑ a, f a = r := by
  choose g hg using h
  exact ⟨∑ a, g a, by rw [coe_sum]; exact Finset.sum_congr rfl fun a _ => hg a⟩

/-- Of real arguments the scores are real. -/
theorem scr_real (hX : ∀ b i k, ∃ r : ℝ, X b i k = r) (hW : ∀ k n, ∃ r : ℝ, Wq k n = r) (hK : ∀ b j h d, ∃ r : ℝ, K b j h d = r)
    (b : Fin 2) (h : Fin 4) (i j : Fin 4096) : ∃ r : ℝ, scr X Wq K b h i j = r :=
  real_mul (real_sum fun _ => real_mul (real_sum fun _ => real_mul (hX _ _ _) (hW _ _)) (hK _ _ _ _)) c8_real

end Cert.Spec

end
-- ==== Proof.Math.Words.lean ====
/-
Comparisons and sums of 32-bit words that hold small integers, as those of the integers.
-/
module

public import Idealize.ShloMosaic.Lib.Pointwise
public import Idealize.ShloMosaic.Lib.WordCmp

@[expose] public section

namespace Cert.Words

open Idealize.ShloMosaic

/-- The word of an integer. -/
abbrev W (a : ℤ) : BitVec 32 := BitVec.ofInt 32 a

theorem W_nat (n : ℕ) : BitVec.ofNat 32 n = W n := by
  simp [W]

theorem toInt_W {a : ℤ} (h : -2147483648 ≤ a) (h' : a < 2147483648) : (W a).toInt = a := by
  unfold W
  rw [BitVec.toInt_ofInt]
  exact Int.bmod_eq_of_le (by norm_num; omega) (by norm_num; omega)

theorem subi_W (a b : ℤ) : IntOp.subi (W a) (W b) = W (a - b) := by
  rw [IntOp.subi, BitVec.sub_eq_add_neg, ← BitVec.ofInt_neg, ← BitVec.ofInt_add, ← sub_eq_add_neg]
theorem addi_W (a b : ℤ) : IntOp.addi (W a) (W b) = W (a + b) := by
  simp [IntOp.addi, W, BitVec.ofInt_add]
theorem muli_W (a b : ℤ) : IntOp.muli (W a) (W b) = W (a * b) := by
  simp [IntOp.muli, W, BitVec.ofInt_mul]

theorem slt_W {a b : ℤ} (h : -2147483648 ≤ a) (h' : a < 2147483648) (k : -2147483648 ≤ b) (k' : b < 2147483648) :
    IntOp.cmpi .slt (W a) (W b) = BitVec.ofBool (decide (a < b)) := by
  rw [WordCmp.cmpi_slt_eq, toInt_W h h', toInt_W k k']
theorem sle_W {a b : ℤ} (h : -2147483648 ≤ a) (h' : a < 2147483648) (k : -2147483648 ≤ b) (k' : b < 2147483648) :
    IntOp.cmpi .sle (W a) (W b) = BitVec.ofBool (decide (a ≤ b)) := by
  rw [WordCmp.cmpi_sle_eq, toInt_W h h', toInt_W k k']
theorem sgt_W {a b : ℤ} (h : -2147483648 ≤ a) (h' : a < 2147483648) (k : -2147483648 ≤ b) (k' : b < 2147483648) :
    IntOp.cmpi .sgt (W a) (W b) = BitVec.ofBool (decide (b < a)) := by
  rw [WordCmp.cmpi_sgt_eq, toInt_W h h', toInt_W k k']
theorem sge_W {a b : ℤ} (h : -2147483648 ≤ a) (h' : a < 2147483648) (k : -2147483648 ≤ b) (k' : b < 2147483648) :
    IntOp.cmpi .sge (W a) (W b) = BitVec.ofBool (decide (b ≤ a)) := by
  rw [WordCmp.cmpi_sge_eq, toInt_W h h', toInt_W k k']

theorem absi_W {a : ℤ} (h : -2147483648 < a) (h' : a < 2147483648) : IntOp.absi (W a) = W |a| := by
  unfold IntOp.absi
  have e : (W a).msb = decide (a < 0) := by
    rw [BitVec.msb_eq_toInt, toInt_W h.le h']
  rw [e]
  by_cases n : a < 0
  · rw [decide_eq_true n, if_pos rfl, abs_of_neg n, W, W, BitVec.ofInt_neg]
  · rw [decide_eq_false n, if_neg (by decide), abs_of_nonneg (not_lt.mp n)]

/-- A word chosen by a decided bit. -/
theorem select_ofBool {α : Type} (p : Prop) [Decidable p] (x y : α) :
    Scalar.select (BitVec.ofBool (decide p)) x y = if p then x else y := by
  by_cases h : p
  · rw [decide_eq_true h, if_pos h]; rfl
  · rw [decide_eq_false h, if_neg h]; rfl

theorem abs_le_128 (a : ℤ) : |a| ≤ 128 ↔ -128 ≤ a ∧ a ≤ 128 := abs_le

end Cert.Words
-- ==== Proof.Math.Win.lean ====
/-
What the kernel's window computes at an index.
-/
module

public import proofs.«01_k».proof.Proof.KernelIdeal.Comm
public import proofs.«01_k».proof.Proof.KernelIdeal.Contents
public import proofs.«01_k».proof.Proof.Math.Spec
public import proofs.«01_k».proof.Proof.Math.Words
public import Idealize.ShloMosaic.Lib.Pointwise

@[expose] public section

set_option maxRecDepth 8192

noncomputable section

namespace Cert.WinMath

open Cert.KernelIdeal Cert.KernelIdeal.Gen Cert.KernelIdealProof Idealize.ShloMosaic Idealize.ShloMosaic.TcCoe
open Cert.Soft Cert.Spec Cert.Words

/-- The four blocks of a window's columns side by side. -/
def cat (a o c : Fin 128 → EReal) (g : Fin 32 → EReal) (k : Fin 416) : EReal :=
  if h : k.val < 128 then a ⟨k, h⟩ else if h1 : k.val - 128 < 128 then o ⟨k - 128, h1⟩
  else if h2 : k.val - 128 - 128 < 128 then c ⟨k - 128 - 128, h2⟩ else g ⟨k - 128 - 128 - 128, by omega⟩

/-- The four heads' columns side by side. -/
def heads (h0 h1 h2 h3 : Fin 64 → EReal) (m : Fin 256) : EReal :=
  if h : m.val < 64 then h0 ⟨m, h⟩ else if k1 : m.val - 64 < 64 then h1 ⟨m - 64, k1⟩
  else if k2 : m.val - 64 - 64 < 64 then h2 ⟨m - 64 - 64, k2⟩ else h3 ⟨m - 64 - 64 - 64, by omega⟩

theorem heads_eq (A : Fin 4 → Fin 64 → EReal) (m : Fin 256) :
    heads (A 0) (A 1) (A 2) (A 3) m = A ⟨m / 64, by omega⟩ ⟨m % 64, by omega⟩ := by
  obtain ⟨m, hm⟩ := m
  unfold heads
  dsimp only
  split_ifs with h h1 h2
  · exact congrArg₂ A (Fin.ext (by show 0 = m / 64; omega)) (Fin.ext (by show m = m % 64; omega))
  · exact congrArg₂ A (Fin.ext (by show 1 = m / 64; omega)) (Fin.ext (by show m - 64 = m % 64; omega))
  · exact congrArg₂ A (Fin.ext (by show 2 = m / 64; omega)) (Fin.ext (by show m - 64 - 64 = m % 64; omega))
  · exact congrArg₂ A (Fin.ext (by show 3 = m / 64; omega)) (Fin.ext (by show m - 64 - 64 - 64 = m % 64; omega))

section Queries
variable (x : Vec Ideal S2x128x512 .f32) (wq : Vec Ideal S512x256 .f32) (b : ℕ) (r : Fin 128) (d : Fin 64)

theorem q0_apply : k0_pay43 (ldX x b) wq (ix2 r d) = ∑ k, x (ix3 (Fin.ofNat 2 b) r k) * wq (ix2 k ⟨(0 : Fin 4) * 64 + d, by have := d.isLt; show 0 * 64 + d.val < 256; omega⟩) := by
  pointwise [k0_pay43, k0_pay42, ldX]
theorem q1_apply : k0_pay44 (ldX x b) wq (ix2 r d) = ∑ k, x (ix3 (Fin.ofNat 2 b) r k) * wq (ix2 k ⟨(1 : Fin 4) * 64 + d, by have := d.isLt; show 1 * 64 + d.val < 256; omega⟩) := by
  pointwise [k0_pay44, k0_pay42, ldX]
theorem q2_apply : k0_pay45 (ldX x b) wq (ix2 r d) = ∑ k, x (ix3 (Fin.ofNat 2 b) r k) * wq (ix2 k ⟨(2 : Fin 4) * 64 + d, by have := d.isLt; show 2 * 64 + d.val < 256; omega⟩) := by
  pointwise [k0_pay45, k0_pay42, ldX]
theorem q3_apply : k0_pay46 (ldX x b) wq (ix2 r d) = ∑ k, x (ix3 (Fin.ofNat 2 b) r k) * wq (ix2 k ⟨(3 : Fin 4) * 64 + d, by have := d.isLt; show 3 * 64 + d.val < 256; omega⟩) := by
  pointwise [k0_pay46, k0_pay42, ldX]
end Queries

theorem neg_inf : Ideal.ofBits .f32 0xFF800000#32 = ⊥ := by
  simp [Ideal.ofBits, Ideal.ieee]

theorem mask_const : (Named.named κ "mask" 0xCE6E6B28#32 : Ideal .f32) = ⊥ := rfl

theorem p58_apply (a) (k : Fin 128) (d : Fin 64) : k0_pay58 (F := Ideal) a (ix2 k d) = a (ix6 (0 : Fin 1) (0 : Fin 1) (0 : Fin 1) (0 : Fin 1) k d) := by
  pointwise [k0_pay58]
theorem p59_apply (a o c g) (k : Fin 416) (d : Fin 64) :
    k0_pay59 (F := Ideal) a o c g (ix2 k d) = cat (fun i => a (ix6 (0 : Fin 1) (0 : Fin 1) (0 : Fin 1) (0 : Fin 1) i d)) (fun i => o (ix5 (0 : Fin 1) (0 : Fin 1) (0 : Fin 1) i d))
      (fun i => c (ix6 (0 : Fin 1) (0 : Fin 1) (0 : Fin 1) (0 : Fin 1) i d)) (fun i => g (ix5 (0 : Fin 1) (0 : Fin 1) (0 : Fin 1) i d)) k := by
  pointwise [k0_pay59]
  rfl
theorem p60_apply (q m a o c g) (r : Fin 128) (k : Fin 416) :
    k0_pay60 (F := Ideal) q m a o c g (ix2 r k) = Scalar.select (m (ix2 r k)) ((∑ d, q (ix2 r d) *
      cat (fun i => a (ix2 i d)) (fun i => o (ix5 (0 : Fin 1) (0 : Fin 1) (0 : Fin 1) i d))
      (fun i => c (ix6 (0 : Fin 1) (0 : Fin 1) (0 : Fin 1) (0 : Fin 1) i d)) (fun i => g (ix5 (0 : Fin 1) (0 : Fin 1) (0 : Fin 1) i d)) k) * c8) ⊥ := by
  rw [← mask_const]
  pointwise [k0_pay60]
  rfl
theorem p61_apply (q m a o c g) (r : Fin 128) :
    k0_pay61 (F := Ideal) q m a o c g (ix1 r) = top fun k => k0_pay60 (F := Ideal) q m a o c g (ix2 r k) := by
  pointwise [k0_pay61]
  rw [neg_inf]
  rfl
theorem p62_apply (v s m) (r : Fin 128) (d : Fin 64) :
    k0_pay62 (F := Ideal) v s m (ix2 r d) = ∑ k, Ideal.div (Ideal.exp (s (ix2 r k) - m (ix1 r))) (∑ k, Ideal.exp (s (ix2 r k) - m (ix1 r))) * v (ix2 k d) := by
  pointwise [k0_pay62]

/-- One head of the window at an index, for any query. -/
theorem headW_apply (q : FVec Ideal S128x64 .f32) (mask nb st g) (b h : ℕ) (r : Fin 128) (d : Fin 64) :
    headW q mask nb st g b h (ix2 r d)
      = soft (fun k => Scalar.select (mask (ix2 r k)) ((∑ e, q (ix2 r e) *
          cat (fun i => nb (ix6 (0 : Fin 2) (0 : Fin 2) (Fin.ofNat 2 b) (Fin.ofNat 4 h) i e)) (fun i => st (ix5 (0 : Fin 2) (Fin.ofNat 2 b) (Fin.ofNat 4 h) i e))
            (fun i => nb (ix6 (1 : Fin 2) (0 : Fin 2) (Fin.ofNat 2 b) (Fin.ofNat 4 h) i e)) (fun i => g (ix5 (0 : Fin 2) (Fin.ofNat 2 b) (Fin.ofNat 4 h) i e)) k) * c8) ⊥)
        (fun k => cat (fun i => nb (ix6 (0 : Fin 2) (1 : Fin 2) (Fin.ofNat 2 b) (Fin.ofNat 4 h) i d)) (fun i => st (ix5 (1 : Fin 2) (Fin.ofNat 2 b) (Fin.ofNat 4 h) i d))
            (fun i => nb (ix6 (1 : Fin 2) (1 : Fin 2) (Fin.ofNat 2 b) (Fin.ofNat 4 h) i d)) (fun i => g (ix5 (1 : Fin 2) (Fin.ofNat 2 b) (Fin.ofNat 4 h) i d)) k) := by
  unfold headW
  rw [p62_apply]
  simp only [p61_apply, p60_apply, p59_apply, p58_apply]
  rfl

/-- The output weights' product at an index. -/
theorem projW_apply (h0 h1 h2 h3 wo) (r : Fin 128) (n : Fin 512) :
    projW (F := Ideal) h0 h1 h2 h3 wo (ix3 (0 : Fin 1) r n)
      = ∑ m, heads (fun d => h0 (ix2 r d)) (fun d => h1 (ix2 r d)) (fun d => h2 (ix2 r d)) (fun d => h3 (ix2 r d)) m * wo (ix2 m n) := by
  pointwise [projW]
  rfl

/-! ## The mask -/

/-- The key of a column. -/
def kj (c k : ℕ) : ℤ := if k < 384 then ((c : ℤ) - 1) * 128 + k else (k : ℤ) - 384

/-- Whether a row looks at a column. -/
def win (c r k : ℕ) : Prop :=
  (((128 ≤ k ∨ 0 < c) ∧ (¬(256 ≤ k ∧ k < 384) ∨ c < 31)) ∧ (k < 384 ∨ 2 ≤ c))
    ∧ ((-128 ≤ (c : ℤ) * 128 + r - kj c k ∧ (c : ℤ) * 128 + r - kj c k ≤ 128) ∨ kj c k < 32)

instance (c r k : ℕ) : Decidable (win c r k) := by unfold win; infer_instance

theorem xori_one (p : Bool) : IntOp.xori (BitVec.ofBool p) 1#1 = BitVec.ofBool (!p) := by cases p <;> decide

theorem kj_word (c k : ℕ) (hk : k < 416) :
    Scalar.select (IntOp.cmpi .slt (BitVec.ofNat 32 k) 384#32)
      (IntOp.addi (Scalar.muli (Scalar.subi (W c) 1#32) 128#32) (BitVec.ofNat 32 k)) (IntOp.subi (BitVec.ofNat 32 k) 384#32) = W (kj c k) := by
  rw [W_nat k, show (384#32) = W 384 from rfl, show (1#32) = W 1 from rfl, show (128#32) = W 128 from rfl, Scalar.muli, Scalar.subi,
    subi_W, subi_W, muli_W, addi_W, slt_W (by omega) (by omega) (by decide) (by decide), select_ofBool, kj]
  by_cases h : k < 384
  · rw [if_pos h, if_pos (by omega)]
  · rw [if_neg h, if_neg (by omega)]

theorem mask_apply (c : ℕ) (hc : c < 32) (r : Fin 128) (k : Fin 416) :
    maskW (W c) (ix2 r k) = BitVec.ofBool (decide (win c r k)) := by
  pointwise [maskW, k0_pay57, k0_pay54, k0_pay55, k0_pay56]
  have hr := r.isLt
  have hk := k.isLt
  have hj : -128 ≤ kj c k ∧ kj c k < 4224 := by unfold kj; split_ifs <;> omega
  rw [kj_word c k k.isLt, W_nat k, W_nat r, show (128#32) = W 128 from rfl, show (256#32) = W 256 from rfl, show (384#32) = W 384 from rfl,
    show (0#32) = W 0 from rfl, show (31#32) = W 31 from rfl, show (2#32) = W 2 from rfl, show (32#32) = W 32 from rfl, Scalar.muli, muli_W, addi_W, subi_W,
    absi_W (by omega) (by omega), sle_W (by have := abs_nonneg ((c : ℤ) * 128 + r - kj c k); omega)
      (by have := abs_lt.mpr (show -9000 < (c : ℤ) * 128 + r - kj c k ∧ (c : ℤ) * 128 + r - kj c k < 9000 by omega); omega) (by decide) (by decide),
    slt_W (a := kj c k) (by omega) (by omega) (by decide) (by decide), slt_W (a := (k : ℤ)) (by omega) (by omega) (by decide) (by decide),
    sge_W (a := (k : ℤ)) (b := 128) (by omega) (by omega) (by decide) (by decide), sge_W (a := (k : ℤ)) (b := 256) (by omega) (by omega) (by decide) (by decide),
    sge_W (a := (c : ℤ)) (by omega) (by omega) (by decide) (by decide), sgt_W (a := (c : ℤ)) (by omega) (by omega) (by decide) (by decide),
    slt_W (a := (c : ℤ)) (by omega) (by omega) (by decide) (by decide)]
  simp only [WordCmp.ori_ofBool, WordCmp.andi_ofBool, xori_one, ← Bool.decide_or, ← Bool.decide_and, ← decide_not]
  refine congrArg BitVec.ofBool (decide_eq_decide.mpr ?_)
  unfold win
  rw [abs_le_128]
  omega

theorem dw_eq (c : Dev nD) : dw c = W c.val := by
  have : ∀ c : Fin 32, (Scalar.remsi (Scalar.divsi (BitVec.ofNat 32 c.val) 1#32) 32#32) = W c.val := by decide
  exact this c

end Cert.WinMath

end
-- ==== Proof.Math.WinSpec.lean ====
/-
The window's output rows are the attention's.
-/
module

public import proofs.«01_k».proof.Proof.Math.Win

@[expose] public section

set_option maxRecDepth 8192

noncomputable section

namespace Cert.WinMath

open Cert.KernelIdeal Cert.KernelIdeal.Gen Cert.KernelIdealProof Idealize.ShloMosaic Idealize.ShloMosaic.TcCoe
open Cert.Soft Cert.Spec Cert.Words

/-- A row of device `c`, among all rows. -/
def gi (c : Dev nD) (r : Fin 128) : Fin 4096 := ⟨c.val * 128 + r, by have : c.val < 32 := c.isLt; omega⟩

/-- A column that a row looks at holds the key of the column's number. -/
theorem cat_eq (f : Fin 4096 → EReal) (c : ℕ) (a o n : Fin 128 → EReal) (g : Fin 32 → EReal)
    (ha : ∀ (i : Fin 128) (j : Fin 4096), (j : ℤ) = ((c : ℤ) - 1) * 128 + i → a i = f j)
    (ho : ∀ (i : Fin 128) (j : Fin 4096), (j : ℤ) = (c : ℤ) * 128 + i → o i = f j)
    (hn : ∀ (i : Fin 128) (j : Fin 4096), (j : ℤ) = ((c : ℤ) + 1) * 128 + i → n i = f j)
    (hg : ∀ (i : Fin 32) (j : Fin 4096), (j : ℤ) = i → g i = f j)
    (k : Fin 416) (j : Fin 4096) (hj : (j : ℤ) = kj c k) : cat a o n g k = f j := by
  obtain ⟨k, hk⟩ := k
  simp only [kj] at hj
  unfold cat
  dsimp only
  split_ifs at hj ⊢ with h1 h2 h3 h4 <;> first | omega | skip
  · exact ha _ _ (by simp only []; omega)
  · exact ho _ _ (by simp only []; omega)
  · exact hn _ _ (by simp only []; omega)
  · exact hg _ _ (by simp only []; omega)

/-- The key of a column, as an index. -/
def pos (c : ℕ) (k : Fin 416) : Fin 4096 := Fin.ofNat 4096 (kj c k).toNat

theorem pos_val (c : ℕ) (hc : c < 32) (r : Fin 128) (k : Fin 416) (h : win c r k) : ((pos c k : Fin 4096) : ℤ) = kj c k := by
  have hk := k.isLt
  have : 0 ≤ kj c k ∧ kj c k < 4096 := by
    unfold win kj at h
    unfold kj
    split_ifs at h ⊢ <;> omega
  show (((kj c k).toNat % 4096 : ℕ) : ℤ) = kj c k
  omega

variable (X : Fin 2 → Fin 4096 → Fin 512 → EReal) (Wq : Fin 512 → Fin 256 → EReal)
  (KV : Fin 2 → Fin 2 → Fin 4096 → Fin 4 → Fin 64 → EReal) (Wo : Fin 256 → Fin 512 → EReal)

/-- What the window of device `c` holds of the keys (`s = 0`) and values (`s = 1`). -/
structure Holds (c : Dev nD) (nb : Vec Ideal S2x2x2x4x128x64 .f32) (st : Vec Ideal S2x2x4x128x64 .f32) (g : Vec Ideal S2x2x4x32x64 .f32) : Prop where
  left : ∀ (s b : Fin 2) (h : Fin 4) (d : Fin 64) (i : Fin 128) (j : Fin 4096), (j : ℤ) = ((c.val : ℤ) - 1) * 128 + i →
    nb (ix6 (0 : Fin 2) s b h i d) = KV s b j h d
  own : ∀ (s b : Fin 2) (h : Fin 4) (d : Fin 64) (i : Fin 128) (j : Fin 4096), (j : ℤ) = (c.val : ℤ) * 128 + i →
    st (ix5 s b h i d) = KV s b j h d
  right : ∀ (s b : Fin 2) (h : Fin 4) (d : Fin 64) (i : Fin 128) (j : Fin 4096), (j : ℤ) = ((c.val : ℤ) + 1) * 128 + i →
    nb (ix6 (1 : Fin 2) s b h i d) = KV s b j h d
  glob : ∀ (s b : Fin 2) (h : Fin 4) (d : Fin 64) (i : Fin 32) (j : Fin 4096), (j : ℤ) = i → g (ix5 s b h i d) = KV s b j h d

/-- One head of the window's rows, but for the first 32 of device 0. -/
theorem head_eq (hs : ∀ b h i j, ∃ y : ℝ, scr X Wq (KV 0) b h i j = y) (c : Dev nD) (nb st g) (H : Holds KV c nb st g)
    (q : FVec Ideal S128x64 .f32) (b h : ℕ) (r : Fin 128) (hr : 32 ≤ c.val * 128 + r.val)
    (hq : ∀ e, q (ix2 r e) = qry X Wq (Fin.ofNat 2 b) (gi c r) (Fin.ofNat 4 h) e) (d : Fin 64) :
    headW q (maskW (W c.val)) nb st g b h (ix2 r d) = att X Wq (KV 0) (KV 1) (Fin.ofNat 2 b) (gi c r) (Fin.ofNat 4 h) d := by
  have hc : c.val < 32 := c.isLt
  have hrr := r.isLt
  rw [headW_apply]
  unfold att
  have hcat : ∀ (s : Fin 2) (e : Fin 64) (k : Fin 416), win c.val r k →
      cat (fun i => nb (ix6 (0 : Fin 2) s (Fin.ofNat 2 b) (Fin.ofNat 4 h) i e)) (fun i => st (ix5 s (Fin.ofNat 2 b) (Fin.ofNat 4 h) i e))
        (fun i => nb (ix6 (1 : Fin 2) s (Fin.ofNat 2 b) (Fin.ofNat 4 h) i e)) (fun i => g (ix5 s (Fin.ofNat 2 b) (Fin.ofNat 4 h) i e)) k
        = KV s (Fin.ofNat 2 b) (pos c.val k) (Fin.ofNat 4 h) e := fun s e k w =>
    cat_eq (fun j => KV s (Fin.ofNat 2 b) j (Fin.ofNat 4 h) e) c.val _ _ _ _ (H.left s _ _ e) (H.own s _ _ e) (H.right s _ _ e) (H.glob s _ _ e) k _
      (pos_val c.val hc r k w)
  refine soft_transport (fun k : Fin 416 => win c.val r k) (fun j : Fin 4096 => near (gi c r) j) (pos c.val) ?_ ?_ ?_ _ _ _ _ ?_ ?_ ?_ ?_ ?_ (gi c r) (near_self _)
  · intro k k' w w' e
    have e1 := pos_val c.val hc r k w
    have e2 := pos_val c.val hc r k' w'
    rw [e] at e1
    have e3 : kj c.val k = kj c.val k' := e1.symm.trans e2
    have hk := k.isLt
    have hk' := k'.isLt
    unfold win at w w'
    unfold kj at e3
    refine Fin.ext ?_
    split_ifs at e3 <;> omega
  · intro k w
    have e1 := pos_val c.val hc r k w
    unfold win at w
    unfold near gi
    dsimp only
    rw [← e1] at w
    omega
  · intro j w
    have hj := j.isLt
    have hk : ∃ k : Fin 416, win c.val r k ∧ kj c.val k = j := by
      unfold near gi at w
      dsimp only at w
      by_cases hw : (c.val : ℤ) * 128 - 128 ≤ j ∧ (j : ℤ) < (c.val : ℤ) * 128 + 256
      · have e : kj c.val (((j : ℤ) - ((c.val : ℤ) * 128 - 128)).toNat) = j := by unfold kj; split_ifs <;> omega
        refine ⟨⟨((j : ℤ) - ((c.val : ℤ) * 128 - 128)).toNat, by omega⟩, ?_, e⟩
        unfold win
        dsimp only
        rw [e]
        omega
      · have e : kj c.val (384 + j.val) = j := by unfold kj; split_ifs <;> omega
        refine ⟨⟨384 + j.val, by omega⟩, ?_, e⟩
        unfold win
        dsimp only
        rw [e]
        omega
    obtain ⟨k, w', e⟩ := hk
    refine ⟨k, w', Fin.ext ?_⟩
    have := pos_val c.val hc r k w'
    omega
  · intro k w
    rw [mask_apply c.val hc, decide_eq_true w]
    have hn : near (gi c r) (pos c.val k) := by
      have e1 := pos_val c.val hc r k w
      unfold win at w
      unfold near gi
      dsimp only
      rw [← e1] at w
      omega
    rw [row, if_pos hn, scr]
    refine congrArg (· * c8) (Finset.sum_congr rfl fun e _ => ?_)
    rw [hq, hcat 0 e k w]
  · intro k w
    exact hcat 1 d k w
  · intro k w
    rw [mask_apply c.val hc, decide_eq_false w]
    rfl
  · intro j w
    rw [row, if_neg w]
  · intro j w
    rw [row, if_pos w]
    exact hs _ _ _ _

/-- The window's output rows, but for the first 32 of device 0. -/
theorem outW_eq (hs : ∀ b h i j, ∃ y : ℝ, scr X Wq (KV 0) b h i j = y) (c : Dev nD) (nb st g) (H : Holds KV c nb st g)
    (x : Vec Ideal S2x128x512 .f32) (wq : Vec Ideal S512x256 .f32) (wo : Vec Ideal S256x512 .f32)
    (hx : ∀ b r k, x (ix3 b r k) = X b (gi c r) k) (hwq : ∀ k n, wq (ix2 k n) = Wq k n) (hwo : ∀ m n, wo (ix2 m n) = Wo m n)
    (b : Fin 2) (r : Fin 128) (hr : 32 ≤ c.val * 128 + r.val) (n : Fin 512) :
    outW (dw c) x wq wo nb st g (ix3 b r n) = spec X Wq (KV 0) (KV 1) Wo b (gi c r) n := by
  have hb : Fin.ofNat 2 b.val = b := Fin.ext (Nat.mod_eq_of_lt b.isLt)
  show outB (dw c) x wq wo nb st g b.val (ix3 (0 : Fin 1) r n) = _
  unfold outB
  rw [projW_apply, dw_eq]
  unfold spec
  refine Finset.sum_congr rfl fun m _ => ?_
  rw [hwo]
  refine congrArg (· * _) ?_
  rw [← heads_eq (fun h d => att X Wq (KV 0) (KV 1) b (gi c r) h d) m]
  have e := fun q h hq => funext (head_eq X Wq KV hs c nb st g H q b.val h r hr hq)
  rw [hb] at e
  rw [e _ 0 ?_, e _ 1 ?_, e _ 2 ?_, e _ 3 ?_]
  · rfl
  all_goals
    intro d
    first | rw [q0_apply] | rw [q1_apply] | rw [q2_apply] | rw [q3_apply]
    unfold qry
    refine Finset.sum_congr rfl fun k _ => ?_
    rw [hb, hx, hwq]
    rfl

end Cert.WinMath

end
-- ==== Proof.Math.Comb.lean ====
/-
The kernel's partial sums, combined, are the attention of the first 32 rows.
-/
module

public import proofs.«01_k».proof.Proof.Math.WinSpec

@[expose] public section

set_option maxRecDepth 8192

noncomputable section

namespace Cert.WinMath

open Cert.KernelIdeal Cert.KernelIdeal.Gen Cert.KernelIdealProof Idealize.ShloMosaic Idealize.ShloMosaic.TcCoe
open Cert.Soft Cert.Spec Cert.Words

theorem p1_apply (x : Vec Ideal S1x32x512 .f32) (wq : Vec Ideal S512x256 .f32) (h : Fin 4) (r : Fin 32) (d : Fin 64) :
    k0_pay1 x wq (ix4 (0 : Fin 1) h r d) = ∑ k, x (ix3 (0 : Fin 1) r k) * wq (ix2 k ⟨h * 64 + d, by omega⟩) := by
  pointwise [k0_pay1]
  split_ifs with h1 h2 h3
  all_goals
    refine Finset.sum_congr rfl fun k _ => congrArg (fun z => _ * wq (ix2 k z)) (Fin.ext ?_)
    dsimp only
    omega

/-- A block's scores. -/
def blk (q : Vec Ideal S1x1x32x64 .f32) (k : Vec Ideal S1x1x1x128x64 .f32) (r : Fin 32) (j : Fin 128) : EReal :=
  (∑ d, q (ix4 (0 : Fin 1) (0 : Fin 1) r d) * k (ix5 (0 : Fin 1) (0 : Fin 1) (0 : Fin 1) j d)) * c8

theorem p24_apply (q k v) (r : Fin 33) (d : Fin 64) :
    k0_pay24 (F := Ideal) q k v (ix4 (0 : Fin 1) (0 : Fin 1) r d)
      = if h : r.val < 32 then ∑ j, Ideal.exp (blk q k ⟨r, h⟩ j - top (blk q k ⟨r, h⟩)) * v (ix5 (0 : Fin 1) (0 : Fin 1) (0 : Fin 1) j d)
        else if h' : d.val < 32 then top (blk q k ⟨d, h'⟩) else tot (blk q k ⟨d - 32, by omega⟩) := by
  pointwise [k0_pay24]
  rw [neg_inf]
  rfl

/-- The combination of partial sums. -/
def cmb (u m l : Fin 32 → EReal) : EReal :=
  Ideal.div (∑ a, u a * Ideal.exp (m a - top m)) (∑ a, l a * Ideal.exp (m a - top m))

theorem p8_apply (u ml) (r : Fin 32) (d : Fin 64) : k0_pay8 (F := Ideal) u ml (ix2 r d)
    = cmb (fun a => u (ix5 a (0 : Fin 1) (0 : Fin 1) r d)) (fun a => ml (ix5 a (0 : Fin 1) (0 : Fin 1) (0 : Fin 1) ⟨r, by omega⟩))
        (fun a => ml (ix5 a (0 : Fin 1) (0 : Fin 1) (0 : Fin 1) ⟨32 + r, by omega⟩)) := by
  pointwise [k0_pay8]
  rw [neg_inf]
  rfl

theorem p9_apply (a b c u ml wo) (r : Fin 32) (n : Fin 512) : k0_pay9 (F := Ideal) a b c u ml wo (ix3 (0 : Fin 1) r n)
    = ∑ m, heads (fun d => a (ix2 r d)) (fun d => b (ix2 r d)) (fun d => c (ix2 r d)) (fun d => k0_pay8 u ml (ix2 r d)) m * wo (ix2 m n) := by
  simp only [p8_apply]
  pointwise [k0_pay9]
  rw [neg_inf]
  rfl

variable (X : Fin 2 → Fin 4096 → Fin 512 → EReal) (Wq : Fin 512 → Fin 256 → EReal)
  (KV : Fin 2 → Fin 2 → Fin 4096 → Fin 4 → Fin 64 → EReal) (Wo : Fin 256 → Fin 512 → EReal)

/-- The keys, by device and by row of the device. -/
def byDev : Fin 32 × Fin 128 ≃ Fin 4096 := finProdFinEquiv

theorem byDev_eq (a : Fin 32) (k : Fin 128) : byDev (a, k) = gi a k := by
  refine Fin.ext ?_
  show k.val + 128 * a.val = a.val * 128 + k.val
  omega

/-- A row of the first 32. -/
abbrev gr (r : Fin 32) : Fin 4096 := gi 0 (Fin.castLE (by decide) r)

/-- One head of the combined rows. -/
theorem comb_head (hs : ∀ b h i j, ∃ y : ℝ, scr X Wq (KV 0) b h i j = y) (st : Dev nD → Vec Ideal S2x2x4x128x64 .f32)
    (hst : ∀ a s b h i d, st a (ix5 s b h i d) = KV s b (gi a i) h d)
    (x : Vec Ideal S2x128x512 .f32) (wq : Vec Ideal S512x256 .f32) (hx : ∀ b r k, x (ix3 b r k) = X b (gi 0 r) k) (hwq : ∀ k n, wq (ix2 k n) = Wq k n)
    (b h : ℕ) (r : Fin 32) (d : Fin 64) :
    k0_pay8 (ldU (pbG fun a => psG (bqG x wq) (st a)) b h) (ldML (pbG fun a => psG (bqG x wq) (st a)) b h) (ix2 r d)
      = att X Wq (KV 0) (KV 1) (Fin.ofNat 2 b) (gr r) (Fin.ofNat 4 h) d := by
  have hrow : row X Wq (KV 0) (Fin.ofNat 2 b) (Fin.ofNat 4 h) (gr r) = scr X Wq (KV 0) (Fin.ofNat 2 b) (Fin.ofNat 4 h) (gr r) := by
    funext j
    rw [row, if_pos]
    refine Or.inr (Or.inr ?_)
    have := r.isLt
    show 0 * 128 + r.val < 32
    omega
  have hbb : ∀ n : ℕ, Fin.ofNat 2 (Fin.ofNat 2 n).val = Fin.ofNat 2 n := fun n => Fin.ext (Nat.mod_mod n 2)
  have hhh : ∀ n : ℕ, Fin.ofNat 4 (Fin.ofNat 4 n).val = Fin.ofNat 4 n := fun n => Fin.ext (Nat.mod_mod n 4)
  let Q := ldQ (bqG x wq) (Fin.ofNat 2 b : Fin 2).val (Fin.ofNat 4 h : Fin 4).val
  let KK := fun a => ldS (st a) 0 (Fin.ofNat 2 b : Fin 2).val (Fin.ofNat 4 h : Fin 4).val
  let VV := fun a => ldS (st a) 1 (Fin.ofNat 2 b : Fin 2).val (Fin.ofNat 4 h : Fin 4).val
  have hQ : ∀ (r : Fin 32) e, Q (ix4 (0 : Fin 1) (0 : Fin 1) r e) = qry X Wq (Fin.ofNat 2 b) (gr r) (Fin.ofNat 4 h) e := by
    intro r e
    show k0_pay1 (ldX32 x (Fin.ofNat 2 (Fin.ofNat 2 b : Fin 2).val : Fin 2).val) wq (ix4 (0 : Fin 1) (Fin.ofNat 4 (Fin.ofNat 4 h : Fin 4).val) r e) = _
    rw [hbb, hhh, p1_apply]
    unfold qry
    refine Finset.sum_congr rfl fun k _ => ?_
    rw [hwq]
    refine congrArg (· * _) ?_
    show x (ix3 (Fin.ofNat 2 (Fin.ofNat 2 b : Fin 2).val) (Fin.castLE _ r) k) = _
    rw [hbb, hx]
  have hblk : ∀ a, blk Q (KK a) r = fun k => scr X Wq (KV 0) (Fin.ofNat 2 b) (Fin.ofNat 4 h) (gr r) (byDev (a, k)) := by
    intro a
    funext k
    unfold blk scr
    refine congrArg (· * c8) (Finset.sum_congr rfl fun e _ => ?_)
    rw [hQ, byDev_eq]
    refine congrArg (_ * ·) ?_
    show st a (ix5 (Fin.ofNat 2 0) (Fin.ofNat 2 (Fin.ofNat 2 b : Fin 2).val) (Fin.ofNat 4 (Fin.ofNat 4 h : Fin 4).val) k e) = _
    rw [hbb, hhh, hst]
    rfl
  rw [p8_apply]
  unfold att cmb
  rw [hrow]
  refine flash byDev _ (fun j => hs _ _ _ j) _ _ _ _ ?_ ?_ ?_
  · intro a
    refine Eq.trans (p24_apply Q (KK a) (VV a) 32 ⟨r, by omega⟩) ?_
    rw [dif_neg (by decide), dif_pos r.isLt]
    exact congrArg top (hblk a)
  · intro a
    refine Eq.trans (p24_apply Q (KK a) (VV a) 32 ⟨32 + r, by omega⟩) ?_
    rw [dif_neg (by decide), dif_neg (by simp)]
    refine Eq.trans (congrArg (fun z => tot (blk Q (KK a) z)) (Fin.ext ?_)) (congrArg tot (hblk a))
    show 32 + r.val - 32 = r.val
    omega
  · intro a
    refine Eq.trans (p24_apply Q (KK a) (VV a) (Fin.castLE (by decide) r) d) ?_
    have hm := p24_apply Q (KK a) (VV a) 32 ⟨r, by omega⟩
    rw [dif_neg (by decide), dif_pos r.isLt] at hm
    rw [dif_pos (show (Fin.castLE (show 32 ≤ 33 by decide) r).val < 32 from r.isLt)]
    refine Finset.sum_congr rfl fun k _ => ?_
    refine congrArg₂ (· * ·) (congrArg Ideal.exp (congrArg₂ (· - ·) (congrFun (hblk a) k) hm.symm)) ?_
    show st a (ix5 (Fin.ofNat 2 1) (Fin.ofNat 2 (Fin.ofNat 2 b : Fin 2).val) (Fin.ofNat 4 (Fin.ofNat 4 h : Fin 4).val) k d) = _
    rw [hbb, hhh, hst, byDev_eq]
    rfl

/-- The combined rows. -/
theorem comb_eq (hs : ∀ b h i j, ∃ y : ℝ, scr X Wq (KV 0) b h i j = y) (st : Dev nD → Vec Ideal S2x2x4x128x64 .f32)
    (hst : ∀ a s b h i d, st a (ix5 s b h i d) = KV s b (gi a i) h d)
    (x : Vec Ideal S2x128x512 .f32) (wq : Vec Ideal S512x256 .f32) (wo : Vec Ideal S256x512 .f32)
    (hx : ∀ b r k, x (ix3 b r k) = X b (gi 0 r) k) (hwq : ∀ k n, wq (ix2 k n) = Wq k n) (hwo : ∀ m n, wo (ix2 m n) = Wo m n)
    (b : Fin 2) (r : Fin 32) (n : Fin 512) :
    combB (pbG fun a => psG (bqG x wq) (st a)) wo b.val (ix3 (0 : Fin 1) r n) = spec X Wq (KV 0) (KV 1) Wo b (gr r) n := by
  have hb : Fin.ofNat 2 b.val = b := Fin.ext (Nat.mod_eq_of_lt b.isLt)
  unfold combB spec
  rw [p9_apply]
  refine Finset.sum_congr rfl fun m _ => ?_
  rw [hwo]
  refine congrArg (· * _) ?_
  rw [← heads_eq (fun h d => att X Wq (KV 0) (KV 1) b (gr r) h d) m]
  have e := fun h => funext (comb_head X Wq KV hs st hst x wq hx hwq b.val h r)
  rw [hb] at e
  rw [e 0, e 1, e 2, e 3]
  rfl

end Cert.WinMath

end
-- ==== Proof.Math.Ref.lean ====
/-
What the reference computes at an index.
-/
module

public import proofs.«01_k».proof.Proof.Gen.ReferenceIdeal.Run
public import proofs.«01_k».proof.Proof.Math.Spec
public import proofs.«01_k».proof.Proof.Math.Words
public import Idealize.ShloMosaic.Lib.Pointwise
public import Idealize.ShloMosaic.Lib.ReduceAll

@[expose] public section

set_option maxRecDepth 8192

noncomputable section

namespace Cert.RefMath

open Cert.ReferenceIdeal Cert.ReferenceIdeal.Gen Idealize.ShloMosaic Idealize.ShloMosaic.TcCoe

/-- Which keys each row looks at. -/
def rMask : IVec S4096x4096 1 :=
  ori (cmpi .sle (absi (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0))))) (broadcastInDim S4096x4096 ![] bcast_S_S4096x4096 (constantI S_ 32 128#32))) (ori (broadcastInDim S4096x4096 ![0, 1] bcast_S1x4096_S4096x4096_0_1 (cmpi .slt (broadcastInDim S1x4096 ![1] bcast_S4096_S1x4096_1 (iotaInDim S4096 32 0)) (broadcastInDim S1x4096 ![] bcast_S_S1x4096 (constantI S_ 32 32#32)))) (broadcastInDim S4096x4096 ![0, 1] bcast_S4096x1_S4096x4096_0_1 (cmpi .slt (broadcastInDim S4096x1 ![0] bcast_S4096_S4096x1_0 (iotaInDim S4096 32 0)) (broadcastInDim S4096x1 ![] bcast_S_S4096x1 (constantI S_ 32 32#32)))))
/-- Whether a row looks at any key. -/
def rKeep : IVec S4096 1 := Host.reduce IntOp.ori rMask (constantI S_ 1 0#1) reducesTo_S4096x4096_S4096_d1 h_S_

variable (X : FVec Ideal S2x4096x512 .f32) (Wq : FVec Ideal S512x256 .f32) (K V : FVec Ideal S2x4096x4x64 .f32) (Wo : FVec Ideal S256x512 .f32)

/-- The queries. -/
def rQ : FVec Ideal S2x4096x4x64 .f32 :=
  shapeCast _ (Host.dotGeneral dot_S2x4096x512_S512x256_S2x4096x256_2_0_01_1_n_n none X Wq) shapeCasts_S2x4096x256_S2x4096x4x64
/-- The scores. -/
def rS : FVec Ideal S2x4x4096x4096 .f32 :=
  mulf (Host.dotGeneral dot_S2x4096x4x64_S2x4096x4x64_S2x4x4096x4096_3_3_1_1_02_02 none (rQ X Wq) K) (broadcastInDim S2x4x4096x4096 ![] bcast_S_S2x4x4096x4096 (constant S_ .f32 0x3E000000#32))
/-- The scores, masked. -/
def rT (S : FVec Ideal S2x4x4096x4096 .f32) : FVec Ideal S2x4x4096x4096 .f32 :=
  select (broadcastInDim S2x4x4096x4096 ![0, 1, 2, 3] bcast_S1x1x4096x4096_S2x4x4096x4096_0_1_2_3 (broadcastInDim S1x1x4096x4096 ![2, 3] bcast_S4096x4096_S1x1x4096x4096_2_3 rMask)) S (broadcastInDim S2x4x4096x4096 ![] bcast_S_S2x4x4096x4096 (id (constant S_ .f32 0xFF800000#32)))
/-- The exponentials. -/
def rE (T : FVec Ideal S2x4x4096x4096 .f32) : FVec Ideal S2x4x4096x4096 .f32 :=
  Host.exp (subf T (broadcastInDim S2x4x4096x4096 ![0, 1, 2, 3] bcast_S2x4x4096x1_S2x4x4096x4096_0_1_2_3 (broadcastInDim S2x4x4096x1 ![0, 1, 2] bcast_S2x4x4096_S2x4x4096x1_0_1_2 (Host.reduce FloatOps.maximumf T (constant S_ .f32 0xFF800000#32) reducesTo_S2x4x4096x4096_S2x4x4096_d3 h_S_))))
/-- The sums of the exponentials. -/
def rL (E : FVec Ideal S2x4x4096x4096 .f32) : FVec Ideal S2x4x4096 .f32 :=
  Host.reduceAdd E (constant S_ .f32 0x00000000#32) reducesTo_S2x4x4096x4096_S2x4x4096_d3 h_S_
/-- The divisors. -/
def rD (L : FVec Ideal S2x4x4096 .f32) : FVec Ideal S2x4x4096x1 .f32 :=
  select (broadcastInDim S2x4x4096x1 ![0, 1, 2, 3] bcast_S1x1x4096x1_S2x4x4096x1_0_1_2_3 (broadcastInDim S1x1x4096x1 ![2] bcast_S4096_S1x1x4096x1_2 rKeep))
    (broadcastInDim S2x4x4096x1 ![0, 1, 2] bcast_S2x4x4096_S2x4x4096x1_0_1_2 L)
    (broadcastInDim S2x4x4096x1 ![] bcast_S_S2x4x4096x1 (id (constant S_ .f32 0x3F800000#32)))
/-- The weights. -/
def rW (E : FVec Ideal S2x4x4096x4096 .f32) (D : FVec Ideal S2x4x4096x1 .f32) : FVec Ideal S2x4x4096x4096 .f32 :=
  select (broadcastInDim S2x4x4096x4096 ![0, 1, 2, 3] bcast_S1x1x4096x1_S2x4x4096x4096_0_1_2_3 (broadcastInDim S1x1x4096x1 ![2] bcast_S4096_S1x1x4096x1_2 rKeep))
    (Host.divf E (broadcastInDim S2x4x4096x4096 ![0, 1, 2, 3] bcast_S2x4x4096x1_S2x4x4096x4096_0_1_2_3 D))
    (broadcastInDim S2x4x4096x4096 ![] bcast_S_S2x4x4096x4096 (id (constant S_ .f32 0x00000000#32)))
/-- The result. -/
def rOut (W : FVec Ideal S2x4x4096x4096 .f32) : FVec Ideal S2x4096x512 .f32 :=
  Host.dotGeneral dot_S2x4096x256_S256x512_S2x4096x512_2_0_01_1_n_n none (shapeCast _ (transpose S2x4096x4x64 [0, 3, 1, 2] (Host.dotGeneral dot_S2x4096x4x64_S2x4x4096x4096_S2x4x64x4096_1_3_3_2_02_01 none V W) transposes_S2x4x64x4096_S2x4096x4x64_0_3_1_2) shapeCasts_S2x4096x4x64_S2x4096x256) Wo

/-- All of the reference. -/
def rAll : FVec Ideal S2x4096x512 .f32 :=
  rOut V Wo (rW (rE (rT (rS X Wq K))) (rD (rL (rE (rT (rS X Wq K))))))

theorem res_eq (m : (ℓ : Loc nD τ sig) → Buf (Elt Ideal) ℓ) (c : Dev nD) :
    Cert.ReferenceIdeal.Value.res_main_v42 m c
      = rAll (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := rfl

theorem rQ_apply (b : Fin 2) (i : Fin 4096) (h : Fin 4) (d : Fin 64) :
    rQ X Wq (ix4 b i h d) = ∑ k : Fin 512, X (ix3 b i k) * Wq (ix2 k ⟨h * 64 + d, by omega⟩) := by
  pointwise [rQ]
theorem rS_apply (b : Fin 2) (i j : Fin 4096) (h : Fin 4) :
    rS X Wq K (ix4 b h i j) = (∑ d, rQ X Wq (ix4 b i h d) * K (ix4 b j h d)) * Ideal.ofBits .f32 0x3E000000#32 := by
  pointwise [rS]
theorem rMask_apply (i j : Fin 4096) : rMask (ix2 i j) =
    IntOp.ori (IntOp.cmpi .sle (IntOp.absi (IntOp.subi (BitVec.ofNat 32 i) (BitVec.ofNat 32 j))) 128#32)
      (IntOp.ori (IntOp.cmpi .slt (BitVec.ofNat 32 j) 32#32) (IntOp.cmpi .slt (BitVec.ofNat 32 i) 32#32)) := by
  pointwise [rMask]
theorem rT_apply (S) (b : Fin 2) (i j : Fin 4096) (h : Fin 4) :
    rT S (ix4 b h i j) = Scalar.select (rMask (ix2 i j)) (S (ix4 b h i j)) (Ideal.ofBits .f32 0xFF800000#32) := by
  pointwise [rT]
  rfl
theorem rE_apply (T) (b : Fin 2) (i j : Fin 4096) (h : Fin 4) :
    rE T (ix4 b h i j) = Ideal.exp (T (ix4 b h i j) - Finset.univ.fold max (Ideal.ofBits .f32 0xFF800000#32) fun x => T (ix4 b h i x)) := by
  pointwise [rE]
theorem rL_apply (E) (b : Fin 2) (i : Fin 4096) (h : Fin 4) : rL E (ix3 b h i) = ∑ x, E (ix4 b h i x) := by
  pointwise [rL]
theorem rKeep_apply (i : Fin 4096) : rKeep (ix1 i) = Finset.univ.fold IntOp.ori (0#1) (fun x => rMask (ix2 i x)) := by
  pointwise [rKeep]
theorem rD_apply (L) (b : Fin 2) (i : Fin 4096) (h : Fin 4) (k : rKeep (ix1 i) = 1#1) :
    rD L (ix4 b h i (0 : Fin 1)) = L (ix3 b h i) := by
  pointwise [rD]
  rw [k]
  rfl
theorem rW_apply (E D) (b : Fin 2) (i j : Fin 4096) (h : Fin 4) (k : rKeep (ix1 i) = 1#1) :
    rW E D (ix4 b h i j) = Ideal.div (E (ix4 b h i j)) (D (ix4 b h i (0 : Fin 1))) := by
  pointwise [rW]
  rw [k]
  rfl
theorem rOut_apply (W) (b : Fin 2) (i : Fin 4096) (n : Fin 512) :
    rOut V Wo W (ix3 b i n) = ∑ x : Fin 256, (∑ j : Fin 4096, V (ix4 b j ⟨x / 64, by omega⟩ ⟨x % 64, by omega⟩) * W (ix4 b ⟨x / 64, by omega⟩ i j)) * Wo (ix2 x n) := by
  pointwise [rOut]

open Cert.Words Cert.Spec Cert.Soft

/-- The mask's bit says whether the row looks at the key. -/
theorem rMask_eq (i j : Fin 4096) : rMask (ix2 i j) = BitVec.ofBool (decide (near i j)) := by
  rw [rMask_apply, W_nat i, W_nat j, show (128#32) = W 128 from rfl, show (32#32) = W 32 from rfl, subi_W,
    absi_W (by omega) (by omega), sle_W (by have := abs_nonneg ((i : ℤ) - j); omega) (by have := abs_lt.mpr (show -4096 < (i : ℤ) - j ∧ (i : ℤ) - j < 4096 by omega); omega) (by decide) (by decide),
    slt_W (by omega) (by omega) (by decide) (by decide), slt_W (by omega) (by omega) (by decide) (by decide),
    WordCmp.ori_ofBool, WordCmp.ori_ofBool]
  refine congrArg BitVec.ofBool ?_
  rw [← Bool.decide_or, ← Bool.decide_or]
  refine decide_eq_decide.mpr ?_
  unfold near
  rw [abs_le_128]
  omega

theorem keep_eq (i : Fin 4096) : rKeep (ix1 i) = 1#1 := by
  rw [rKeep_apply]
  have e : ∀ x : BitVec 1, IntOp.ori (1#1) x = 1#1 := by decide
  rw [← Finset.insert_erase (Finset.mem_univ i), Finset.fold_insert (Finset.notMem_erase _ _), rMask_eq, decide_eq_true (near_self i)]
  exact e _

theorem neg_inf : Ideal.ofBits .f32 0xFF800000#32 = ⊥ := by
  simp [Ideal.ofBits, Ideal.ieee]

/-- The reference at an index. -/
theorem rAll_apply (b : Fin 2) (i : Fin 4096) (n : Fin 512) :
    rAll X Wq K V Wo (ix3 b i n) = spec (fun b i k => X (ix3 b i k)) (fun k n => Wq (ix2 k n)) (fun b j h d => K (ix4 b j h d))
      (fun b j h d => V (ix4 b j h d)) (fun m n => Wo (ix2 m n)) b i n := by
  have hS : ∀ (b : Fin 2) (h : Fin 4) (i j : Fin 4096), rS X Wq K (ix4 b h i j)
      = scr (fun b i k => X (ix3 b i k)) (fun k n => Wq (ix2 k n)) (fun b j h d => K (ix4 b j h d)) b h i j := by
    intro b h i j
    rw [rS_apply]
    refine congrArg (· * _) (Finset.sum_congr rfl fun d _ => ?_)
    rw [rQ_apply]
    rfl
  have hT : ∀ (b : Fin 2) (h : Fin 4) (i j : Fin 4096), rT (rS X Wq K) (ix4 b h i j)
      = row (fun b i k => X (ix3 b i k)) (fun k n => Wq (ix2 k n)) (fun b j h d => K (ix4 b j h d)) b h i j := by
    intro b h i j
    rw [rT_apply, rMask_eq, select_ofBool, hS, neg_inf]
    rfl
  rw [rAll, rOut_apply]
  unfold spec
  refine Finset.sum_congr rfl fun m _ => congrArg (· * _) ?_
  unfold att soft
  refine Finset.sum_congr rfl fun j _ => ?_
  rw [mul_comm, rW_apply _ _ _ _ _ _ (keep_eq i), rD_apply _ _ _ _ (keep_eq i), rL_apply]
  refine congrArg (· * _) ?_
  simp only [rE_apply, hT, neg_inf]
  rfl

end Cert.RefMath

end
-- ==== Proof.Math.Agree.lean ====
/-
What the kernel leaves in each device's output block is that block of the reference's result.
-/
module

public import proofs.«01_k».proof.Proof.Math.Comb
public import proofs.«01_k».proof.Proof.Math.Ref
public import proofs.«01_k».proof.Proof.KernelIdeal.Run
public import Idealize.ShloMosaic.Lib.Layout

@[expose] public section

set_option maxRecDepth 8192

noncomputable section

namespace Cert.WinMath

open Cert.KernelIdeal Cert.KernelIdeal.Gen Cert.KernelIdealProof Idealize.ShloMosaic Idealize.ShloMosaic.TcCoe
open Cert.Soft Cert.Spec Cert.Words

theorem block3 (c : Dev nD) (f : Cert.ReferenceIdeal.S2x4096x512.Idx → EReal) (b : Fin 2) (r : Fin 128) (k : Fin 512) :
    Layout.block ⟨3, ![2, 128, 512]⟩ ⟨3, ![2, 4096, 512]⟩ 1 32 c f (h := by decide) (ix3 b r k) = f (ix3 b (gi c r) k) := by
  refine congrArg f (funext fun d => Fin.ext ?_)
  match d with
  | 0 => rfl
  | 1 => rfl
  | 2 => rfl

theorem block4 (c : Dev nD) (f : Cert.ReferenceIdeal.S2x4096x4x64.Idx → EReal) (b : Fin 2) (r : Fin 128) (h : Fin 4) (d : Fin 64) :
    Layout.block ⟨4, ![2, 128, 4, 64]⟩ ⟨4, ![2, 4096, 4, 64]⟩ 1 32 c f (h := by decide) (ix4 b r h d) = f (ix4 b (gi c r) h d) := by
  refine congrArg f (funext fun a => Fin.ext ?_)
  match a with
  | 0 => rfl
  | 1 => rfl
  | 2 => rfl
  | 3 => rfl

/-- Every token lies on a device. -/
theorem exists_gi (j : Fin 4096) : ∃ (c : Dev nD) (r : Fin 128), j = gi c r := by
  have hj := j.isLt
  refine ⟨⟨j.val / 128, by show j.val / 128 < 32; omega⟩, ⟨j.val % 128, by omega⟩, Fin.ext ?_⟩
  show j.val = j.val / 128 * 128 + j.val % 128
  omega

theorem p20_apply (k) (b : Fin 2) (h : Fin 4) (r : Fin 128) (d : Fin 64) : k0_pay20 (F := Ideal) k (ix5 (0 : Fin 1) b h r d) = k (ix4 b r h d) := by
  pointwise [k0_pay20]
theorem p21_apply (k) (b : Fin 2) (h : Fin 4) (r : Fin 128) (d : Fin 64) : k0_pay21 (F := Ideal) k (ix5 (0 : Fin 1) b h r d) = k (ix4 b r h d) := by
  pointwise [k0_pay21]
theorem p3_apply (k) (b : Fin 2) (h : Fin 4) (r : Fin 32) (d : Fin 64) : k0_pay3 (F := Ideal) k (ix5 (0 : Fin 1) b h r d) = k (ix5 (0 : Fin 1) b h r d) := by
  pointwise [k0_pay3]

variable (m : (ℓ : Loc nD τ sig) → Buf (Elt Ideal) ℓ)
  (x : FVec Ideal Cert.ReferenceIdeal.S2x4096x512 .f32) (wq : FVec Ideal Cert.ReferenceIdeal.S512x256 .f32)
  (k v : FVec Ideal Cert.ReferenceIdeal.S2x4096x4x64 .f32) (wo : FVec Ideal Cert.ReferenceIdeal.S256x512 .f32)

/-- The devices hold their blocks of the arguments. -/
structure Blocks : Prop where
  x : ∀ c : Dev nD, xA m c = Layout.block ⟨3, ![2, 128, 512]⟩ ⟨3, ![2, 4096, 512]⟩ 1 32 c x
  wq : ∀ c : Dev nD, wqA m c = wq
  k : ∀ c : Dev nD, kA m c = Layout.block ⟨4, ![2, 128, 4, 64]⟩ ⟨4, ![2, 4096, 4, 64]⟩ 1 32 c k
  v : ∀ c : Dev nD, vA m c = Layout.block ⟨4, ![2, 128, 4, 64]⟩ ⟨4, ![2, 4096, 4, 64]⟩ 1 32 c v
  wo : ∀ c : Dev nD, woA m c = wo

/-- The keys and the values. -/
abbrev kv (s : Fin 2) (b : Fin 2) (j : Fin 4096) (h : Fin 4) (d : Fin 64) : EReal := if s = 0 then k (ix4 b j h d) else v (ix4 b j h d)

variable {m x wq k v wo} (B : Blocks m x wq k v wo)
include B

theorem real_x (h : ∀ c : Dev nD, ∀ i, ∃ r : ℝ, xA m c i = (r : EReal)) (i) : ∃ r : ℝ, x i = (r : EReal) := by
  obtain ⟨b, j, n, rfl⟩ : ∃ (b : Fin 2) (j : Fin 4096) (n : Fin 512), i = ix3 b j n :=
    ⟨i 0, i 1, i 2, funext fun d => by match d with | 0 => rfl | 1 => rfl | 2 => rfl⟩
  obtain ⟨c, r, rfl⟩ := exists_gi j
  obtain ⟨y, e⟩ := h c (ix3 b r n)
  rw [B.x, block3] at e
  exact ⟨y, e⟩

theorem real_wq (h : ∀ c : Dev nD, ∀ i, ∃ r : ℝ, wqA m c i = (r : EReal)) (i) : ∃ r : ℝ, wq i = (r : EReal) := by
  obtain ⟨y, e⟩ := h 0 i
  rw [B.wq] at e
  exact ⟨y, e⟩

theorem real_k (h : ∀ c : Dev nD, ∀ i, ∃ r : ℝ, kA m c i = (r : EReal)) (i) : ∃ r : ℝ, k i = (r : EReal) := by
  obtain ⟨b, j, a, n, rfl⟩ : ∃ (b : Fin 2) (j : Fin 4096) (a : Fin 4) (n : Fin 64), i = ix4 b j a n :=
    ⟨i 0, i 1, i 2, i 3, funext fun d => by match d with | 0 => rfl | 1 => rfl | 2 => rfl | 3 => rfl⟩
  obtain ⟨c, r, rfl⟩ := exists_gi j
  obtain ⟨y, e⟩ := h c (ix4 b r a n)
  rw [B.k, block4] at e
  exact ⟨y, e⟩

theorem st_eq (a : Dev nD) (s b : Fin 2) (h : Fin 4) (i : Fin 128) (d : Fin 64) :
    stG (kA m a) (vA m a) (ix5 s b h i d) = kv k v s b (gi a i) h d := by
  match s with
  | 0 =>
    refine Eq.trans (if_neg (show ¬ ((0 : Fin 2).val = 1) from by decide)) ?_
    refine Eq.trans (p20_apply (kA m a) b h i d) ?_
    rw [B.k, block4]
    rfl
  | 1 =>
    refine Eq.trans (if_pos (show (1 : Fin 2).val = 1 from rfl)) ?_
    refine Eq.trans (p21_apply (vA m a) b h i d) ?_
    rw [B.v, block4]
    rfl

theorem holds (c : Dev nD) (g0 g1 : S2x2x4x128x64.Idx → Elt Ideal .f32) :
    Holds (kv k v) c (nbG (selL (KM m) c g0) (selR (KM m) c g1)) (stG (kA m c) (vA m c)) (KM m).bkv where
  left := by
    intro s b h d i j hj
    have hc : c.val < 32 := c.isLt
    have h0 : c ≠ 0 := by
      rintro rfl
      have : ((0 : Dev nD).val : ℤ) = 0 := rfl
      omega
    have hv : c.val ≠ 0 := fun e => h0 (Fin.ext e)
    refine Eq.trans (if_neg (show ¬ ((0 : Fin 2).val = 1) from by decide)) ?_
    show selL (KM m) c g0 (ix5 s b h i d) = _
    rw [show selL (KM m) c g0 = (KM m).st (lft c) from if_neg h0]
    refine Eq.trans (st_eq B (lft c) s b h i d) ?_
    refine congrArg (fun z => kv k v s b z h d) (Fin.ext ?_)
    show (c.val + 31) % 32 * 128 + i.val = j.val
    omega
  own := by
    intro s b h d i j hj
    refine Eq.trans (st_eq B c s b h i d) ?_
    refine congrArg (fun z => kv k v s b z h d) (Fin.ext ?_)
    show c.val * 128 + i.val = j.val
    omega
  right := by
    intro s b h d i j hj
    have hc : c.val < 32 := c.isLt
    have h0 : c ≠ 31 := by
      rintro rfl
      have : ((31 : Dev nD).val : ℤ) = 31 := rfl
      have := j.isLt
      omega
    have hv : c.val ≠ 31 := fun e => h0 (Fin.ext e)
    refine Eq.trans (if_pos (show (1 : Fin 2).val = 1 from rfl)) ?_
    show selR (KM m) c g1 (ix5 s b h i d) = _
    rw [show selR (KM m) c g1 = (KM m).st (rgt c) from if_neg h0]
    refine Eq.trans (st_eq B (rgt c) s b h i d) ?_
    refine congrArg (fun z => kv k v s b z h d) (Fin.ext ?_)
    show (c.val + 1) % 32 * 128 + i.val = j.val
    omega
  glob := by
    intro s b h d i j hj
    have hs : Fin.ofNat 2 s.val = s := Fin.ext (Nat.mod_eq_of_lt s.isLt)
    refine Eq.trans (p3_apply (ldS32 (stG (kA m 0) (vA m 0)) s.val) b h i d) ?_
    show stG (kA m 0) (vA m 0) (ix5 (Fin.ofNat 2 s.val) b h (Fin.castLE _ i) d) = _
    rw [hs]
    refine Eq.trans (st_eq B 0 s b h _ d) ?_
    refine congrArg (fun z => kv k v s b z h d) (Fin.ext ?_)
    show 0 * 128 + i.val = j.val
    omega

theorem out_eq (hx : ∀ i, ∃ r : ℝ, x i = (r : EReal)) (hwq : ∀ i, ∃ r : ℝ, wq i = (r : EReal)) (hk : ∀ i, ∃ r : ℝ, k i = (r : EReal))
    (c : Dev nD) (Z : Vec Ideal S2x128x512 .f32) (hZ : OutRel m c Z) :
    Z = Layout.block ⟨3, ![2, 128, 512]⟩ ⟨3, ![2, 4096, 512]⟩ 1 32 c (Cert.RefMath.rAll x wq k v wo) := by
  obtain ⟨g0, g1, rfl⟩ := hZ
  have hs : ∀ b h i j, ∃ y : ℝ, scr (fun b i k => x (ix3 b i k)) (fun k n => wq (ix2 k n)) (kv k v 0) b h i j = y :=
    scr_real _ _ _ (fun _ _ _ => hx _) (fun _ _ => hwq _) (fun _ _ _ _ => hk _)
  have hX : ∀ (c : Dev nD) b r n, xA m c (ix3 b r n) = x (ix3 b (gi c r) n) := fun c b r n => by rw [B.x, block3]
  have hwin : ∀ (b : Fin 2) (r : Fin 128) (n : Fin 512), 32 ≤ c.val * 128 + r.val →
      winA m c g0 g1 (ix3 b r n) = Cert.RefMath.rAll x wq k v wo (ix3 b (gi c r) n) := by
    intro b r n hr
    rw [Cert.RefMath.rAll_apply]
    exact outW_eq (fun b i k => x (ix3 b i k)) (fun k n => wq (ix2 k n)) (kv k v) (fun a n => wo (ix2 a n)) hs c _ _ _ (holds B c g0 g1)
      _ _ _ (hX c) (fun _ _ => by rw [B.wq]) (fun _ _ => by rw [B.wo]) b r hr n
  funext y
  obtain ⟨b, r, n, rfl⟩ : ∃ (b : Fin 2) (r : Fin 128) (n : Fin 512), y = ix3 b r n :=
    ⟨y 0, y 1, y 2, funext fun d => by match d with | 0 => rfl | 1 => rfl | 2 => rfl⟩
  rw [block3]
  by_cases hc : c = 0
  · subst hc
    rw [if_pos rfl]
    by_cases hr : r.val < 32
    · refine Eq.trans (dif_pos hr) ?_
      rw [Cert.RefMath.rAll_apply]
      exact comb_eq (fun b i k => x (ix3 b i k)) (fun k n => wq (ix2 k n)) (kv k v) (fun a n => wo (ix2 a n)) hs (fun a => stG (kA m a) (vA m a)) (st_eq B)
        _ _ _ (hX 0) (fun _ _ => by rw [B.wq]) (fun _ _ => by rw [B.wo]) b ⟨r.val, hr⟩ n
    · refine Eq.trans (dif_neg hr) ?_
      exact hwin b r n (by omega)
  · rw [if_neg hc]
    have hv : c.val ≠ 0 := fun e => hc (Fin.ext e)
    exact hwin b r n (by omega)

end Cert.WinMath

end
-- ==== Proof.lean ====
/-
The claims, put together: the three programs' frames, the naming of the mask's constant, and the equation of the
kernel's output with the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelIdeal.Run
public import proofs.«01_k».proof.Proof.Frame
public import proofs.«01_k».proof.Proof.Math.Pre
public import proofs.«01_k».proof.Proof.Math.Agree
public import Idealize.ShloMosaic.Adequacy
public import Idealize.ShloMosaic.Init

@[expose] public section

noncomputable section

namespace Cert.Proof

open Idealize.ShloMosaic Idealize.SL.Sem Cert.Kernel

/-- The idealized kernel runs, and its arguments and its semaphores end as they were. -/
theorem frame_KernelIdeal : Cert.quiescent_KernelIdeal := by
  intro m g _
  refine (θ_run _ _ _).mono ?_ (Cert.KernelIdealProof.run_main (F := Ideal) m g)
  exact fun r h => ⟨fun c => ⟨(h.1 c).1, (h.1 c).2.1, (h.1 c).2.2.1, (h.1 c).2.2.2.1, (h.1 c).2.2.2.2.1⟩, h.2⟩

/-- The reference runs, and its arguments end as they were; it has no semaphores. -/
theorem frame_ReferenceIdeal : Cert.quiescent_ReferenceIdeal := by
  intro m g _
  refine (θ_run _ _ _).mono ?_ (Cert.ReferenceIdeal.Value.run (F := Ideal) m g)
  exact fun r h => ⟨fun c => (h c).2, Idealize.ShloMosaic.sem_eq_zero_of_no_sems (by decide) r.2⟩

/-- The mask's constant is −∞ in the idealized kernel. -/
theorem preserves : Cert.preserves_Kernel_KernelIdeal :=
  IdealRules.named_const.statement Cert.KernelIdeal.κ "mask" .f32 0xCE6E6B28#32 ⊥ rfl

instance : Cert.Pre_finite_KernelIdeal.Facts := Cert.PreMath.factsK
instance : Cert.Pre_finite_ReferenceIdeal.Facts := Cert.PreMath.factsR

/-- On finite tokens, query weights and keys every device's output block is its block of the reference's result. -/
theorem algebraic : Cert.algebraic_KernelIdeal_ReferenceIdeal_pre_finite_KernelIdeal := by
  intro m g m' g' hpre hm
  have B : Cert.WinMath.Blocks m _ _ _ _ _ :=
    ⟨fun c => (hm c).1, fun c => (hm c).2.1, fun c => (hm c).2.2.1, fun c => (hm c).2.2.2.1, fun c => (hm c).2.2.2.2⟩
  have hreal := fun c => Cert.PreMath.real_args _ _ _ _ _ (hpre c)
  have hx := Cert.WinMath.real_x B fun c => (hreal c).1
  have hwq := Cert.WinMath.real_wq B fun c => (hreal c).2.1
  have hk := Cert.WinMath.real_k B fun c => (hreal c).2.2
  refine ⟨Cert.ReferenceIdeal.Value.res_main_v42 m' 0, ?_, ?_⟩
  · refine (θ_run _ _ _).mono ?_ (Cert.KernelIdealProof.run_main (F := Ideal) m g)
    intro r h c
    obtain ⟨h0, h1, h2, h3, h4, ho⟩ := h.1 c
    refine ⟨?_, h0, h1, h2, h3, h4⟩
    rw [Cert.RefMath.res_eq]
    exact Cert.WinMath.out_eq B hx hwq hk c _ ho
  · refine (θ_run _ _ _).mono ?_ (Cert.ReferenceIdeal.Value.run (F := Ideal) m' g')
    exact fun r h => h 0

theorem claim : Cert.Claim := ⟨Cert.Kernel.Gen.facts, Cert.KernelIdeal.Gen.facts, Cert.ReferenceIdeal.Gen.facts,
  Cert.PreMath.factsK, Cert.PreMath.factsR, Cert.KernelFrame.quiescent_Kernel, frame_KernelIdeal,
  fun m g _ => frame_KernelIdeal m g trivial, frame_ReferenceIdeal, fun m g _ => frame_ReferenceIdeal m g trivial, preserves, algebraic⟩

end Cert.Proof

end
